-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6)
      ∧ r.2.mem ((c.tc : Thread Cert.Ple.nD Cert.Ple.τ).loc Cert.Ple.main_arg7) = m ((c.tc : Thread Cert.Ple.nD Cert.Ple.τ).loc Cert.Ple.main_arg7)
      ∧ r.2.mem ((c.tc : Thread Cert.Ple.nD Cert.Ple.τ).loc Cert.Ple.main_arg8) = m ((c.tc : Thread Cert.Ple.nD Cert.Ple.τ).loc Cert.Ple.main_arg8))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7)
      ∧ r.2.mem ((c.tc : Thread Cert.PleIdeal.nD Cert.PleIdeal.τ).loc Cert.PleIdeal.main_arg8) = m ((c.tc : Thread Cert.PleIdeal.nD Cert.PleIdeal.τ).loc Cert.PleIdeal.main_arg8))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6)
      ∧ r.2.mem ((c.tc : Thread Cert.PleRefIdeal.nD Cert.PleRefIdeal.τ).loc Cert.PleRefIdeal.main_arg7) = m ((c.tc : Thread Cert.PleRefIdeal.nD Cert.PleRefIdeal.τ).loc Cert.PleRefIdeal.main_arg7)
      ∧ r.2.mem ((c.tc : Thread Cert.PleRefIdeal.nD Cert.PleRefIdeal.τ).loc Cert.PleRefIdeal.main_arg8) = m ((c.tc : Thread Cert.PleRefIdeal.nD Cert.PleRefIdeal.τ).loc Cert.PleRefIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v44) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v24)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v24) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v61) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)
      ∧ m' ((c.tc : Thread Cert.PleRefIdeal.nD Cert.PleRefIdeal.τ).loc Cert.PleRefIdeal.main_arg7) = m ((c.tc : Thread Cert.PleIdeal.nD Cert.PleIdeal.τ).loc Cert.PleIdeal.main_arg7)
      ∧ m' ((c.tc : Thread Cert.PleRefIdeal.nD Cert.PleRefIdeal.τ).loc Cert.PleRefIdeal.main_arg8) = m ((c.tc : Thread Cert.PleIdeal.nD Cert.PleIdeal.τ).loc Cert.PleIdeal.main_arg8)) →
    ∃ (v0 : (c : Dev Cert.PleIdeal.nD) → Buf (Elt Ideal) ((c.tc : Thread Cert.PleIdeal.nD Cert.PleIdeal.τ).loc Cert.PleIdeal.main_v9)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v9) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
          ∧ r.2.mem ((c.tc : Thread Cert.PleIdeal.nD Cert.PleIdeal.τ).loc Cert.PleIdeal.main_arg7) = m ((c.tc : Thread Cert.PleIdeal.nD Cert.PleIdeal.τ).loc Cert.PleIdeal.main_arg7)
          ∧ r.2.mem ((c.tc : Thread Cert.PleIdeal.nD Cert.PleIdeal.τ).loc Cert.PleIdeal.main_arg8) = m ((c.tc : Thread Cert.PleIdeal.nD Cert.PleIdeal.τ).loc Cert.PleIdeal.main_arg8))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v90) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6)
          ∧ r.2.mem ((c.tc : Thread Cert.PleRefIdeal.nD Cert.PleRefIdeal.τ).loc Cert.PleRefIdeal.main_arg7) = m' ((c.tc : Thread Cert.PleRefIdeal.nD Cert.PleRefIdeal.τ).loc Cert.PleRefIdeal.main_arg7)
          ∧ r.2.mem ((c.tc : Thread Cert.PleRefIdeal.nD Cert.PleRefIdeal.τ).loc Cert.PleRefIdeal.main_arg8) = m' ((c.tc : Thread Cert.PleRefIdeal.nD Cert.PleRefIdeal.τ).loc Cert.PleRefIdeal.main_arg8))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hPle : Cert.Ple.Facts) (hPleIdeal : Cert.PleIdeal.Facts) (hPleRefIdeal : Cert.PleRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ple (hPle := hPle)
    ∧ quiescent_PleIdeal (hPleIdeal := hPleIdeal)
    ∧ quiescent_PleRefIdeal (hPleRefIdeal := hPleRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Ple_PleIdeal
    ∧ algebraic_PleIdeal_PleRefIdeal (hPleIdeal := hPleIdeal) (hPleRefIdeal := hPleRefIdeal)
-- ==== Pre_finite.lean ====
abbrev S4x4096x1024 : Shape := ⟨3, ![4, 4096, 1024]⟩
abbrev S2x1024x8504 : Shape := ⟨3, ![2, 1024, 8504]⟩
abbrev S2x16x256 : Shape := ⟨3, ![2, 16, 256]⟩
abbrev S2x256 : Shape := ⟨2, ![2, 256]⟩
abbrev S2x128 : Shape := ⟨2, ![2, 128]⟩
abbrev S1x1024x16 : Shape := ⟨3, ![1, 1024, 16]⟩
abbrev S1024x16 : Shape := ⟨2, ![1024, 16]⟩
abbrev S1x16x256 : Shape := ⟨3, ![1, 16, 256]⟩
abbrev S16x256 : Shape := ⟨2, ![16, 256]⟩
abbrev S1x256 : Shape := ⟨2, ![1, 256]⟩
abbrev S256 : Shape := ⟨1, ![256]⟩
abbrev S_ : Shape := ⟨0, ![]⟩

class Facts : Prop where
  slices_S2x1024x8504_S1x1024x16_0_0_2848 : S2x1024x8504.Slices ![0, 0, 2848] S1x1024x16
  shapeCasts_S1x1024x16_S1024x16 : S1x1024x16.ShapeCasts S1024x16
  slices_S2x16x256_S1x16x256_0_0_0 : S2x16x256.Slices ![0, 0, 0] S1x16x256
  shapeCasts_S1x16x256_S16x256 : S1x16x256.ShapeCasts S16x256
  slices_S2x256_S1x256_0_0 : S2x256.Slices ![0, 0] S1x256
  shapeCasts_S1x256_S256 : S1x256.ShapeCasts S256
  bcast_S_S4x4096x1024 : S_.BroadcastsInDim S4x4096x1024 (![] : Fin 0 → Fin S4x4096x1024.rank)
  bcast_S_S1024x16 : S_.BroadcastsInDim S1024x16 (![] : Fin 0 → Fin S1024x16.rank)
  bcast_S_S16x256 : S_.BroadcastsInDim S16x256 (![] : Fin 0 → Fin S16x256.rank)
  bcast_S_S256 : S_.BroadcastsInDim S256 (![] : Fin 0 → Fin S256.rank)

variable [Facts]

def fn {F : FTy → Type} [FloatOps F] (main_arg0 : FVec F S4x4096x1024 .f32) (main_arg1 : FVec F S2x1024x8504 .f32) (main_arg2 : FVec F S2x16x256 .f32) (main_arg3 : FVec F S2x256 .f32) (main_arg4 : FVec F S2x128 .f32) : IVec S4x4096x1024 1 × IVec S1024x16 1 × IVec S16x256 1 × IVec S256 1 :=
  let main_v0 : FVec F S1x1024x16 .f32 := (extractStridedSlice S1x1024x16 ![0, 0, 2848] · slices_S2x1024x8504_S1x1024x16_0_0_2848) main_arg1
  let main_v1 : FVec F S1024x16 .f32 := shapeCast S1024x16 main_v0 shapeCasts_S1x1024x16_S1024x16
  let main_v2 : FVec F S1x16x256 .f32 := (extractStridedSlice S1x16x256 ![0, 0, 0] · slices_S2x16x256_S1x16x256_0_0_0) main_arg2
  let main_v3 : FVec F S16x256 .f32 := shapeCast S16x256 main_v2 shapeCasts_S1x16x256_S16x256
  let main_v4 : FVec F S1x256 .f32 := (extractStridedSlice S1x256 ![0, 0] · slices_S2x256_S1x256_0_0) main_arg3
  let main_v5 : FVec F S256 .f32 := shapeCast S256 main_v4 shapeCasts_S1x256_S256
  let main_v6 : FVec F S4x4096x1024 .f32 := subf main_arg0 main_arg0
  let main_cst : FVec F S_ .f32 := constant S_ .f32 0x00000000#32
  let main_v7 : FVec F S4x4096x1024 .f32 := broadcastInDim S4x4096x1024 ![] bcast_S_S4x4096x1024 main_cst
  let main_v8 : IVec S4x4096x1024 1 := cmpf .oeq main_v6 main_v7
  let main_v9 : FVec F S1024x16 .f32 := subf main_v1 main_v1
  let main_cst_0 : FVec F S_ .f32 := constant S_ .f32 0x00000000#32
  let main_v10 : FVec F S1024x16 .f32 := broadcastInDim S1024x16 ![] bcast_S_S1024x16 main_cst_0
  let main_v11 : IVec S1024x16 1 := cmpf .oeq main_v9 main_v10
  let main_v12 : FVec F S16x256 .f32 := subf main_v3 main_v3
  let main_cst_1 : FVec F S_ .f32 := constant S_ .f32 0x00000000#32
  let main_v13 : FVec F S16x256 .f32 := broadcastInDim S16x256 ![] bcast_S_S16x256 main_cst_1
  let main_v14 : IVec S16x256 1 := cmpf .oeq main_v12 main_v13
  let main_v15 : FVec F S256 .f32 := subf main_v5 main_v5
  let main_cst_2 : FVec F S_ .f32 := constant S_ .f32 0x00000000#32
  let main_v16 : FVec F S256 .f32 := broadcastInDim S256 ![] bcast_S_S256 main_cst_2
  let main_v17 : IVec S256 1 := cmpf .oeq main_v15 main_v16
  (main_v8, main_v11, main_v14, main_v17)
-- ==== Kernel.lean ====
abbrev S4x4096x1024 : Shape := ⟨3, ![4, 4096, 1024]⟩
abbrev S2x1024x8504 : Shape := ⟨3, ![2, 1024, 8504]⟩
abbrev S2x16x256 : Shape := ⟨3, ![2, 16, 256]⟩
abbrev S2x256 : Shape := ⟨2, ![2, 256]⟩
abbrev S2x128 : Shape := ⟨2, ![2, 128]⟩
abbrev S16384x1024 : Shape := ⟨2, ![16384, 1024]⟩
abbrev S2x1024x1824 : Shape := ⟨3, ![2, 1024, 1824]⟩
abbrev S2x1024x1552 : Shape := ⟨3, ![2, 1024, 1552]⟩
abbrev S2x1024x2056 : Shape := ⟨3, ![2, 1024, 2056]⟩
abbrev S2x1024x3072 : Shape := ⟨3, ![2, 1024, 3072]⟩
abbrev S2x1024x1024 : Shape := ⟨3, ![2, 1024, 1024]⟩
abbrev S2x1024x512 : Shape := ⟨3, ![2, 1024, 512]⟩
abbrev S2x1024x16 : Shape := ⟨3, ![2, 1024, 16]⟩
abbrev S2x1024x1536 : Shape := ⟨3, ![2, 1024, 1536]⟩
abbrev S2x1024x8 : Shape := ⟨3, ![2, 1024, 8]⟩
abbrev S_ : Shape := ⟨0, ![]⟩
abbrev S2x1024x1920 : Shape := ⟨3, ![2, 1024, 1920]⟩
abbrev S2x1024x1664 : Shape := ⟨3, ![2, 1024, 1664]⟩
abbrev S2x1024x2176 : Shape := ⟨3, ![2, 1024, 2176]⟩
abbrev S2x128x256 : Shape := ⟨3, ![2, 128, 256]⟩
abbrev S2x1x256 : Shape := ⟨3, ![2, 1, 256]⟩
abbrev S2x1x128 : Shape := ⟨3, ![2, 1, 128]⟩
abbrev S16384x512 : Shape := ⟨2, ![16384, 512]⟩
abbrev S1024x1024 : Shape := ⟨2, ![1024, 1024]⟩
abbrev S1x1024x1664 : Shape := ⟨3, ![1, 1024, 1664]⟩
abbrev S1x128x256 : Shape := ⟨3, ![1, 128, 256]⟩
abbrev S1x1x256 : Shape := ⟨3, ![1, 1, 256]⟩
abbrev S1x1x128 : Shape := ⟨3, ![1, 1, 128]⟩
abbrev S1024x512 : Shape := ⟨2, ![1024, 512]⟩
abbrev S1024x1536 : Shape := ⟨2, ![1024, 1536]⟩
abbrev S1024x256 : Shape := ⟨2, ![1024, 256]⟩
abbrev S2x128x128 : Shape := ⟨3, ![2, 128, 128]⟩
abbrev S1x128 : Shape := ⟨2, ![1, 128]⟩
abbrev S128x128 : Shape := ⟨2, ![128, 128]⟩
abbrev S256x1024 : Shape := ⟨2, ![256, 1024]⟩
abbrev S1x1024x256 : Shape := ⟨3, ![1, 1024, 256]⟩
abbrev S256x256 : Shape := ⟨2, ![256, 256]⟩
abbrev S1x1024x128 : Shape := ⟨3, ![1, 1024, 128]⟩
abbrev S1024x128 : Shape := ⟨2, ![1024, 128]⟩
abbrev S256x128 : Shape := ⟨2, ![256, 128]⟩
abbrev S128x256 : Shape := ⟨2, ![128, 256]⟩
abbrev S1x256 : Shape := ⟨2, ![1, 256]⟩
abbrev S64x64 : Shape := ⟨2, ![64, 64]⟩
abbrev S64x256 : Shape := ⟨2, ![64, 256]⟩
abbrev S64x128 : Shape := ⟨2, ![64, 128]⟩
abbrev S128x64 : Shape := ⟨2, ![128, 64]⟩
abbrev S32x128 : Shape := ⟨2, ![32, 128]⟩
abbrev S16x128 : Shape := ⟨2, ![16, 128]⟩
abbrev S8x128 : Shape := ⟨2, ![8, 128]⟩
abbrev S128x1 : Shape := ⟨2, ![128, 1]⟩
abbrev S1x128x128 : Shape := ⟨3, ![1, 128, 128]⟩
abbrev S64 : Shape := ⟨1, ![64]⟩
abbrev S64x1 : Shape := ⟨2, ![64, 1]⟩

abbrev nBuf : Space → Nat
  | .hbm => 37
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S2x1024x8504, .f32⟩
  | .hbm, ⟨2, _⟩ => ⟨S2x16x256, .f32⟩
  | .hbm, ⟨3, _⟩ => ⟨S2x256, .f32⟩
  | .hbm, ⟨4, _⟩ => ⟨S2x128, .f32⟩
  | .hbm, ⟨5, _⟩ => ⟨S16384x1024, .f32⟩
  | .hbm, ⟨6, _⟩ => ⟨S2x1024x1824, .f32⟩
  | .hbm, ⟨7, _⟩ => ⟨S2x1024x1552, .f32⟩
  | .hbm, ⟨8, _⟩ => ⟨S2x1024x2056, .f32⟩
  | .hbm, ⟨9, _⟩ => ⟨S2x1024x3072, .f32⟩
  | .hbm, ⟨10, _⟩ => ⟨S2x1024x1024, .f32⟩
  | .hbm, ⟨11, _⟩ => ⟨S2x1024x512, .f32⟩
  | .hbm, ⟨12, _⟩ => ⟨S2x1024x16, .f32⟩
  | .hbm, ⟨13, _⟩ => ⟨S2x1024x1552, .f32⟩
  | .hbm, ⟨14, _⟩ => ⟨S2x1024x1536, .f32⟩
  | .hbm, ⟨15, _⟩ => ⟨S2x1024x512, .f32⟩
  | .hbm, ⟨16, _⟩ => ⟨S2x1024x8, .f32⟩
  | .hbm, ⟨17, _⟩ => ⟨S2x1024x2056, .f32⟩
  | .hbm, ⟨18, _⟩ => ⟨S_, .i32⟩
  | .hbm, ⟨19, _⟩ => ⟨S_, .f32⟩
  | .hbm, ⟨20, _⟩ => ⟨S2x1024x1920, .f32⟩
  | .hbm, ⟨21, _⟩ => ⟨S2x1024x1920, .bf16⟩
  | .hbm, ⟨22, _⟩ => ⟨S_, .i32⟩
  | .hbm, ⟨23, _⟩ => ⟨S_, .f32⟩
  | .hbm, ⟨24, _⟩ => ⟨S2x1024x1664, .f32⟩
  | .hbm, ⟨25, _⟩ => ⟨S2x1024x1664, .bf16⟩
  | .hbm, ⟨26, _⟩ => ⟨S_, .i32⟩
  | .hbm, ⟨27, _⟩ => ⟨S_, .f32⟩
  | .hbm, ⟨28, _⟩ => ⟨S2x1024x2176, .f32⟩
  | .hbm, ⟨29, _⟩ => ⟨S2x1024x2176, .bf16⟩
  | .hbm, ⟨30, _⟩ => ⟨S2x1024x3072, .bf16⟩
  | .hbm, ⟨31, _⟩ => ⟨S_, .i32⟩
  | .hbm, ⟨32, _⟩ => ⟨S_, .f32⟩
  | .hbm, ⟨33, _⟩ => ⟨S2x128x256, .f32⟩
  | .hbm, ⟨34, _⟩ => ⟨S2x1x256, .f32⟩
  | .hbm, ⟨35, _⟩ => ⟨S2x1x128, .f32⟩
  | .hbm, ⟨36, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1664, .bf16⟩
  | .local _ .vmem, ⟨3, _⟩ => ⟨S1x128x256, .f32⟩
  | .local _ .vmem, ⟨4, _⟩ => ⟨S1x1x256, .f32⟩
  | .local _ .vmem, ⟨5, _⟩ => ⟨S1x1x128, .f32⟩
  | .local _ .vmem, ⟨6, _⟩ => ⟨S1024x512, .bf16⟩
  | .local _ .vmem, ⟨7, _⟩ => ⟨S1024x512, .bf16⟩
  | .local _ .vmem, ⟨8, _⟩ => ⟨S1024x1536, .f32⟩
  | .local _ .vmem, ⟨9, _⟩ => ⟨S1024x256, .f32⟩
  | .local _ .vmem, ⟨10, _⟩ => ⟨S1024x256, .f32⟩
  | .local _ .vmem, ⟨11, _⟩ => ⟨S2x128x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_call1_v0 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_call2_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_call3_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x4096x1024 : Shape := ⟨3, ![4, 4096, 1024]⟩
abbrev S2x1024x8504 : Shape := ⟨3, ![2, 1024, 8504]⟩
abbrev S2x16x256 : Shape := ⟨3, ![2, 16, 256]⟩
abbrev S2x256 : Shape := ⟨2, ![2, 256]⟩
abbrev S2x128 : Shape := ⟨2, ![2, 128]⟩
abbrev S1x1024x8504 : Shape := ⟨3, ![1, 1024, 8504]⟩
abbrev S1024x8504 : Shape := ⟨2, ![1024, 8504]⟩
abbrev S4x4096x8504 : Shape := ⟨3, ![4, 4096, 8504]⟩
abbrev S4x4096x1552 : Shape := ⟨3, ![4, 4096, 1552]⟩
abbrev S4x4096x256 : Shape := ⟨3, ![4, 4096, 256]⟩
abbrev S4x4096x512 : Shape := ⟨3, ![4, 4096, 512]⟩
abbrev S4x4096x16 : Shape := ⟨3, ![4, 4096, 16]⟩
abbrev S1x16x256 : Shape := ⟨3, ![1, 16, 256]⟩
abbrev S16x256 : Shape := ⟨2, ![16, 256]⟩
abbrev S1x256 : Shape := ⟨2, ![1, 256]⟩
abbrev S256 : Shape := ⟨1, ![256]⟩
abbrev S1x128 : Shape := ⟨2, ![1, 128]⟩
abbrev S128 : Shape := ⟨1, ![128]⟩
abbrev S1x1x256 : Shape := ⟨3, ![1, 1, 256]⟩
abbrev S_ : Shape := ⟨0, ![]⟩
abbrev S4x64x64x4x64 : Shape := ⟨5, ![4, 64, 64, 4, 64]⟩
abbrev S64x4x4x64x64 : Shape := ⟨5, ![64, 4, 4, 64, 64]⟩
abbrev S4x64x64x4x128 : Shape := ⟨5, ![4, 64, 64, 4, 128]⟩
abbrev S64x4x4x64x128 : Shape := ⟨5, ![64, 4, 4, 64, 128]⟩
abbrev S64x64 : Shape := ⟨2, ![64, 64]⟩
abbrev S64x64x1 : Shape := ⟨3, ![64, 64, 1]⟩
abbrev S4x4x64x128 : Shape := ⟨4, ![4, 4, 64, 128]⟩
abbrev S1x4x4x64x64 : Shape := ⟨5, ![1, 4, 4, 64, 64]⟩
abbrev S4x4x64x64 : Shape := ⟨4, ![4, 4, 64, 64]⟩
abbrev S1x4x4x64x128 : Shape := ⟨5, ![1, 4, 4, 64, 128]⟩
abbrev S4x4x64x1x64 : Shape := ⟨5, ![4, 4, 64, 1, 64]⟩
abbrev S4x4x1x64x64 : Shape := ⟨5, ![4, 4, 1, 64, 64]⟩
abbrev S4x4x64x64x64 : Shape := ⟨5, ![4, 4, 64, 64, 64]⟩
abbrev S4x4x1x64 : Shape := ⟨4, ![4, 4, 1, 64]⟩
abbrev S4x4x64 : Shape := ⟨3, ![4, 4, 64]⟩
abbrev S4x4x64x1 : Shape := ⟨4, ![4, 4, 64, 1]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S16384x512 : Shape := ⟨2, ![16384, 512]⟩

abbrev nBuf : Space → Nat
  | .hbm => 183
  | .vmem => 0
  | .smem => 0
  | _ => 0

abbrev hbmTy0_0 (i : Nat) : BufTy := match i % 128 with
  | 0 => ⟨S4x4096x1024, .f32⟩
  | 1 => ⟨S2x1024x8504, .f32⟩
  | 2 => ⟨S2x16x256, .f32⟩
  | 3 => ⟨S2x256, .f32⟩
  | 4 => ⟨S2x128, .f32⟩
  | 5 => ⟨S1x1024x8504, .f32⟩
  | 6 => ⟨S1024x8504, .f32⟩
  | 7 => ⟨S4x4096x8504, .f32⟩
  | 8 => ⟨S4x4096x1552, .f32⟩
  | 9 => ⟨S4x4096x256, .f32⟩
  | 10 => ⟨S4x4096x256, .f32⟩
  | 11 => ⟨S4x4096x512, .f32⟩
  | 12 => ⟨S4x4096x16, .f32⟩
  | 13 => ⟨S4x4096x512, .f32⟩
  | 14 => ⟨S1x16x256, .f32⟩
  | 15 => ⟨S16x256, .f32⟩
  | 16 => ⟨S1x256, .f32⟩
  | 17 => ⟨S256, .f32⟩
  | 18 => ⟨S1x128, .f32⟩
  | 19 => ⟨S128, .f32⟩
  | 20 => ⟨S4x4096x256, .f32⟩
  | 21 => ⟨S1x1x256, .f32⟩
  | 22 => ⟨S4x4096x256, .f32⟩
  | 23 => ⟨S4x4096x256, .f32⟩
  | 24 => ⟨S4x4096x256, .f32⟩
  | 25 => ⟨S_, .f32⟩
  | 26 => ⟨S4x4096x256, .f32⟩
  | 27 => ⟨S4x4096x256, .f32⟩
  | 28 => ⟨S4x4096x256, .f32⟩
  | 29 => ⟨S4x4096x256, .f32⟩
  | 30 => ⟨S4x4096x256, .i1⟩
  | 31 => ⟨S4x4096x256, .f32⟩
  | 32 => ⟨S4x4096x256, .f32⟩
  | 33 => ⟨S4x4096x256, .f32⟩
  | 34 => ⟨S4x4096x256, .f32⟩
  | 35 => ⟨S4x4096x256, .f32⟩
  | 36 => ⟨S4x4096x256, .f32⟩
  | 37 => ⟨S4x4096x256, .f32⟩
  | 38 => ⟨S4x4096x256, .f32⟩
  | 39 => ⟨S4x4096x256, .f32⟩
  | 40 => ⟨S_, .f32⟩
  | 41 => ⟨S4x4096x256, .f32⟩
  | 42 => ⟨S4x4096x256, .f32⟩
  | 43 => ⟨S_, .f32⟩
  | 44 => ⟨S4x4096x256, .f32⟩
  | 45 => ⟨S4x4096x256, .f32⟩
  | 46 => ⟨S4x64x64x4x64, .f32⟩
  | 47 => ⟨S64x4x4x64x64, .f32⟩
  | 48 => ⟨S4x64x64x4x64, .f32⟩
  | 49 => ⟨S64x4x4x64x64, .f32⟩
  | 50 => ⟨S4x64x64x4x128, .f32⟩
  | 51 => ⟨S64x4x4x64x128, .f32⟩
  | 52 => ⟨S4x64x64x4x64, .f32⟩
  | 53 => ⟨S64x4x4x64x64, .f32⟩
  | 54 => ⟨S_, .f32⟩
  | 55 => ⟨S_, .f32⟩
  | 56 => ⟨S64x4x4x64x64, .f32⟩
  | 57 => ⟨S_, .i1⟩
  | 58 => ⟨S64x64, .i1⟩
  | 59 => ⟨S64x64, .i32⟩
  | 60 => ⟨S_, .i32⟩
  | 61 => ⟨S64x64, .i32⟩
  | 62 => ⟨S64x64, .i32⟩
  | 63 => ⟨S64x64, .i32⟩
  | 64 => ⟨S64x64, .i1⟩
  | 65 => ⟨S_, .i1⟩
  | 66 => ⟨S64x64, .i1⟩
  | 67 => ⟨S64x64, .i1⟩
  | 68 => ⟨S64x64x1, .i1⟩
  | 69 => ⟨S_, .f32⟩
  | 70 => ⟨S4x4x64x128, .f32⟩
  | 71 => ⟨S_, .f32⟩
  | 72 => ⟨S64x4x4x64x128, .f32⟩
  | 73 => ⟨S_, .i32⟩
  | 74 => ⟨S64x4x4x64x64, .f32⟩
  | 75 => ⟨S64x4x4x64x64, .f32⟩
  | 76 => ⟨S64x4x4x64x128, .f32⟩
  | 77 => ⟨S64x4x4x64x64, .f32⟩
  | 78 => ⟨S64x64x1, .i1⟩
  | 79 => ⟨S_, .i32⟩
  | 80 => ⟨S4x4x64x128, .f32⟩
  | 81 => ⟨S64x4x4x64x128, .f32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S1x4x4x64x64, .f32⟩
  | 89 => ⟨S4x4x64x64, .f32⟩
  | 90 => ⟨S_, .i32⟩
  | 91 => ⟨S_, .i32⟩
  | 92 => ⟨S_, .i32⟩
  | 93 => ⟨S_, .i32⟩
  | 94 => ⟨S1x4x4x64x64, .f32⟩
  | 95 => ⟨S4x4x64x64, .f32⟩
  | 96 => ⟨S_, .i32⟩
  | 97 => ⟨S_, .i32⟩
  | 98 => ⟨S_, .i32⟩
  | 99 => ⟨S_, .i32⟩
  | 100 => ⟨S1x4x4x64x128, .f32⟩
  | 101 => ⟨S4x4x64x128, .f32⟩
  | 102 => ⟨S_, .i32⟩
  | 103 => ⟨S_, .i32⟩
  | 104 => ⟨S_, .i32⟩
  | 105 => ⟨S_, .i32⟩
  | 106 => ⟨S1x4x4x64x64, .f32⟩
  | 107 => ⟨S4x4x64x64, .f32⟩
  | 108 => ⟨S4x4x64x1x64, .f32⟩
  | 109 => ⟨S4x4x1x64x64, .f32⟩
  | 110 => ⟨S4x4x64x64x64, .f32⟩
  | 111 => ⟨S4x4x64x64x64, .f32⟩
  | 112 => ⟨S4x4x64x64x64, .f32⟩
  | 113 => ⟨S_, .f32⟩
  | 114 => ⟨S_, .f32⟩
  | 115 => ⟨S4x4x64x64x64, .i1⟩
  | 116 => ⟨S4x4x64x64x64, .f32⟩
  | 117 => ⟨S4x4x64x64x64, .f32⟩
  | 118 => ⟨S4x4x64x1x64, .f32⟩
  | 119 => ⟨S4x4x1x64x64, .f32⟩
  | 120 => ⟨S4x4x64x64x64, .f32⟩
  | 121 => ⟨S4x4x64x64x64, .f32⟩
  | 122 => ⟨S4x4x64x64x64, .f32⟩
  | 123 => ⟨S4x4x64x64x64, .f32⟩
  | 124 => ⟨S4x4x64x64x64, .f32⟩
  | 125 => ⟨S_, .f32⟩
  | 126 => ⟨S4x4x64x64, .f32⟩
  | 127 => ⟨S4x4x64x128, .f32⟩
  | _ => ⟨S4x4096x1024, .f32⟩

abbrev hbmTy0_1 (i : Nat) : BufTy := match i % 128 with
  | 0 => ⟨S4x4x64x64, .f32⟩
  | 1 => ⟨S4x4x64x64, .f32⟩
  | 2 => ⟨S4x4x64x128, .f32⟩
  | 3 => ⟨S4x4x64x128, .f32⟩
  | 4 => ⟨S4x4x1x64, .f32⟩
  | 5 => ⟨S4x4x64, .f32⟩
  | 6 => ⟨S4x4x64x1, .f32⟩
  | 7 => ⟨S4x4x64x1, .f32⟩
  | 8 => ⟨S4x4x64x128, .f32⟩
  | 9 => ⟨S4x4x64x128, .f32⟩
  | 10 => ⟨S4x4x64x64, .f32⟩
  | 11 => ⟨S4x4x64x64, .f32⟩
  | 12 => ⟨S4x4x64x64, .f32⟩
  | 13 => ⟨S4x4x64x64, .f32⟩
  | 14 => ⟨S4x4x64x128, .f32⟩
  | 15 => ⟨S4x4x64x128, .f32⟩
  | 16 => ⟨S1x4x4x64x128, .f32⟩
  | 17 => ⟨S_, .i32⟩
  | 18 => ⟨S_, .i32⟩
  | 19 => ⟨S_, .i32⟩
  | 20 => ⟨S_, .i32⟩
  | 21 => ⟨S64x4x4x64x128, .f32⟩
  | 22 => ⟨S_, .i32⟩
  | 23 => ⟨S_, .i32⟩
  | 24 => ⟨S4x64x64x4x128, .f32⟩
  | 25 => ⟨S4x4096x4x128, .f32⟩
  | 26 => ⟨S4x4096x4x128, .f32⟩
  | 27 => ⟨S_, .f32⟩
  | 28 => ⟨S4x4096x4, .f32⟩
  | 29 => ⟨S4x4096x4x1, .f32⟩
  | 30 => ⟨S_, .f32⟩
  | 31 => ⟨S4x4096x4x1, .f32⟩
  | 32 => ⟨S4x4096x4x1, .f32⟩
  | 33 => ⟨S_, .f32⟩
  | 34 => ⟨S4x4096x4x1, .f32⟩
  | 35 => ⟨S4x4096x4x1, .f32⟩
  | 36 => ⟨S4x4096x4x1, .f32⟩
  | 37 => ⟨S4x4096x4x128, .f32⟩
  | 38 => ⟨S4x4096x4x128, .f32⟩
  | 39 => ⟨S1x1x1x128, .f32⟩
  | 40 => ⟨S4x4096x4x128, .f32⟩
  | 41 => ⟨S4x4096x4x128, .f32⟩
  | 42 => ⟨S4x4096x512, .f32⟩
  | 43 => ⟨S4x4096x512, .f32⟩
  | 44 => ⟨S4x4096x512, .f32⟩
  | 45 => ⟨S_, .f32⟩
  | 46 => ⟨S4x4096x512, .f32⟩
  | 47 => ⟨S4x4096x512, .f32⟩
  | 48 => ⟨S_, .f32⟩
  | 49 => ⟨S4x4096x512, .f32⟩
  | 50 => ⟨S4x4096x512, .f32⟩
  | 51 => ⟨S4x4096x512, .f32⟩
  | 52 => ⟨S4x4096x512, .f32⟩
  | 53 => ⟨S16384x512, .f32⟩
  | 54 => ⟨S16384x512, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_v21 : Ref sig .tc := ⟨.hbm, 42, rfl⟩
abbrev main_cst_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call1_call0_cst : Ref sig .tc := ⟨.hbm, 54, rfl⟩
abbrev main_call1_call0_v0 : Ref sig .tc := ⟨.hbm, 55, rfl⟩
abbrev main_v32 : Ref sig .tc := ⟨.hbm, 56, rfl⟩
abbrev main_c : Ref sig .tc := ⟨.hbm, 57, rfl⟩
abbrev main_v33 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_0 : Ref sig .tc := ⟨.hbm, 65, rfl⟩
abbrev main_call2_v5 : Ref sig .tc := ⟨.hbm, 66, rfl⟩
abbrev main_v34 : Ref sig .tc := ⟨.hbm, 67, rfl⟩
abbrev main_v35 : Ref sig .tc := ⟨.hbm, 68, rfl⟩
abbrev main_cst_1 : Ref sig .tc := ⟨.hbm, 69, rfl⟩
abbrev main_v36 : Ref sig .tc := ⟨.hbm, 70, rfl⟩
abbrev main_cst_2 : Ref sig .tc := ⟨.hbm, 71, rfl⟩
abbrev main_v37 : Ref sig .tc := ⟨.hbm, 72, rfl⟩
abbrev main_c_3 : Ref sig .tc := ⟨.hbm, 73, rfl⟩
abbrev main_v38_0 : Ref sig .tc := ⟨.hbm, 74, rfl⟩
abbrev main_v38_1 : Ref sig .tc := ⟨.hbm, 75, rfl⟩
abbrev main_v38_2 : Ref sig .tc := ⟨.hbm, 76, rfl⟩
abbrev main_v38_3 : Ref sig .tc := ⟨.hbm, 77, rfl⟩
abbrev main_v38_4 : Ref sig .tc := ⟨.hbm, 78, rfl⟩
abbrev main_v38_5 : Ref sig .tc := ⟨.hbm, 79, rfl⟩
abbrev main_v38_6 : Ref sig .tc := ⟨.hbm, 80, rfl⟩
abbrev main_v38_7 : Ref sig .tc := ⟨.hbm, 81, rfl⟩
abbrev main_while0c_c_14 : Ref sig .tc := ⟨.hbm, 82, rfl⟩
abbrev main_while0c_v59 : Ref sig .tc := ⟨.hbm, 83, rfl⟩
abbrev main_while0b_call3_c : Ref sig .tc := ⟨.hbm, 84, rfl⟩
abbrev main_while0b_call3_c_0 : Ref sig .tc := ⟨.hbm, 85, rfl⟩
abbrev main_while0b_call3_c_1 : Ref sig .tc := ⟨.hbm, 86, rfl⟩
abbrev main_while0b_call3_c_2 : Ref sig .tc := ⟨.hbm, 87, rfl⟩
abbrev main_while0b_call3_v0 : Ref sig .tc := ⟨.hbm, 88, rfl⟩
abbrev main_while0b_v59 : Ref sig .tc := ⟨.hbm, 89, rfl⟩
abbrev main_while0b_call4_c : Ref sig .tc := ⟨.hbm, 90, rfl⟩
abbrev main_while0b_call4_c_0 : Ref sig .tc := ⟨.hbm, 91, rfl⟩
abbrev main_while0b_call4_c_1 : Ref sig .tc := ⟨.hbm, 92, rfl⟩
abbrev main_while0b_call4_c_2 : Ref sig .tc := ⟨.hbm, 93, rfl⟩
abbrev main_while0b_call4_v0 : Ref sig .tc := ⟨.hbm, 94, rfl⟩
abbrev main_while0b_v60 : Ref sig .tc := ⟨.hbm, 95, rfl⟩
abbrev main_while0b_call5_c : Ref sig .tc := ⟨.hbm, 96, rfl⟩
abbrev main_while0b_call5_c_0 : Ref sig .tc := ⟨.hbm, 97, rfl⟩
abbrev main_while0b_call5_c_1 : Ref sig .tc := ⟨.hbm, 98, rfl⟩
abbrev main_while0b_call5_c_2 : Ref sig .tc := ⟨.hbm, 99, rfl⟩
abbrev main_while0b_call5_v0 : Ref sig .tc := ⟨.hbm, 100, rfl⟩
abbrev main_while0b_v61 : Ref sig .tc := ⟨.hbm, 101, rfl⟩
abbrev main_while0b_call6_c : Ref sig .tc := ⟨.hbm, 102, rfl⟩
abbrev main_while0b_call6_c_0 : Ref sig .tc := ⟨.hbm, 103, rfl⟩
abbrev main_while0b_call6_c_1 : Ref sig .tc := ⟨.hbm, 104, rfl⟩
abbrev main_while0b_call6_c_2 : Ref sig .tc := ⟨.hbm, 105, rfl⟩
abbrev main_while0b_call6_v0 : Ref sig .tc := ⟨.hbm, 106, rfl⟩
abbrev main_while0b_v62 : Ref sig .tc := ⟨.hbm, 107, rfl⟩
abbrev main_while0b_v63 : Ref sig .tc := ⟨.hbm, 108, rfl⟩
abbrev main_while0b_v64 : Ref sig .tc := ⟨.hbm, 109, rfl⟩
abbrev main_while0b_v65 : Ref sig .tc := ⟨.hbm, 110, rfl⟩
abbrev main_while0b_v66 : Ref sig .tc := ⟨.hbm, 111, rfl⟩
abbrev main_while0b_v67 : Ref sig .tc := ⟨.hbm, 112, rfl⟩
abbrev main_while0b_cst_14 : Ref sig .tc := ⟨.hbm, 113, rfl⟩
abbrev main_while0b_call7_v0 : Ref sig .tc := ⟨.hbm, 114, rfl⟩
abbrev main_while0b_call7_v1 : Ref sig .tc := ⟨.hbm, 115, rfl⟩
abbrev main_while0b_call7_v2 : Ref sig .tc := ⟨.hbm, 116, rfl⟩
abbrev main_while0b_v68 : Ref sig .tc := ⟨.hbm, 117, rfl⟩
abbrev main_while0b_v69 : Ref sig .tc := ⟨.hbm, 118, rfl⟩
abbrev main_while0b_v70 : Ref sig .tc := ⟨.hbm, 119, rfl⟩
abbrev main_while0b_v71 : Ref sig .tc := ⟨.hbm, 120, rfl⟩
abbrev main_while0b_v72 : Ref sig .tc := ⟨.hbm, 121, rfl⟩
abbrev main_while0b_v73 : Ref sig .tc := ⟨.hbm, 122, rfl⟩
abbrev main_while0b_v74 : Ref sig .tc := ⟨.hbm, 123, rfl⟩
abbrev main_while0b_v75 : Ref sig .tc := ⟨.hbm, 124, rfl⟩
abbrev main_while0b_cst_15 : Ref sig .tc := ⟨.hbm, 125, rfl⟩
abbrev main_while0b_v76 : Ref sig .tc := ⟨.hbm, 126, rfl⟩
abbrev main_while0b_v77 : Ref sig .tc := ⟨.hbm, 127, rfl⟩
abbrev main_while0b_v78 : Ref sig .tc := ⟨.hbm, 128, rfl⟩
abbrev main_while0b_v79 : Ref sig .tc := ⟨.hbm, 129, rfl⟩
abbrev main_while0b_v80 : Ref sig .tc := ⟨.hbm, 130, rfl⟩
abbrev main_while0b_v81 : Ref sig .tc := ⟨.hbm, 131, rfl⟩
abbrev main_while0b_v82 : Ref sig .tc := ⟨.hbm, 132, rfl⟩
abbrev main_while0b_v83 : Ref sig .tc := ⟨.hbm, 133, rfl⟩
abbrev main_while0b_v84 : Ref sig .tc := ⟨.hbm, 134, rfl⟩
abbrev main_while0b_v85 : Ref sig .tc := ⟨.hbm, 135, rfl⟩
abbrev main_while0b_v86 : Ref sig .tc := ⟨.hbm, 136, rfl⟩
abbrev main_while0b_v87 : Ref sig .tc := ⟨.hbm, 137, rfl⟩
abbrev main_while0b_v88 : Ref sig .tc := ⟨.hbm, 138, rfl⟩
abbrev main_while0b_v89 : Ref sig .tc := ⟨.hbm, 139, rfl⟩
abbrev main_while0b_v90 : Ref sig .tc := ⟨.hbm, 140, rfl⟩
abbrev main_while0b_v91 : Ref sig .tc := ⟨.hbm, 141, rfl⟩
abbrev main_while0b_v92 : Ref sig .tc := ⟨.hbm, 142, rfl⟩
abbrev main_while0b_v93 : Ref sig .tc := ⟨.hbm, 143, rfl⟩
abbrev main_while0b_call8_v0 : Ref sig .tc := ⟨.hbm, 144, rfl⟩
abbrev main_while0b_call8_c : Ref sig .tc := ⟨.hbm, 145, rfl⟩
abbrev main_while0b_call8_c_0 : Ref sig .tc := ⟨.hbm, 146, rfl⟩
abbrev main_while0b_call8_c_1 : Ref sig .tc := ⟨.hbm, 147, rfl⟩
abbrev main_while0b_call8_c_2 : Ref sig .tc := ⟨.hbm, 148, rfl⟩
abbrev main_while0b_v94 : Ref sig .tc := ⟨.hbm, 149, rfl⟩
abbrev main_while0b_c_16 : Ref sig .tc := ⟨.hbm, 150, rfl⟩
abbrev main_while0b_v95 : Ref sig .tc := ⟨.hbm, 151, rfl⟩
abbrev main_v39 : Ref sig .tc := ⟨.hbm, 152, rfl⟩
abbrev main_v40 : Ref sig .tc := ⟨.hbm, 153, rfl⟩
abbrev main_v41 : Ref sig .tc := ⟨.hbm, 154, rfl⟩
abbrev main_cst_4 : Ref sig .tc := ⟨.hbm, 155, rfl⟩
abbrev main_v42 : Ref sig .tc := ⟨.hbm, 156, rfl⟩
abbrev main_v43 : Ref sig .tc := ⟨.hbm, 157, rfl⟩
abbrev main_cst_5 : Ref sig .tc := ⟨.hbm, 158, rfl⟩
abbrev main_v44 : Ref sig .tc := ⟨.hbm, 159, rfl⟩
abbrev main_v45 : Ref sig .tc := ⟨.hbm, 160, rfl⟩
abbrev main_cst_6 : Ref sig .tc := ⟨.hbm, 161, rfl⟩
abbrev main_v46 : Ref sig .tc := ⟨.hbm, 162, rfl⟩
abbrev main_v47 : Ref sig .tc := ⟨.hbm, 163, rfl⟩
abbrev main_v48 : Ref sig .tc := ⟨.hbm, 164, rfl⟩
abbrev main_v49 : Ref sig .tc := ⟨.hbm, 165, rfl⟩
abbrev main_v50 : Ref sig .tc := ⟨.hbm, 166, rfl⟩
abbrev main_v51 : Ref sig .tc := ⟨.hbm, 167, rfl⟩
abbrev main_v52 : Ref sig .tc := ⟨.hbm, 168, rfl⟩
abbrev main_v53 : Ref sig .tc := ⟨.hbm, 169, rfl⟩
abbrev main_v54 : Ref sig .tc := ⟨.hbm, 170, rfl⟩
abbrev main_call9_v0 : Ref sig .tc := ⟨.hbm, 171, rfl⟩
abbrev main_call9_v1 : Ref sig .tc := ⟨.hbm, 172, rfl⟩
abbrev main_call9_cst : Ref sig .tc := ⟨.hbm, 173, rfl⟩
abbrev main_call9_v2 : Ref sig .tc := ⟨.hbm, 174, rfl⟩
abbrev main_call9_v3 : Ref sig .tc := ⟨.hbm, 175, rfl⟩
abbrev main_call9_cst_0 : Ref sig .tc := ⟨.hbm, 176, rfl⟩
abbrev main_call9_v4 : Ref sig .tc := ⟨.hbm, 177, rfl⟩
abbrev main_call9_v5 : Ref sig .tc := ⟨.hbm, 178, rfl⟩
abbrev main_v55 : Ref sig .tc := ⟨.hbm, 179, rfl⟩
abbrev main_v56 : Ref sig .tc := ⟨.hbm, 180, rfl⟩
abbrev main_v57 : Ref sig .tc := ⟨.hbm, 181, rfl⟩
abbrev main_v58 : Ref sig .tc := ⟨.hbm, 182, rfl⟩

abbrev nD : Nat := 1
abbrev τ : Topo := Topo.v7x

variable {F : FTy → Type} [FloatOps F]

abbrev main_while0_count : Scf.Loop 32 := ⟨0#32, 64#32, 1#32⟩
-- ==== Ffn.lean ====
abbrev S4x4096x1024 : Shape := ⟨3, ![4, 4096, 1024]⟩
abbrev S2x4x1024 : Shape := ⟨3, ![2, 4, 1024]⟩
abbrev S2x2x1024x2816 : Shape := ⟨4, ![2, 2, 1024, 2816]⟩
abbrev S2x2x2816x1024 : Shape := ⟨4, ![2, 2, 2816, 1024]⟩
abbrev S16384x1024 : Shape := ⟨2, ![16384, 1024]⟩
abbrev S2x4x1x1024 : Shape := ⟨4, ![2, 4, 1, 1024]⟩
abbrev S1024x1024 : Shape := ⟨2, ![1024, 1024]⟩
abbrev S1x1x1024x2816 : Shape := ⟨4, ![1, 1, 1024, 2816]⟩
abbrev S1x1x2816x1024 : Shape := ⟨4, ![1, 1, 2816, 1024]⟩
abbrev S1x1x1x1024 : Shape := ⟨4, ![1, 1, 1, 1024]⟩
abbrev S512x1024 : Shape := ⟨2, ![512, 1024]⟩
abbrev S1x1024 : Shape := ⟨2, ![1, 1024]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 13
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S2x4x1024, .f32⟩
  | .hbm, ⟨2, _⟩ => ⟨S2x4x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S16384x1024, .f32⟩
  | .hbm, ⟨7, _⟩ => ⟨S2x2x1024x2816, .bf16⟩
  | .hbm, ⟨8, _⟩ => ⟨S2x2x1024x2816, .bf16⟩
  | .hbm, ⟨9, _⟩ => ⟨S2x2x2816x1024, .bf16⟩
  | .hbm, ⟨10, _⟩ => ⟨S2x4x1x1024, .f32⟩
  | .hbm, ⟨11, _⟩ => ⟨S2x4x1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x2816, .bf16⟩
  | .local _ .vmem, ⟨3, _⟩ => ⟨S1x1x1024x2816, .bf16⟩
  | .local _ .vmem, ⟨4, _⟩ => ⟨S1x1x2816x1024, .bf16⟩
  | .local _ .vmem, ⟨5, _⟩ => ⟨S1x1x1x1024, .f32⟩
  | .local _ .vmem, ⟨6, _⟩ => ⟨S1x1x1x1024, .f32⟩
  | .local _ .vmem, ⟨7, _⟩ => ⟨S1024x1024, .f32⟩
  | .local _ .vmem, ⟨8, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S4x4096x1024 : Shape := ⟨3, ![4, 4096, 1024]⟩
abbrev S2x4x1024 : Shape := ⟨3, ![2, 4, 1024]⟩
abbrev S2x2x1024x2816 : Shape := ⟨4, ![2, 2, 1024, 2816]⟩
abbrev S2x2x2816x1024 : Shape := ⟨4, ![2, 2, 2816, 1024]⟩
abbrev S_ : Shape := ⟨0, ![]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S4x4096x2816 : Shape := ⟨3, ![4, 4096, 2816]⟩
abbrev S1x1x1024 : Shape := ⟨3, ![1, 1, 1024]⟩
abbrev S1024 : Shape := ⟨1, ![1024]⟩
abbrev S4x4096 : Shape := ⟨2, ![4, 4096]⟩
abbrev S4x4096x1 : Shape := ⟨3, ![4, 4096, 1]⟩
abbrev S16384x1024 : Shape := ⟨2, ![16384, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x4x1024, .f32⟩
  | .hbm, ⟨2, _⟩ => ⟨S2x4x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S_, .f32⟩
  | .hbm, ⟨7, _⟩ => ⟨S4x4096x1024, .f32⟩
  | .hbm, ⟨8, _⟩ => ⟨S4x4096x1024, .f32⟩
  | .hbm, ⟨9, _⟩ => ⟨S1x1x1024x2816, .f32⟩
  | .hbm, ⟨10, _⟩ => ⟨S1024x2816, .f32⟩
  | .hbm, ⟨11, _⟩ => ⟨S1x1x1024x2816, .f32⟩
  | .hbm, ⟨12, _⟩ => ⟨S1024x2816, .f32⟩
  | .hbm, ⟨13, _⟩ => ⟨S1x1x2816x1024, .f32⟩
  | .hbm, ⟨14, _⟩ => ⟨S2816x1024, .f32⟩
  | .hbm, ⟨15, _⟩ => ⟨S4x4096x2816, .f32⟩
  | .hbm, ⟨16, _⟩ => ⟨S4x4096x2816, .f32⟩
  | .hbm, ⟨17, _⟩ => ⟨S4x4096x2816, .f32⟩
  | .hbm, ⟨18, _⟩ => ⟨S_, .f32⟩
  | .hbm, ⟨19, _⟩ => ⟨S4x4096x2816, .f32⟩
  | .hbm, ⟨20, _⟩ => ⟨S4x4096x2816, .f32⟩
  | .hbm, ⟨21, _⟩ => ⟨S_, .f32⟩
  | .hbm, ⟨22, _⟩ => ⟨S4x4096x2816, .f32⟩
  | .hbm, ⟨23, _⟩ => ⟨S4x4096x2816, .f32⟩
  | .hbm, ⟨24, _⟩ => ⟨S4x4096x2816, .f32⟩
  | .hbm, ⟨25, _⟩ => ⟨S4x4096x2816, .f32⟩
  | .hbm, ⟨26, _⟩ => ⟨S4x4096x2816, .f32⟩
  | .hbm, ⟨27, _⟩ => ⟨S4x4096x1024, .f32⟩
  | .hbm, ⟨28, _⟩ => ⟨S_, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S1x1x1024, .f32⟩
  | .hbm, ⟨33, _⟩ => ⟨S1024, .f32⟩
  | .hbm, ⟨34, _⟩ => ⟨S1x1x1024, .f32⟩
  | .hbm, ⟨35, _⟩ => ⟨S1024, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S4x4096x1, .f32⟩
  | .hbm, ⟨57, _⟩ => ⟨S4x4096x1024, .f32⟩
  | .hbm, ⟨58, _⟩ => ⟨S4x4096x1024, .f32⟩
  | .hbm, ⟨59, _⟩ => ⟨S1x1x1024, .f32⟩
  | .hbm, ⟨60, _⟩ => ⟨S4x4096x1024, .f32⟩
  | .hbm, ⟨61, _⟩ => ⟨S4x4096x1024, .f32⟩
  | .hbm, ⟨62, _⟩ => ⟨S1x1x1024, .f32⟩
  | .hbm, ⟨63, _⟩ => ⟨S4x4096x1024, .f32⟩
  | .hbm, ⟨64, _⟩ => ⟨S4x4096x1024, .f32⟩
  | .hbm, ⟨65, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Merge.lean ====
abbrev S4x4096x1024 : Shape := ⟨3, ![4, 4096, 1024]⟩
abbrev S16384x512 : Shape := ⟨2, ![16384, 512]⟩
abbrev S2x1024x8504 : Shape := ⟨3, ![2, 1024, 8504]⟩
abbrev S2x3x512x1024 : Shape := ⟨4, ![2, 3, 512, 1024]⟩
abbrev S2x1024x1024 : Shape := ⟨3, ![2, 1024, 1024]⟩
abbrev S2x4x1024 : Shape := ⟨3, ![2, 4, 1024]⟩
abbrev S16384x1024 : Shape := ⟨2, ![16384, 1024]⟩
abbrev S2x1024x1824 : Shape := ⟨3, ![2, 1024, 1824]⟩
abbrev S2x1024x1552 : Shape := ⟨3, ![2, 1024, 1552]⟩
abbrev S2x1024x2056 : Shape := ⟨3, ![2, 1024, 2056]⟩
abbrev S2x1024x3072 : Shape := ⟨3, ![2, 1024, 3072]⟩
abbrev S2x1024x512 : Shape := ⟨3, ![2, 1024, 512]⟩
abbrev S2x1024x16 : Shape := ⟨3, ![2, 1024, 16]⟩
abbrev S2x1024x1536 : Shape := ⟨3, ![2, 1024, 1536]⟩
abbrev S2x1024x8 : Shape := ⟨3, ![2, 1024, 8]⟩
abbrev S_ : Shape := ⟨0, ![]⟩
abbrev S2x1024x1920 : Shape := ⟨3, ![2, 1024, 1920]⟩
abbrev S2x1024x1664 : Shape := ⟨3, ![2, 1024, 1664]⟩
abbrev S2x1024x2176 : Shape := ⟨3, ![2, 1024, 2176]⟩
abbrev S2x4x1x1024 : Shape := ⟨4, ![2, 4, 1, 1024]⟩
abbrev S1024x1024 : Shape := ⟨2, ![1024, 1024]⟩
abbrev S1024x512 : Shape := ⟨2, ![1024, 512]⟩
abbrev S1x1024x3072 : Shape := ⟨3, ![1, 1024, 3072]⟩
abbrev S1x3x512x1024 : Shape := ⟨4, ![1, 3, 512, 1024]⟩
abbrev S1x1024x1024 : Shape := ⟨3, ![1, 1024, 1024]⟩
abbrev S1x1x1x1024 : Shape := ⟨4, ![1, 1, 1, 1024]⟩
abbrev S512x1024 : Shape := ⟨2, ![512, 1024]⟩
abbrev S512x512 : Shape := ⟨2, ![512, 512]⟩
abbrev S1x1x512x1024 : Shape := ⟨4, ![1, 1, 512, 1024]⟩
abbrev S1x1024 : Shape := ⟨2, ![1, 1024]⟩
abbrev S512 : Shape := ⟨1, ![512]⟩
abbrev S512x1 : Shape := ⟨2, ![512, 1]⟩

abbrev nBuf : Space → Nat
  | .hbm => 40
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S2x1024x8504, .f32⟩
  | .hbm, ⟨5, _⟩ => ⟨S2x3x512x1024, .f32⟩
  | .hbm, ⟨6, _⟩ => ⟨S2x1024x1024, .f32⟩
  | .hbm, ⟨7, _⟩ => ⟨S2x4x1024, .f32⟩
  | .hbm, ⟨8, _⟩ => ⟨S2x4x1024, .f32⟩
  | .hbm, ⟨9, _⟩ => ⟨S16384x1024, .f32⟩
  | .hbm, ⟨10, _⟩ => ⟨S2x1024x1824, .f32⟩
  | .hbm, ⟨11, _⟩ => ⟨S2x1024x1552, .f32⟩
  | .hbm, ⟨12, _⟩ => ⟨S2x1024x2056, .f32⟩
  | .hbm, ⟨13, _⟩ => ⟨S2x1024x3072, .f32⟩
  | .hbm, ⟨14, _⟩ => ⟨S2x1024x1024, .f32⟩
  | .hbm, ⟨15, _⟩ => ⟨S2x1024x512, .f32⟩
  | .hbm, ⟨16, _⟩ => ⟨S2x1024x16, .f32⟩
  | .hbm, ⟨17, _⟩ => ⟨S2x1024x1552, .f32⟩
  | .hbm, ⟨18, _⟩ => ⟨S2x1024x1536, .f32⟩
  | .hbm, ⟨19, _⟩ => ⟨S2x1024x512, .f32⟩
  | .hbm, ⟨20, _⟩ => ⟨S2x1024x8, .f32⟩
  | .hbm, ⟨21, _⟩ => ⟨S2x1024x2056, .f32⟩
  | .hbm, ⟨22, _⟩ => ⟨S_, .i32⟩
  | .hbm, ⟨23, _⟩ => ⟨S_, .f32⟩
  | .hbm, ⟨24, _⟩ => ⟨S2x1024x1920, .f32⟩
  | .hbm, ⟨25, _⟩ => ⟨S2x1024x1920, .bf16⟩
  | .hbm, ⟨26, _⟩ => ⟨S_, .i32⟩
  | .hbm, ⟨27, _⟩ => ⟨S_, .f32⟩
  | .hbm, ⟨28, _⟩ => ⟨S2x1024x1664, .f32⟩
  | .hbm, ⟨29, _⟩ => ⟨S2x1024x1664, .bf16⟩
  | .hbm, ⟨30, _⟩ => ⟨S_, .i32⟩
  | .hbm, ⟨31, _⟩ => ⟨S_, .f32⟩
  | .hbm, ⟨32, _⟩ => ⟨S2x1024x2176, .f32⟩
  | .hbm, ⟨33, _⟩ => ⟨S2x1024x2176, .bf16⟩
  | .hbm, ⟨34, _⟩ => ⟨S2x1024x3072, .bf16⟩
  | .hbm, ⟨35, _⟩ => ⟨S2x3x512x1024, .bf16⟩
  | .hbm, ⟨36, _⟩ => ⟨S2x1024x1024, .bf16⟩
  | .hbm, ⟨37, _⟩ => ⟨S2x4x1x1024, .f32⟩
  | .hbm, ⟨38, _⟩ => ⟨S2x4x1x1024, .f32⟩
  | .hbm, ⟨39, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x1024x3072, .bf16⟩
  | .local _ .vmem, ⟨9, _⟩ => ⟨S1x3x512x1024, .bf16⟩
  | .local _ .vmem, ⟨10, _⟩ => ⟨S1x1024x1024, .bf16⟩
  | .local _ .vmem, ⟨11, _⟩ => ⟨S1x1x1x1024, .f32⟩
  | .local _ .vmem, ⟨12, _⟩ => ⟨S1x1x1x1024, .f32⟩
  | .local _ .vmem, ⟨13, _⟩ => ⟨S1024x1024, .f32⟩
  | .local _ .vmem, ⟨14, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_c_0 : Ref sig .tc := ⟨.hbm, 26, rfl⟩
abbrev main_call1_v0 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S4x4096x1024 : Shape := ⟨3, ![4, 4096, 1024]⟩
abbrev S16384x512 : Shape := ⟨2, ![16384, 512]⟩
abbrev S2x1024x8504 : Shape := ⟨3, ![2, 1024, 8504]⟩
abbrev S2x3x512x1024 : Shape := ⟨4, ![2, 3, 512, 1024]⟩
abbrev S2x1024x1024 : Shape := ⟨3, ![2, 1024, 1024]⟩
abbrev S2x4x1024 : Shape := ⟨3, ![2, 4, 1024]⟩
abbrev S1x1024x8504 : Shape := ⟨3, ![1, 1024, 8504]⟩
abbrev S1024x8504 : Shape := ⟨2, ![1024, 8504]⟩
abbrev S1024x3072 : Shape := ⟨2, ![1024, 3072]⟩
abbrev S4x4096x3072 : Shape := ⟨3, ![4, 4096, 3072]⟩
abbrev S4x4096x512 : Shape := ⟨3, ![4, 4096, 512]⟩
abbrev S4x4096x1x512 : Shape := ⟨4, ![4, 4096, 1, 512]⟩
abbrev S4x4096x3x512 : Shape := ⟨4, ![4, 4096, 3, 512]⟩
abbrev S1x3x512x1024 : Shape := ⟨4, ![1, 3, 512, 1024]⟩
abbrev S3x512x1024 : Shape := ⟨3, ![3, 512, 1024]⟩
abbrev S3x1024x4x4096 : Shape := ⟨4, ![3, 1024, 4, 4096]⟩
abbrev S4x4096x3x1024 : Shape := ⟨4, ![4, 4096, 3, 1024]⟩
abbrev S_ : Shape := ⟨0, ![]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S4x4096 : Shape := ⟨2, ![4, 4096]⟩
abbrev S4x4096x1 : Shape := ⟨3, ![4, 4096, 1]⟩
abbrev S16384x1024 : Shape := ⟨2, ![16384, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S2x1024x8504, .f32⟩
  | .hbm, ⟨5, _⟩ => ⟨S2x3x512x1024, .f32⟩
  | .hbm, ⟨6, _⟩ => ⟨S2x1024x1024, .f32⟩
  | .hbm, ⟨7, _⟩ => ⟨S2x4x1024, .f32⟩
  | .hbm, ⟨8, _⟩ => ⟨S2x4x1024, .f32⟩
  | .hbm, ⟨9, _⟩ => ⟨S1x1024x8504, .f32⟩
  | .hbm, ⟨10, _⟩ => ⟨S1024x8504, .f32⟩
  | .hbm, ⟨11, _⟩ => ⟨S1024x3072, .f32⟩
  | .hbm, ⟨12, _⟩ => ⟨S4x4096x3072, .f32⟩
  | .hbm, ⟨13, _⟩ => ⟨S16384x512, .f32⟩
  | .hbm, ⟨14, _⟩ => ⟨S4x4096x512, .f32⟩
  | .hbm, ⟨15, _⟩ => ⟨S16384x512, .f32⟩
  | .hbm, ⟨16, _⟩ => ⟨S4x4096x512, .f32⟩
  | .hbm, ⟨17, _⟩ => ⟨S16384x512, .f32⟩
  | .hbm, ⟨18, _⟩ => ⟨S4x4096x512, .f32⟩
  | .hbm, ⟨19, _⟩ => ⟨S4x4096x1x512, .f32⟩
  | .hbm, ⟨20, _⟩ => ⟨S4x4096x1x512, .f32⟩
  | .hbm, ⟨21, _⟩ => ⟨S4x4096x1x512, .f32⟩
  | .hbm, ⟨22, _⟩ => ⟨S4x4096x3x512, .f32⟩
  | .hbm, ⟨23, _⟩ => ⟨S1x3x512x1024, .f32⟩
  | .hbm, ⟨24, _⟩ => ⟨S3x512x1024, .f32⟩
  | .hbm, ⟨25, _⟩ => ⟨S3x1024x4x4096, .f32⟩
  | .hbm, ⟨26, _⟩ => ⟨S4x4096x3x1024, .f32⟩
  | .hbm, ⟨27, _⟩ => ⟨S4x4096x3072, .f32⟩
  | .hbm, ⟨28, _⟩ => ⟨S4x4096x3072, .f32⟩
  | .hbm, ⟨29, _⟩ => ⟨S_, .f32⟩
  | .hbm, ⟨30, _⟩ => ⟨S4x4096x3072, .f32⟩
  | .hbm, ⟨31, _⟩ => ⟨S4x4096x3072, .f32⟩
  | .hbm, ⟨32, _⟩ => ⟨S_, .f32⟩
  | .hbm, ⟨33, _⟩ => ⟨S4x4096x3072, .f32⟩
  | .hbm, ⟨34, _⟩ => ⟨S4x4096x3072, .f32⟩
  | .hbm, ⟨35, _⟩ => ⟨S4x4096x3x1024, .f32⟩
  | .hbm, ⟨36, _⟩ => ⟨S4x4096x3x1024, .f32⟩
  | .hbm, ⟨37, _⟩ => ⟨S_, .f32⟩
  | .hbm, ⟨38, _⟩ => ⟨S4x4096x1024, .f32⟩
  | .hbm, ⟨39, _⟩ => ⟨S1x1024x1024, .f32⟩
  | .hbm, ⟨40, _⟩ => ⟨S1024x1024, .f32⟩
  | .hbm, ⟨41, _⟩ => ⟨S4x4096x1024, .f32⟩
  | .hbm, ⟨42, _⟩ => ⟨S_, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S1x1x1024, .f32⟩
  | .hbm, ⟨47, _⟩ => ⟨S1024, .f32⟩
  | .hbm, ⟨48, _⟩ => ⟨S1x1x1024, .f32⟩
  | .hbm, ⟨49, _⟩ => ⟨S1024, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S_, .f32⟩
  | .hbm, ⟨60, _⟩ => ⟨S4x4096, .f32⟩
  | .hbm, ⟨61, _⟩ => ⟨S4x4096x1, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S4x4096x1024, .f32⟩
  | .hbm, ⟨66, _⟩ => ⟨S4x4096x1024, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S4x4096x1, .f32⟩
  | .hbm, ⟨71, _⟩ => ⟨S4x4096x1024, .f32⟩
  | .hbm, ⟨72, _⟩ => ⟨S4x4096x1024, .f32⟩
  | .hbm, ⟨73, _⟩ => ⟨S1x1x1024, .f32⟩
  | .hbm, ⟨74, _⟩ => ⟨S4x4096x1024, .f32⟩
  | .hbm, ⟨75, _⟩ => ⟨S4x4096x1024, .f32⟩
  | .hbm, ⟨76, _⟩ => ⟨S1x1x1024, .f32⟩
  | .hbm, ⟨77, _⟩ => ⟨S4x4096x1024, .f32⟩
  | .hbm, ⟨78, _⟩ => ⟨S4x4096x1024, .f32⟩
  | .hbm, ⟨79, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Ple.lean ====
abbrev S4x4096x1024 : Shape := ⟨3, ![4, 4096, 1024]⟩
abbrev S2x4x4096x256 : Shape := ⟨4, ![2, 4, 4096, 256]⟩
abbrev S2x4x1024 : Shape := ⟨3, ![2, 4, 1024]⟩
abbrev S2x2x1024x2816 : Shape := ⟨4, ![2, 2, 1024, 2816]⟩
abbrev S2x2x2816x1024 : Shape := ⟨4, ![2, 2, 2816, 1024]⟩
abbrev S2x1024x1024 : Shape := ⟨3, ![2, 1024, 1024]⟩
abbrev S2x256x1024 : Shape := ⟨3, ![2, 256, 1024]⟩
abbrev S16384x1024 : Shape := ⟨2, ![16384, 1024]⟩
abbrev S2x16384x256 : Shape := ⟨3, ![2, 16384, 256]⟩
abbrev S2x4x1x1024 : Shape := ⟨4, ![2, 4, 1, 1024]⟩
abbrev S1024x1024 : Shape := ⟨2, ![1024, 1024]⟩
abbrev S1x1024x256 : Shape := ⟨3, ![1, 1024, 256]⟩
abbrev S1x1x1024x2816 : Shape := ⟨4, ![1, 1, 1024, 2816]⟩
abbrev S1x1x2816x1024 : Shape := ⟨4, ![1, 1, 2816, 1024]⟩
abbrev S1x1x1x1024 : Shape := ⟨4, ![1, 1, 1, 1024]⟩
abbrev S1x1024x1024 : Shape := ⟨3, ![1, 1024, 1024]⟩
abbrev S1x256x1024 : Shape := ⟨3, ![1, 256, 1024]⟩
abbrev S1x512x256 : Shape := ⟨3, ![1, 512, 256]⟩
abbrev S512x256 : Shape := ⟨2, ![512, 256]⟩
abbrev S256x1024 : Shape := ⟨2, ![256, 1024]⟩
abbrev S512x1024 : Shape := ⟨2, ![512, 1024]⟩
abbrev S1x1024 : Shape := ⟨2, ![1, 1024]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S512 : Shape := ⟨1, ![512]⟩
abbrev S512x1 : Shape := ⟨2, ![512, 1]⟩

abbrev nBuf : Space → Nat
  | .hbm => 19
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S2x4x4096x256, .f32⟩
  | .hbm, ⟨2, _⟩ => ⟨S2x4x1024, .f32⟩
  | .hbm, ⟨3, _⟩ => ⟨S2x4x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S2x1024x1024, .f32⟩
  | .hbm, ⟨8, _⟩ => ⟨S2x256x1024, .f32⟩
  | .hbm, ⟨9, _⟩ => ⟨S16384x1024, .f32⟩
  | .hbm, ⟨10, _⟩ => ⟨S2x16384x256, .f32⟩
  | .hbm, ⟨11, _⟩ => ⟨S2x2x1024x2816, .bf16⟩
  | .hbm, ⟨12, _⟩ => ⟨S2x2x1024x2816, .bf16⟩
  | .hbm, ⟨13, _⟩ => ⟨S2x2x2816x1024, .bf16⟩
  | .hbm, ⟨14, _⟩ => ⟨S2x1024x1024, .bf16⟩
  | .hbm, ⟨15, _⟩ => ⟨S2x256x1024, .bf16⟩
  | .hbm, ⟨16, _⟩ => ⟨S2x4x1x1024, .f32⟩
  | .hbm, ⟨17, _⟩ => ⟨S2x4x1x1024, .f32⟩
  | .hbm, ⟨18, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1x1024x2816, .bf16⟩
  | .local _ .vmem, ⟨5, _⟩ => ⟨S1x1x1024x2816, .bf16⟩
  | .local _ .vmem, ⟨6, _⟩ => ⟨S1x1x2816x1024, .bf16⟩
  | .local _ .vmem, ⟨7, _⟩ => ⟨S1x1x1x1024, .f32⟩
  | .local _ .vmem, ⟨8, _⟩ => ⟨S1x1x1x1024, .f32⟩
  | .local _ .vmem, ⟨9, _⟩ => ⟨S1x1024x1024, .bf16⟩
  | .local _ .vmem, ⟨10, _⟩ => ⟨S1x256x1024, .bf16⟩
  | .local _ .vmem, ⟨11, _⟩ => ⟨S1x1x1x1024, .f32⟩
  | .local _ .vmem, ⟨12, _⟩ => ⟨S1x1x1x1024, .f32⟩
  | .local _ .vmem, ⟨13, _⟩ => ⟨S1024x1024, .f32⟩
  | .local _ .vmem, ⟨14, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_3 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_5 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_6 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 4 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, c3_i32.toNat, c0_i32.toNat, c0_i32_0.toNat]

def cc0_transform_10 (i : grid0.Coords) : Fin 4 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, c3_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PleRefIdeal.lean ====
abbrev S4x4096x1024 : Shape := ⟨3, ![4, 4096, 1024]⟩
abbrev S2x4x4096x256 : Shape := ⟨4, ![2, 4, 4096, 256]⟩
abbrev S2x4x1024 : Shape := ⟨3, ![2, 4, 1024]⟩
abbrev S2x2x1024x2816 : Shape := ⟨4, ![2, 2, 1024, 2816]⟩
abbrev S2x2x2816x1024 : Shape := ⟨4, ![2, 2, 2816, 1024]⟩
abbrev S2x1024x1024 : Shape := ⟨3, ![2, 1024, 1024]⟩
abbrev S2x256x1024 : Shape := ⟨3, ![2, 256, 1024]⟩
abbrev S_ : Shape := ⟨0, ![]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S4x4096x2816 : Shape := ⟨3, ![4, 4096, 2816]⟩
abbrev S1x1x1024 : Shape := ⟨3, ![1, 1, 1024]⟩
abbrev S1024 : Shape := ⟨1, ![1024]⟩
abbrev S4x4096 : Shape := ⟨2, ![4, 4096]⟩
abbrev S4x4096x1 : Shape := ⟨3, ![4, 4096, 1]⟩
abbrev S1x1024x1024 : Shape := ⟨3, ![1, 1024, 1024]⟩
abbrev S1024x1024 : Shape := ⟨2, ![1024, 1024]⟩
abbrev S1x4x4096x256 : Shape := ⟨4, ![1, 4, 4096, 256]⟩
abbrev S4x4096x256 : Shape := ⟨3, ![4, 4096, 256]⟩
abbrev S1x256x1024 : Shape := ⟨3, ![1, 256, 1024]⟩
abbrev S256x1024 : Shape := ⟨2, ![256, 1024]⟩
abbrev S16384x1024 : Shape := ⟨2, ![16384, 1024]⟩

abbrev nBuf : Space → Nat
  | .hbm => 123
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x4x4096x256, .f32⟩
  | .hbm, ⟨2, _⟩ => ⟨S2x4x1024, .f32⟩
  | .hbm, ⟨3, _⟩ => ⟨S2x4x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S2x1024x1024, .f32⟩
  | .hbm, ⟨8, _⟩ => ⟨S2x256x1024, .f32⟩
  | .hbm, ⟨9, _⟩ => ⟨S_, .f32⟩
  | .hbm, ⟨10, _⟩ => ⟨S4x4096x1024, .f32⟩
  | .hbm, ⟨11, _⟩ => ⟨S4x4096x1024, .f32⟩
  | .hbm, ⟨12, _⟩ => ⟨S1x1x1024x2816, .f32⟩
  | .hbm, ⟨13, _⟩ => ⟨S1024x2816, .f32⟩
  | .hbm, ⟨14, _⟩ => ⟨S1x1x1024x2816, .f32⟩
  | .hbm, ⟨15, _⟩ => ⟨S1024x2816, .f32⟩
  | .hbm, ⟨16, _⟩ => ⟨S1x1x2816x1024, .f32⟩
  | .hbm, ⟨17, _⟩ => ⟨S2816x1024, .f32⟩
  | .hbm, ⟨18, _⟩ => ⟨S4x4096x2816, .f32⟩
  | .hbm, ⟨19, _⟩ => ⟨S4x4096x2816, .f32⟩
  | .hbm, ⟨20, _⟩ => ⟨S4x4096x2816, .f32⟩
  | .hbm, ⟨21, _⟩ => ⟨S_, .f32⟩
  | .hbm, ⟨22, _⟩ => ⟨S4x4096x2816, .f32⟩
  | .hbm, ⟨23, _⟩ => ⟨S4x4096x2816, .f32⟩
  | .hbm, ⟨24, _⟩ => ⟨S_, .f32⟩
  | .hbm, ⟨25, _⟩ => ⟨S4x4096x2816, .f32⟩
  | .hbm, ⟨26, _⟩ => ⟨S4x4096x2816, .f32⟩
  | .hbm, ⟨27, _⟩ => ⟨S4x4096x2816, .f32⟩
  | .hbm, ⟨28, _⟩ => ⟨S4x4096x2816, .f32⟩
  | .hbm, ⟨29, _⟩ => ⟨S4x4096x2816, .f32⟩
  | .hbm, ⟨30, _⟩ => ⟨S4x4096x1024, .f32⟩
  | .hbm, ⟨31, _⟩ => ⟨S_, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S1x1x1024, .f32⟩
  | .hbm, ⟨36, _⟩ => ⟨S1024, .f32⟩
  | .hbm, ⟨37, _⟩ => ⟨S1x1x1024, .f32⟩
  | .hbm, ⟨38, _⟩ => ⟨S1024, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S_, .f32⟩
  | .hbm, ⟨49, _⟩ => ⟨S4x4096, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S4x4096x1024, .f32⟩
  | .hbm, ⟨55, _⟩ => ⟨S4x4096x1024, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x1, .f32⟩
  | .hbm, ⟨60, _⟩ => ⟨S4x4096x1024, .f32⟩
  | .hbm, ⟨61, _⟩ => ⟨S4x4096x1024, .f32⟩
  | .hbm, ⟨62, _⟩ => ⟨S1x1x1024, .f32⟩
  | .hbm, ⟨63, _⟩ => ⟨S4x4096x1024, .f32⟩
  | .hbm, ⟨64, _⟩ => ⟨S4x4096x1024, .f32⟩
  | .hbm, ⟨65, _⟩ => ⟨S1x1x1024, .f32⟩
  | .hbm, ⟨66, _⟩ => ⟨S4x4096x1024, .f32⟩
  | .hbm, ⟨67, _⟩ => ⟨S4x4096x1024, .f32⟩
  | .hbm, ⟨68, _⟩ => ⟨S1x1024x1024, .f32⟩
  | .hbm, ⟨69, _⟩ => ⟨S1024x1024, .f32⟩
  | .hbm, ⟨70, _⟩ => ⟨S4x4096x1024, .f32⟩
  | .hbm, ⟨71, _⟩ => ⟨S4x4096x1024, .f32⟩
  | .hbm, ⟨72, _⟩ => ⟨S4x4096x1024, .f32⟩
  | .hbm, ⟨73, _⟩ => ⟨S_, .f32⟩
  | .hbm, ⟨74, _⟩ => ⟨S4x4096x1024, .f32⟩
  | .hbm, ⟨75, _⟩ => ⟨S4x4096x1024, .f32⟩
  | .hbm, ⟨76, _⟩ => ⟨S_, .f32⟩
  | .hbm, ⟨77, _⟩ => ⟨S4x4096x1024, .f32⟩
  | .hbm, ⟨78, _⟩ => ⟨S4x4096x1024, .f32⟩
  | .hbm, ⟨79, _⟩ => ⟨S1x4x4096x256, .f32⟩
  | .hbm, ⟨80, _⟩ => ⟨S4x4096x256, .f32⟩
  | .hbm, ⟨81, _⟩ => ⟨S1x256x1024, .f32⟩
  | .hbm, ⟨82, _⟩ => ⟨S256x1024, .f32⟩
  | .hbm, ⟨83, _⟩ => ⟨S4x4096x1024, .f32⟩
  | .hbm, ⟨84, _⟩ => ⟨S4x4096x1024, .f32⟩
  | .hbm, ⟨85, _⟩ => ⟨S_, .f32⟩
  | .hbm, ⟨86, _⟩ => ⟨S4x4096x1024, .f32⟩
  | .hbm, ⟨87, _⟩ => ⟨S4x4096x1024, .f32⟩
  | .hbm, ⟨88, _⟩ => ⟨S4x4096x1024, .f32⟩
  | .hbm, ⟨89, _⟩ => ⟨S1x1x1024, .f32⟩
  | .hbm, ⟨90, _⟩ => ⟨S1024, .f32⟩
  | .hbm, ⟨91, _⟩ => ⟨S1x1x1024, .f32⟩
  | .hbm, ⟨92, _⟩ => ⟨S1024, .f32⟩
  | .hbm, ⟨93, _⟩ => ⟨S_, .f32⟩
  | .hbm, ⟨94, _⟩ => ⟨S4x4096, .f32⟩
  | .hbm, ⟨95, _⟩ => ⟨S4x4096x1, .f32⟩
  | .hbm, ⟨96, _⟩ => ⟨S_, .f32⟩
  | .hbm, ⟨97, _⟩ => ⟨S4x4096x1, .f32⟩
  | .hbm, ⟨98, _⟩ => ⟨S4x4096x1, .f32⟩
  | .hbm, ⟨99, _⟩ => ⟨S4x4096x1024, .f32⟩
  | .hbm, ⟨100, _⟩ => ⟨S4x4096x1024, .f32⟩
  | .hbm, ⟨101, _⟩ => ⟨S4x4096x1024, .f32⟩
  | .hbm, ⟨102, _⟩ => ⟨S_, .f32⟩
  | .hbm, ⟨103, _⟩ => ⟨S4x4096, .f32⟩
  | .hbm, ⟨104, _⟩ => ⟨S4x4096x1, .f32⟩
  | .hbm, ⟨105, _⟩ => ⟨S_, .f32⟩
  | .hbm, ⟨106, _⟩ => ⟨S4x4096x1, .f32⟩
  | .hbm, ⟨107, _⟩ => ⟨S4x4096x1, .f32⟩
  | .hbm, ⟨108, _⟩ => ⟨S4x4096x1024, .f32⟩
  | .hbm, ⟨109, _⟩ => ⟨S4x4096x1024, .f32⟩
  | .hbm, ⟨110, _⟩ => ⟨S_, .f32⟩
  | .hbm, ⟨111, _⟩ => ⟨S4x4096x1, .f32⟩
  | .hbm, ⟨112, _⟩ => ⟨S4x4096x1, .f32⟩
  | .hbm, ⟨113, _⟩ => ⟨S4x4096x1, .f32⟩
  | .hbm, ⟨114, _⟩ => ⟨S4x4096x1024, .f32⟩
  | .hbm, ⟨115, _⟩ => ⟨S4x4096x1024, .f32⟩
  | .hbm, ⟨116, _⟩ => ⟨S1x1x1024, .f32⟩
  | .hbm, ⟨117, _⟩ => ⟨S4x4096x1024, .f32⟩
  | .hbm, ⟨118, _⟩ => ⟨S4x4096x1024, .f32⟩
  | .hbm, ⟨119, _⟩ => ⟨S1x1x1024, .f32⟩
  | .hbm, ⟨120, _⟩ => ⟨S4x4096x1024, .f32⟩
  | .hbm, ⟨121, _⟩ => ⟨S4x4096x1024, .f32⟩
  | .hbm, ⟨122, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_6 : Ref sig .tc := ⟨.hbm, 73, rfl⟩
abbrev main_v49 : Ref sig .tc := ⟨.hbm, 74, rfl⟩
abbrev main_v50 : Ref sig .tc := ⟨.hbm, 75, rfl⟩
abbrev main_cst_7 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_8 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_9 : Ref sig .tc := ⟨.hbm, 93, rfl⟩
abbrev main_v66 : Ref sig .tc := ⟨.hbm, 94, rfl⟩
abbrev main_v67 : Ref sig .tc := ⟨.hbm, 95, rfl⟩
abbrev main_cst_10 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_11 : Ref sig .tc := ⟨.hbm, 102, rfl⟩
abbrev main_v73 : Ref sig .tc := ⟨.hbm, 103, rfl⟩
abbrev main_v74 : Ref sig .tc := ⟨.hbm, 104, rfl⟩
abbrev main_cst_12 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_13 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]
-- ==== Proof.GlaRefFrame.lean ====
/-
  The gated linear attention's reference leaves its arguments alone: no operation before its loop, in it or after it
  writes a buffer outside the lists of what each stretch writes.
-/
module

public import proofs.«01_k».proof.Proof.Gen.ReferenceIdeal.Run

@[expose] public section

noncomputable section

namespace Cert.ReferenceIdeal.Value

open Idealize.ShloMosaic Idealize.ShloMosaic.TcCoe
open Idealize.ShloMosaic.StableHlo
open Cert.ReferenceIdeal.Gen

variable {F : FTy → Type} [FloatOps F]

/-- The buffers the stretch writes, in order. -/
abbrev hostOps0_7_W : List (Ref sig .tc) := [main_v39, main_v40, main_v41, main_cst_4, main_v42, main_v43, main_cst_5, main_v44, main_v45, main_cst_6, main_v46, main_v47, main_v48, main_v49, main_v50, main_v51, main_v52, main_v53, main_v54]

/-- Its operations write only those. -/
theorem hostOps0_7_writes : (hostOps0_7 : List (HloOp τ sig (Elt F))).Forall fun op => op.writes ⊆ (hostOps0_7_W.map (Proc.devRef (τ := τ) .tc)).toFinset :=
  StableHlo.forall_writes_sub_of_map rfl

/-- The buffers the stretch writes, in order. -/
abbrev hostOps0_8_W : List (Ref sig .tc) := [main_call9_v0, main_call9_v1, main_call9_cst, main_call9_v2, main_call9_v3, main_call9_cst_0, main_call9_v4, main_call9_v5, main_v55]

/-- Its operations write only those. -/
theorem hostOps0_8_writes : (hostOps0_8 : List (HloOp τ sig (Elt F))).Forall fun op => op.writes ⊆ (hostOps0_8_W.map (Proc.devRef (τ := τ) .tc)).toFinset :=
  StableHlo.forall_writes_sub_of_map rfl

/-- The buffers the stretch writes, in order. -/
abbrev hostOps0_9_W : List (Ref sig .tc) := [main_v56, main_v57, main_v58]

/-- Its operations write only those. -/
theorem hostOps0_9_writes : (hostOps0_9 : List (HloOp τ sig (Elt F))).Forall fun op => op.writes ⊆ (hostOps0_9_W.map (Proc.devRef (τ := τ) .tc)).toFinset :=
  StableHlo.forall_writes_sub_of_map rfl

/-- Every buffer some operation of the program writes. -/
abbrev written : List (Ref sig .tc) :=
  hostOps0_W ++ hostOps0_1_W ++ hostOps0_2_W ++ hostOps0_3_W ++ hostOps0_4_W ++ hostOps0_5_W ++ hostOps0_6_W
    ++ hostOps0_7_W ++ hostOps0_8_W ++ hostOps0_9_W ++ condOps_W
    ++ while0Ops0_W ++ while0Ops0_1_W ++ while0Ops0_2_W ++ while0Ops0_3_W ++ while0Ops0_4_W ++ while0Ops0_5_W
    ++ while0Ops0_6_W ++ while0Ops0_7_W ++ while0Ops0_8_W

/-- A stretch that writes only buffers of the list leaves a buffer outside it as it was. -/
theorem keeps_of {ops : List (HloOp τ sig (Elt F))} {W : List (Ref sig .tc)} (b : Ref sig .tc) (hb : b ∉ written)
    (hw : ops.Forall fun op => op.writes ⊆ (W.map (Proc.devRef (τ := τ) .tc)).toFinset) (hW : W ⊆ written)
    (V : Valuation τ sig (Elt F)) : after ops V (Proc.devRef .tc b) = V (Proc.devRef .tc b) :=
  after_of_writes_sub ops V hw (fun h => hb (hW h))

/-- The stretches before the loop leave such a buffer at the launch's contents. -/
theorem entry_keeps (m : (ℓ : Loc nD τ sig) → Buf (Elt F) ℓ) (c : Dev nD) (b : Ref sig .tc) (hb : b ∉ written) :
    entryContents preI m c (Proc.devRef .tc b) = m ((c.tc : Thread nD τ).loc b) := by
  simp only [entryContents, afterL_cons, afterL_nil]
  rw [keeps_of b hb hostOps0_6_writes (by decide +kernel), keeps_of b hb hostOps0_5_writes (by decide +kernel),
    keeps_of b hb hostOps0_4_writes (by decide +kernel), keeps_of b hb hostOps0_3_writes (by decide +kernel),
    keeps_of b hb hostOps0_2_writes (by decide +kernel), keeps_of b hb hostOps0_1_writes (by decide +kernel),
    keeps_of b hb hostOps0_writes (by decide +kernel)]

/-- So does every trip of the loop. -/
theorem trip_keeps (m : (ℓ : Loc nD τ sig) → Buf (Elt F) ℓ) (c : Dev nD) (b : Ref sig .tc) (hb : b ∉ written) (k : ℕ) :
    atK m k c (Proc.devRef .tc b) = m ((c.tc : Thread nD τ).loc b) := by
  induction k with
  | zero => exact entry_keeps m c b hb
  | succ k ih =>
    rw [show atK m (k + 1) c = afterL bodyI (after condOps (atK m k c)) from rfl]
    simp only [afterL_cons, afterL_nil]
    rw [keeps_of b hb while0Ops0_8_writes (by decide +kernel), keeps_of b hb while0Ops0_7_writes (by decide +kernel),
      keeps_of b hb while0Ops0_6_writes (by decide +kernel), keeps_of b hb while0Ops0_5_writes (by decide +kernel),
      keeps_of b hb while0Ops0_4_writes (by decide +kernel), keeps_of b hb while0Ops0_3_writes (by decide +kernel),
      keeps_of b hb while0Ops0_2_writes (by decide +kernel), keeps_of b hb while0Ops0_1_writes (by decide +kernel),
      keeps_of b hb while0Ops0_writes (by decide +kernel), keeps_of b hb condOps_writes (by decide +kernel)]
    exact ih

/-- At the program's end such a buffer is as it was at the launch. -/
theorem final_keeps (m : (ℓ : Loc nD τ sig) → Buf (Elt F) ℓ) (c : Dev nD) (b : Ref sig .tc) (hb : b ∉ written) :
    finalContents condOps preI bodyI postI 64 m c (Proc.devRef .tc b) = m ((c.tc : Thread nD τ).loc b) := by
  simp only [finalContents, afterL_cons, afterL_nil]
  rw [keeps_of b hb hostOps0_9_writes (by decide +kernel), keeps_of b hb hostOps0_8_writes (by decide +kernel),
    keeps_of b hb hostOps0_7_writes (by decide +kernel), keeps_of b hb condOps_writes (by decide +kernel)]
  exact trip_keeps m c b hb 64

end Cert.ReferenceIdeal.Value

end
-- ==== Proof.Dense.lean ====
/-
  The mathematics the dense programs share: the gate written through a hyperbolic tangent is the logistic function,
  layer normalisation of one row, and one row of the gated feed-forward network.
-/
module

public import Idealize.ShloMosaic.Lib.Pointwise
public import Idealize.ShloMosaic.Lib.Pipeline.ValueKit

@[expose] public section

set_option maxRecDepth 16384

noncomputable section

open Idealize.ShloMosaic

namespace Cert.Dense

/-- The constant one half. -/
abbrev half : EReal := Ideal.ofBits .f32 0x3F000000#32

/-- The logistic function as the reference spells it: `1 / (1 + exp (-x))`. -/
abbrev sg (x : EReal) : EReal := Ideal.div 1 (1 + Ideal.exp (-x))

theorem half_eq : half = ((1 / 2 : ℝ) : EReal) := by
  simp [half, Ideal.ofBits, Ideal.ieee, FTy.bits]
  norm_num
  rw [← EReal.coe_mul]
  norm_num

/-- The gate through the hyperbolic tangent is the logistic function, at every extended real. -/
theorem tanh_gate (x : EReal) : half * Ideal.tanh (half * x) + half = sg x := by
  show _ = Ideal.logistic x
  rw [half_eq]
  induction x using EReal.rec with
  | bot =>
    rw [EReal.coe_mul_bot_of_pos (by norm_num), Ideal.tanh_bot, Ideal.logistic_bot, show (-1 : EReal) = ((-1 : ℝ) : EReal) from by norm_num, ← EReal.coe_mul, ← EReal.coe_add]
    norm_num
  | top =>
    rw [EReal.coe_mul_top_of_pos (by norm_num), Ideal.tanh_top, Ideal.logistic_top]
    norm_cast
    norm_num
  | coe x =>
    rw [← EReal.coe_mul, Ideal.tanh_coe, Ideal.logistic_coe, ← EReal.coe_mul, ← EReal.coe_add]
    congr 1
    have h1 : Real.exp (-x) = Real.exp (-(1 / 2 * x)) * Real.exp (-(1 / 2 * x)) := by rw [← Real.exp_add]; congr 1; ring
    have h2 : Real.exp (1 / 2 * x) * Real.exp (-(1 / 2 * x)) = 1 := by rw [← Real.exp_add]; simp
    rw [Real.tanh_eq_sinh_div_cosh, Real.sinh_eq, Real.cosh_eq, h1]
    have hp := Real.exp_pos (1 / 2 * x)
    have hq := Real.exp_pos (-(1 / 2 * x))
    generalize Real.exp (1 / 2 * x) = p at *
    generalize Real.exp (-(1 / 2 * x)) = q at *
    have : p = q⁻¹ := eq_inv_of_mul_eq_one_left h2
    subst this
    field_simp
    ring

/-- Layer normalisation of a row `u` of 1024 entries at entry `j`, with gain `g` and offset `b`. -/
def lnRow (u : Fin 1024 → EReal) (g b : EReal) (j : Fin 1024) : EReal :=
  (u j - Ideal.div (∑ k, u k) (Ideal.ofBits .f32 0x44800000#32))
    * Ideal.rsqrt (Ideal.div (∑ k, (u k - Ideal.div (∑ k, u k) (Ideal.ofBits .f32 0x44800000#32))
        * (u k - Ideal.div (∑ k, u k) (Ideal.ofBits .f32 0x44800000#32))) (Ideal.ofBits .f32 0x44800000#32)
      + Ideal.ofBits .f32 0x3727C5AC#32) * g + b

/-- One hidden unit of the gated network: `h · logistic h · g`. -/
def hid (h g : EReal) : EReal := h * sg h * g

/-- One output entry of the gated feed-forward network on the row `x`. -/
def ffnRow (x : Fin 1024 → EReal) (w1 w3 : Fin 1024 → Fin 2816 → EReal) (w2 : Fin 2816 → Fin 1024 → EReal) (j : Fin 1024) : EReal :=
  ∑ f : Fin 2816, hid (∑ k, x k * w1 k f) (∑ k, x k * w3 k f) * w2 f j

/-- The feed-forward sublayer on one row: the network, the scaled residual, the normalisation. -/
def ffnLn (x : Fin 1024 → EReal) (w1 w3 : Fin 1024 → Fin 2816 → EReal) (w2 : Fin 2816 → Fin 1024 → EReal)
    (g b : Fin 1024 → EReal) (j : Fin 1024) : EReal :=
  lnRow (fun k => Ideal.ofBits .f32 0x3FB504F3#32 * x k + half * ffnRow x w1 w3 w2 k) (g j) (b j) j

/-- The sublayer of equal rows and weights at equal entries is equal. -/
theorem ffnLn_congr {x x' : Fin 1024 → EReal} {w1 w1' w3 w3' : Fin 1024 → Fin 2816 → EReal} {w2 w2' : Fin 2816 → Fin 1024 → EReal}
    {g g' b b' : Fin 1024 → EReal} {j j' : Fin 1024} (hx : ∀ k, x k = x' k) (h1 : ∀ k f, w1 k f = w1' k f)
    (h3 : ∀ k f, w3 k f = w3' k f) (h2 : ∀ f k, w2 f k = w2' f k) (hg : ∀ k, g k = g' k) (hb : ∀ k, b k = b' k) (hj : j = j') :
    ffnLn x w1 w3 w2 g b j = ffnLn x' w1' w3' w2' g' b' j' := by
  obtain rfl : x = x' := funext hx
  obtain rfl : w1 = w1' := funext fun k => funext (h1 k)
  obtain rfl : w3 = w3' := funext fun k => funext (h3 k)
  obtain rfl : w2 = w2' := funext fun k => funext (h2 k)
  rw [funext hg, funext hb, hj]

/-- One entry of the gated mixture of the three branch outputs `o` of a row `x`: each branch projected, weighted by its gate. -/
def mixRow (x : Fin 1024 → EReal) (o : Fin 3 → Fin 512 → EReal) (wg : Fin 3 → Fin 1024 → Fin 1024 → EReal)
    (wb : Fin 3 → Fin 512 → Fin 1024 → EReal) (d : Fin 1024) : EReal :=
  ∑ n : Fin 3, sg (∑ k, x k * wg n k d) * ∑ k, o n k * wb n k d

/-- The merge sublayer on one row: the mixture, the output projection, the scaled residual, the normalisation. -/
def mergeLn (x : Fin 1024 → EReal) (o : Fin 3 → Fin 512 → EReal) (wg : Fin 3 → Fin 1024 → Fin 1024 → EReal)
    (wb : Fin 3 → Fin 512 → Fin 1024 → EReal) (wo : Fin 1024 → Fin 1024 → EReal) (g b : Fin 1024 → EReal) (j : Fin 1024) : EReal :=
  lnRow (fun k => Ideal.ofBits .f32 0x3FB504F3#32 * x k + ∑ d, mixRow x o wg wb d * wo d k) (g j) (b j) j

/-- The merge sublayer of equal rows and weights at equal entries is equal. -/
theorem mergeLn_congr {x x' : Fin 1024 → EReal} {o o' : Fin 3 → Fin 512 → EReal} {wg wg' : Fin 3 → Fin 1024 → Fin 1024 → EReal}
    {wb wb' : Fin 3 → Fin 512 → Fin 1024 → EReal} {wo wo' : Fin 1024 → Fin 1024 → EReal}
    {g g' b b' : Fin 1024 → EReal} {j j' : Fin 1024} (hx : ∀ k, x k = x' k) (ho : ∀ n k, o n k = o' n k)
    (hwg : ∀ n k d, wg n k d = wg' n k d) (hwb : ∀ n k d, wb n k d = wb' n k d) (hwo : ∀ k d, wo k d = wo' k d)
    (hg : ∀ k, g k = g' k) (hb : ∀ k, b k = b' k) (hj : j = j') :
    mergeLn x o wg wb wo g b j = mergeLn x' o' wg' wb' wo' g' b' j' := by
  obtain rfl : x = x' := funext hx
  obtain rfl : o = o' := funext fun k => funext (ho k)
  obtain rfl : wg = wg' := funext fun n => funext fun k => funext (hwg n k)
  obtain rfl : wb = wb' := funext fun n => funext fun k => funext (hwb n k)
  obtain rfl : wo = wo' := funext fun k => funext (hwo k)
  rw [funext hg, funext hb, hj]

/-- The embedding sublayer on one row: the gated projected embedding `p`, the scaled residual, the normalisation. -/
def pleLn (x : Fin 1024 → EReal) (p : Fin 256 → EReal) (wg : Fin 1024 → Fin 1024 → EReal) (wp : Fin 256 → Fin 1024 → EReal)
    (g b : Fin 1024 → EReal) (j : Fin 1024) : EReal :=
  lnRow (fun d => Ideal.ofBits .f32 0x3FB504F3#32 * x d + sg (∑ k, x k * wg k d) * ∑ k, p k * wp k d) (g j) (b j) j

/-- The embedding sublayer of equal rows and weights at equal entries is equal. -/
theorem pleLn_congr {x x' : Fin 1024 → EReal} {p p' : Fin 256 → EReal} {wg wg' : Fin 1024 → Fin 1024 → EReal}
    {wp wp' : Fin 256 → Fin 1024 → EReal} {g g' b b' : Fin 1024 → EReal} {j j' : Fin 1024} (hx : ∀ k, x k = x' k)
    (hp : ∀ k, p k = p' k) (hwg : ∀ k d, wg k d = wg' k d) (hwp : ∀ k d, wp k d = wp' k d)
    (hg : ∀ k, g k = g' k) (hb : ∀ k, b k = b' k) (hj : j = j') :
    pleLn x p wg wp g b j = pleLn x' p' wg' wp' g' b' j' := by
  obtain rfl : x = x' := funext hx
  obtain rfl : p = p' := funext hp
  obtain rfl : wg = wg' := funext fun k => funext (hwg k)
  obtain rfl : wp = wp' := funext fun k => funext (hwp k)
  rw [funext hg, funext hb, hj]

/-- A statement about three branches, branch by branch. -/
theorem all3 {P : Fin 3 → Prop} (h0 : P 0) (h1 : P 1) (h2 : P 2) : ∀ c, P c := by
  intro c
  fin_cases c <;> assumption

/-- Normalisations of equal rows are equal. -/
theorem lnRow_congr {u u' : Fin 1024 → EReal} {g g' b b' : EReal} {j : Fin 1024} (hu : ∀ k, u k = u' k) (hg : g = g') (hb : b = b') :
    lnRow u g b j = lnRow u' g' b' j := by
  rw [funext hu, hg, hb]

/-- A statement about eleven chunks, chunk by chunk. -/
theorem all11 {P : Fin 11 → Prop} (h0 : P 0) (h1 : P 1) (h2 : P 2) (h3 : P 3) (h4 : P 4) (h5 : P 5) (h6 : P 6) (h7 : P 7)
    (h8 : P 8) (h9 : P 9) (h10 : P 10) : ∀ c, P c := by
  intro c
  fin_cases c <;> assumption

end Cert.Dense

end
-- ==== Proof.GlaMath.lean ====
/-
  Gated linear attention over one chunk of 64 tokens, on the extended reals: the decays, their running sums, the outputs and the state.
-/
module

public import Idealize.ShloMosaic.Lib.Pointwise
public import proofs.«01_k».proof.Proof.Dense

@[expose] public section
set_option maxRecDepth 16384
noncomputable section
open Idealize.ShloMosaic
namespace Cert.GlaMath

/-- An extended real that is a real number. -/
def Real' (x : EReal) : Prop := ∃ r : ℝ, x = r

/-- Sums of reals are real. -/
theorem Real'.add {x y : EReal} : Real' x → Real' y → Real' (x + y) := by
  rintro ⟨a, rfl⟩ ⟨b, rfl⟩; exact ⟨a + b, by norm_cast⟩
/-- Products of reals are real. -/
theorem Real'.mul {x y : EReal} : Real' x → Real' y → Real' (x * y) := by
  rintro ⟨a, rfl⟩ ⟨b, rfl⟩; exact ⟨a * b, by norm_cast⟩
/-- A real less itself is zero. -/
theorem Real'.sub_self {x : EReal} : Real' x → x - x = 0 := by
  rintro ⟨a, rfl⟩; rw [← EReal.coe_sub, _root_.sub_self, EReal.coe_zero]
/-- Zero is real. -/
theorem Real'.zero : Real' 0 := ⟨0, by norm_cast⟩
/-- Finite sums of reals are real. -/
theorem Real'.sum {n : ℕ} (f : Fin n → EReal) (h : ∀ i, Real' (f i)) : Real' (∑ i, f i) := by
  induction n with
  | zero => simpa using Real'.zero
  | succ n ih => rw [Fin.sum_univ_castSucc]; exact (ih _ fun i => h _).add (h _)
/-- A value whose difference with itself is zero is a real number. -/
theorem Real'.of_sub_self {x : EReal} (h : x - x = 0) : Real' x := by
  induction x using EReal.rec with
  | bot => simp at h
  | top => simp at h
  | coe x => exact ⟨x, rfl⟩

/-- A sum of real numbers, as one real number. -/
theorem coe_sum {n : ℕ} (f : Fin n → ℝ) : ((∑ i, f i : ℝ) : EReal) = ∑ i, (f i : EReal) := by
  induction n with
  | zero => simp
  | succ n ih => rw [Fin.sum_univ_castSucc, Fin.sum_univ_castSucc, EReal.coe_add, ih]

/-! ## One chunk of one head -/

/-- The score of row `i` with row `j`: nothing for a later `j`. -/
def att (q k b : Fin 64 → Fin 64 → EReal) (i j : Fin 64) : EReal :=
  ∑ d, q i d * k j d * (if j ≤ i then Ideal.exp (b i d - b j d) else 0)

/-- A head's output: the chunk's own rows, and what the state adds. -/
def attn (q k b : Fin 64 → Fin 64 → EReal) (v : Fin 64 → Fin 128 → EReal) (S : Fin 64 → Fin 128 → EReal) (i : Fin 64) (c : Fin 128) : EReal :=
  (∑ j, att q k b i j * v j c) + ∑ d, q i d * Ideal.exp (b i d) * S d c

/-- The state the chunk leaves. -/
def next (k b : Fin 64 → Fin 64 → EReal) (v : Fin 64 → Fin 128 → EReal) (S : Fin 64 → Fin 128 → EReal) (d : Fin 64) (c : Fin 128) : EReal :=
  S d c * Ideal.exp (b 63 d) + ∑ j, k j d * Ideal.exp (b 63 d - b j d) * v j c

/-- The norm, the gain and the gate of one row of a head's output. -/
def headRow (o ng gate : Fin 128 → EReal) (c : Fin 128) : EReal :=
  o c * Ideal.rsqrt (Ideal.div (∑ e, o e * o e) (Ideal.ofBits .f32 0x43000000#32) + Ideal.ofBits .f32 0x358637BD#32) * ng c * (gate c * Cert.Dense.sg (gate c))

/-- The bits above `k` agree, bit `k` is set in `i` and clear in `j`. -/
def sibN (k i j : ℕ) : Bool := i / 2 ^ (k + 1) == j / 2 ^ (k + 1) && i / 2 ^ k % 2 == 1 && j / 2 ^ k % 2 == 0

/-- The diagonal and the six levels. -/
def seven (i j : ℕ) : List Bool :=
  [i == j, sibN 5 i j, sibN 4 i j, sibN 3 i j, sibN 2 i j, sibN 1 i j, sibN 0 i j]

/-- Of the diagonal and the six levels exactly one holds a pair with `j ≤ i`, none a pair with `i < j`. -/
theorem levels : ∀ i j : Fin 64, seven i j = if i < j then [false, false, false, false, false, false, false]
    else if i = j then [true, false, false, false, false, false, false]
    else if i.val / 32 ≠ j.val / 32 then [false, true, false, false, false, false, false]
    else if i.val / 16 ≠ j.val / 16 then [false, false, true, false, false, false, false]
    else if i.val / 8 ≠ j.val / 8 then [false, false, false, true, false, false, false]
    else if i.val / 4 ≠ j.val / 4 then [false, false, false, false, true, false, false]
    else if i.val / 2 ≠ j.val / 2 then [false, false, false, false, false, true, false]
    else [false, false, false, false, false, false, true] := by
  decide +kernel

/-- The running sums of log-decays fall: a later row's is at most an earlier row's. -/
theorem anti {α β : Fin 64 → ℝ} (hα : ∀ i, α i ≤ 0) (hβ : ∀ i j : Fin 64, i.val = j.val + 1 → β i = β j + α i)
    {i j : Fin 64} (h : j ≤ i) : β i ≤ β j := by
  obtain ⟨i, hi⟩ := i
  induction i with
  | zero => have : j = ⟨0, hi⟩ := Fin.ext (by have := Fin.le_def.mp h; simpa using this); rw [this]
  | succ n ih =>
    rcases eq_or_ne j ⟨n + 1, hi⟩ with rfl | hne
    · exact le_refl _
    · have h1 : j ≤ ⟨n, by omega⟩ := by
        rw [Fin.le_def] at h ⊢
        have : j.val ≠ n + 1 := fun hh => hne (Fin.ext hh)
        simp only at h ⊢; omega
      have := ih (by omega) h1
      rw [hβ ⟨n + 1, hi⟩ ⟨n, by omega⟩ rfl]
      linarith [hα ⟨n + 1, hi⟩]

/-! ## The decays -/

/-- The logarithm of a decay: a sixteenth of the log-sigmoid. -/
def laf (z : EReal) : EReal :=
  (min z 0 - Ideal.log (1 + Ideal.exp (0 - max z (-z)))) * Ideal.ofBits .f32 0x3D800000#32

/-- The constant 1/16. -/
theorem sixteenth : Ideal.ofBits .f32 0x3D800000#32 = ((1 / 16 : ℝ) : EReal) := by
  simp [Ideal.ofBits, Ideal.ieee, FTy.bits]
  norm_num
  rw [← EReal.coe_mul]
  norm_num

/-- The log-sigmoid of a real number. -/
abbrev lsig (z : ℝ) : ℝ := min z 0 - Real.log (1 + Real.exp (-|z|))

/-- The log-sigmoid is not positive. -/
theorem lsig_nonpos (z : ℝ) : lsig z ≤ 0 := by
  have h1 : min z 0 ≤ 0 := min_le_right _ _
  have h2 : 0 ≤ Real.log (1 + Real.exp (-|z|)) := Real.log_nonneg (by linarith [Real.exp_pos (-|z|)])
  unfold lsig; linarith

/-- The log-decay of a real number is real. -/
theorem laf_coe (z : ℝ) : laf (z : EReal) = ((lsig z * (1 / 16) : ℝ) : EReal) := by
  have e1 : max (z : EReal) (-(z : EReal)) = ((|z| : ℝ) : EReal) := by
    rw [← EReal.coe_neg, abs_eq_max_neg]
    exact (EReal.coe_strictMono.monotone.map_max).symm
  have e2 : min (z : EReal) 0 = ((min z 0 : ℝ) : EReal) := by
    rw [← EReal.coe_zero]
    exact (EReal.coe_strictMono.monotone.map_min).symm
  unfold laf
  rw [e1, e2, zero_sub, ← EReal.coe_neg, Ideal.exp_coe, sixteenth, ← EReal.coe_one, ← EReal.coe_add,
    Ideal.log_coe, if_neg (by have := Real.exp_pos (-|z|); linarith), ← EReal.coe_sub, ← EReal.coe_mul]

/-- A running sum down a chunk's rows. -/
def runs (a : Fin 64 → EReal) (i : Fin 64) : EReal := ∑ j, if j ≤ i then a j else 0

/-- The same of real numbers. -/
def runsR (a : Fin 64 → ℝ) (i : Fin 64) : ℝ := ∑ j, if j ≤ i then a j else 0

/-- The running sums of reals are real. -/
theorem runs_coe (a : Fin 64 → ℝ) (i : Fin 64) : runs (fun j => (a j : EReal)) i = (runsR a i : EReal) := by
  unfold runs runsR
  rw [coe_sum]
  refine Finset.sum_congr rfl fun j _ => ?_
  split_ifs <;> simp

/-- A running sum is the one before it and the next term. -/
theorem runsR_succ (a : Fin 64 → ℝ) (i j : Fin 64) (h : i.val = j.val + 1) : runsR a i = runsR a j + a i := by
  unfold runsR
  have : ∀ k : Fin 64, (if k ≤ i then a k else 0) = (if k ≤ j then a k else 0) + (if k = i then a k else 0) := by
    intro k
    simp only [Fin.le_def, Fin.ext_iff]
    split_ifs <;> first | omega | simp
  simp only [this, Finset.sum_add_distrib, Finset.sum_ite_eq', Finset.mem_univ, if_true]

end Cert.GlaMath
end
end
-- ==== Proof.GlaLayer.lean ====
/-
  The gated linear attention of the layer, over the layer's arguments.
-/
module

public import proofs.«01_k».proof.Proof.GlaMath

@[expose] public section
noncomputable section
namespace Cert.GlaMath
open Idealize.ShloMosaic

/-! ## The layer, over its arguments -/

section Layer
variable (x : Fin 4 → Fin 4096 → Fin 1024 → EReal) (w : Fin 1024 → Fin 8504 → EReal) (w2 : Fin 16 → Fin 256 → EReal)
  (gb : Fin 256 → EReal) (ng : Fin 128 → EReal)

/-- The projection of a token. -/
def col (b : Fin 4) (t : Fin 4096) (c : Fin 1552) : EReal := ∑ k, x b t k * w k ⟨1824 + c.val, by omega⟩

/-- Column `q` of the decays' first weight, as a column of the layer's input weights. -/
def lowCol (q : Fin 16) : Fin 8504 := ⟨1824 + (1024 + q.val), by omega⟩

/-- The decays before their sigmoid. -/
def gz (b : Fin 4) (t : Fin 4096) (c : Fin 256) : EReal := (∑ m : Fin 16, col x w b t ⟨1024 + m.val, by omega⟩ * w2 m c) + gb c

/-- The token at place `i` of chunk `n`. -/
abbrev tok (n i : Fin 64) : Fin 4096 := ⟨64 * n.val + i.val, by omega⟩

/-- The scaled queries of a chunk and a head. -/
def gq (b : Fin 4) (n : Fin 64) (h : Fin 4) (i d : Fin 64) : EReal := col x w b (tok n i) ⟨64 * h.val + d.val, by omega⟩ * Ideal.ofBits .f32 0x3E000000#32
/-- The keys of a chunk and a head. -/
def gk (b : Fin 4) (n : Fin 64) (h : Fin 4) (i d : Fin 64) : EReal := col x w b (tok n i) ⟨256 + 64 * h.val + d.val, by omega⟩
/-- The values of a chunk and a head. -/
def gv (b : Fin 4) (n : Fin 64) (h : Fin 4) (i : Fin 64) (c : Fin 128) : EReal := col x w b (tok n i) ⟨512 + 128 * h.val + c.val, by omega⟩
/-- The output gates of a chunk and a head. -/
def gg (b : Fin 4) (n : Fin 64) (h : Fin 4) (i : Fin 64) (c : Fin 128) : EReal := col x w b (tok n i) ⟨1040 + 128 * h.val + c.val, by omega⟩
/-- The running sums of the log-decays. -/
def gB (b : Fin 4) (n : Fin 64) (h : Fin 4) (i d : Fin 64) : EReal :=
  runs (fun j => laf (gz x w w2 gb b (tok n j) ⟨64 * h.val + d.val, by omega⟩)) i

/-- A head's state after `n` chunks. -/
def gS (b : Fin 4) : ℕ → Fin 4 → Fin 64 → Fin 128 → EReal
  | 0 => fun _ _ _ => 0
  | n + 1 => fun h => next (gk x w b (Fin.ofNat 64 n) h) (gB x w w2 gb b (Fin.ofNat 64 n) h) (gv x w b (Fin.ofNat 64 n) h) (gS b n h)

/-- A head's output before its norm. -/
def gA (b : Fin 4) (n : Fin 64) (h : Fin 4) (i : Fin 64) (c : Fin 128) : EReal :=
  attn (gq x w b n h) (gk x w b n h) (gB x w w2 gb b n h) (gv x w b n h) (gS x w w2 gb b n.val h) i c

/-- A head's output. -/
def gO (b : Fin 4) (n : Fin 64) (h : Fin 4) (i : Fin 64) (c : Fin 128) : EReal :=
  headRow (gA x w w2 gb b n h i) ng (gg x w b n h i) c

end Layer
end Cert.GlaMath
end
end
-- ==== Proof.GlaHost.lean ====
/-
  The gated linear attention's kernel: the blocks a grid point reads, over the layer's arguments.
-/
module

public import proofs.«01_k».proof.Proof.GlaLayer
public import proofs.«01_k».proof.Proof.Dense
public import proofs.«01_k».proof.Proof.Gen.KernelIdeal.Value

@[expose] public section
set_option maxRecDepth 16384
noncomputable section
namespace Cert.KernelIdeal.Value
open Cert.KernelIdeal Cert.KernelIdeal.Gen Idealize.ShloMosaic Idealize.ShloMosaic.TcCoe Idealize.SL.Sem
open Cert.Dense
namespace Gla
variable (m : (ℓ : Loc nD τ sig) → Buf (Elt Ideal) ℓ)

/-- Where each window stands at a grid point: its row block of the activations and the result, the layer's own block of every weight. -/
theorem idx : ∀ t : Fin cfg0.N, win0_0.index t = ![t.val, 0] ∧ win0_1.index t = ![0, 0, 0] ∧ win0_2.index t = ![0, 0, 0]
    ∧ win0_3.index t = ![0, 0, 0] ∧ win0_4.index t = ![0, 0, 0] ∧ win0_5.index t = ![t.val, 0] :=
  (by decide +kernel : ∀ t : Fin grid0.N, _)

/-- The rows of the layer input, in one list. -/
theorem V_v0 (c : Dev nD) (r : Fin 16384) (k : Fin 1024) : V m c main_v0 (ix2 r k) = (m ((c.tc : Thread nD τ).loc main_arg0) : FVec Ideal S4x4096x1024 .f32) (ix3 ⟨r / 4096, by omega⟩ ⟨r % 4096, by omega⟩ k) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  pointwise

set_option maxHeartbeats 4000000 in
/-- The projection's weights, their columns in the kernel's order. -/
theorem V_v16 (c : Dev nD) (l : Fin 2) (k : Fin 1024) (q : Fin 1664) : V m c main_v16 (ix3 l k q) =
    (if h : q.val < 1024 then (m ((c.tc : Thread nD τ).loc main_arg1) : FVec Ideal S2x1024x8504 .f32) (ix3 l k ⟨1824 + q, by omega⟩)
     else if h : q.val < 1536 then (m ((c.tc : Thread nD τ).loc main_arg1) : FVec Ideal S2x1024x8504 .f32) (ix3 l k ⟨1824 + (16 + q), by omega⟩)
     else if h : q.val < 1552 then (m ((c.tc : Thread nD τ).loc main_arg1) : FVec Ideal S2x1024x8504 .f32) (ix3 l k ⟨1824 + (q - 512), by omega⟩)
     else (0 : EReal)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  refine Eq.trans (b := pad (α := Elt Ideal .f32) S2x1024x1664 ![0, 0, 0] ![0, 0, 112] ![0, 0, 0] (concatenate S2x1024x1552 2
    [⟨S2x1024x1024, extractStridedSlice S2x1024x1024 ![0, 0, 0] (extractStridedSlice S2x1024x1552 ![0, 0, 1824] (m (c, Proc.tc.devRef main_arg1) : FVec Ideal S2x1024x8504 .f32) slices_S2x1024x8504_S2x1024x1552_0_0_1824) slices_S2x1024x1552_S2x1024x1024_0_0_0⟩,
     ⟨S2x1024x512, extractStridedSlice S2x1024x512 ![0, 0, 1040] (extractStridedSlice S2x1024x1552 ![0, 0, 1824] (m (c, Proc.tc.devRef main_arg1) : FVec Ideal S2x1024x8504 .f32) slices_S2x1024x8504_S2x1024x1552_0_0_1824) slices_S2x1024x1552_S2x1024x512_0_0_1040⟩,
     ⟨S2x1024x16, extractStridedSlice S2x1024x16 ![0, 0, 1024] (extractStridedSlice S2x1024x1552 ![0, 0, 1824] (m (c, Proc.tc.devRef main_arg1) : FVec Ideal S2x1024x8504 .f32) slices_S2x1024x8504_S2x1024x1552_0_0_1824) slices_S2x1024x1552_S2x1024x16_0_0_1024⟩]
     concatenates_S2x1024x1024_S2x1024x512_S2x1024x16_S2x1024x1552_d2) (sitofp (F := Ideal) .f32 (constantI S_ 32 0#32)) pads_S2x1024x1552_S2x1024x1664_000_000_01120 h_S_ (ix3 l k q)) ?_ ?_
  · rfl
  have hz : (FloatOps.sitofp .f32 0#32 : Ideal .f32) = (0 : EReal) := by
    show ((((0#32 : BitVec 32).toInt : ℤ) : ℝ) : EReal) = 0
    simp
  pointwise
  rw [hz]
  by_cases h0 : q.val < 1024
  · rw [dif_pos (by omega), dif_pos h0, dif_pos h0]
  rw [dif_neg h0]
  by_cases h1 : q.val < 1536
  · rw [dif_pos (by omega), dif_neg h0, dif_pos (by omega), dif_pos h1]
    exact congrArg _ (congrArg (ix3 l k) (Fin.ext (by show 1824 + (1040 + (q.val - 1024)) = 1824 + (16 + q.val); omega)))
  rw [dif_neg h1]
  by_cases h2 : q.val < 1552
  · rw [dif_pos h2, dif_neg h0, dif_neg (by omega), dif_pos h2]
    exact congrArg _ (congrArg (ix3 l k) (Fin.ext (by show 1824 + (1024 + (q.val - 1024 - 512)) = 1824 + (q.val - 512); omega)))
  rw [dif_neg h2, dif_neg h2]

/-- The gate's second weight, zeros below. -/
theorem V_v20 (c : Dev nD) (l : Fin 2) (k : Fin 128) (q : Fin 256) : V m c main_v20 (ix3 l k q) =
    (if h : k.val < 16 then (m ((c.tc : Thread nD τ).loc main_arg2) : FVec Ideal S2x16x256 .f32) (ix3 l ⟨k, h⟩ q) else (0 : EReal)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  refine Eq.trans (b := pad (s := S2x16x256) (α := Elt Ideal .f32) S2x128x256 ![0, 0, 0] ![0, 112, 0] ![0, 0, 0] (m (c, Proc.tc.devRef main_arg2) : FVec Ideal S2x16x256 .f32) (sitofp (F := Ideal) .f32 (constantI S_ 32 0#32))
    pads_S2x16x256_S2x128x256_000_01120_000 h_S_ (ix3 l k q)) rfl ?_
  have hz : (FloatOps.sitofp .f32 0#32 : Ideal .f32) = (0 : EReal) := by
    show ((((0#32 : BitVec 32).toInt : ℤ) : ℝ) : EReal) = 0
    simp
  pointwise
  rw [hz]

section Terms
variable (c : Dev nD)

/-- The layer input. -/
def ax (b : Fin 4) (t : Fin 4096) (k : Fin 1024) : EReal := (m ((c.tc : Thread nD τ).loc main_arg0) : FVec Ideal S4x4096x1024 .f32) (ix3 b t k)
/-- The layer's input weights. -/
def aw (k : Fin 1024) (j : Fin 8504) : EReal := (m ((c.tc : Thread nD τ).loc main_arg1) : FVec Ideal S2x1024x8504 .f32) (ix3 0 k j)
/-- The gate's second weight. -/
def aw2 (k : Fin 16) (j : Fin 256) : EReal := (m ((c.tc : Thread nD τ).loc main_arg2) : FVec Ideal S2x16x256 .f32) (ix3 0 k j)
/-- The gate's offsets. -/
def agb (j : Fin 256) : EReal := (m ((c.tc : Thread nD τ).loc main_arg3) : FVec Ideal S2x256 .f32) (ix2 0 j)
/-- The norm's gains. -/
def ang (j : Fin 128) : EReal := (m ((c.tc : Thread nD τ).loc main_arg4) : FVec Ideal S2x128 .f32) (ix2 0 j)
end Terms

/-- The gate's offsets, one axis more. -/
theorem V_v21 (c : Dev nD) (l : Fin 2) (o : Fin 1) (k : Fin 256) : V m c main_v21 (ix3 l o k) = (m ((c.tc : Thread nD τ).loc main_arg3) : FVec Ideal S2x256 .f32) (ix2 l k) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  pointwise

/-- The norm's gains, one axis more. -/
theorem V_v22 (c : Dev nD) (l : Fin 2) (o : Fin 1) (k : Fin 128) : V m c main_v22 (ix3 l o k) = (m ((c.tc : Thread nD τ).loc main_arg4) : FVec Ideal S2x128 .f32) (ix2 l k) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  pointwise

section Blocks
variable (c : Dev nD) (t : Fin cfg0.N)

/-- There are sixteen grid points. -/
theorem t_lt : t.val < 16 := lt_of_lt_of_eq t.isLt (by decide +kernel : cfg0.N = 16)

/-- The batch row of a grid point. -/
def bt : Fin 4 := ⟨t.val / 4, by have := t_lt t; omega⟩

/-- The block of tokens a grid point reads. -/
theorem x_blk (r : Fin 1024) (k : Fin 1024) : (iblk m c 0 t : FVec Ideal S1024x1024 .f32) (ix2 r k)
    = ax m c (bt t) ⟨1024 * (t.val % 4) + r.val, by omega⟩ k := by
  have ht := t_lt t
  blk_simp [iblk, idx t]
  refine (congrArg (V m c main_v0) (a₂ := ix2 ⟨t.val * 1024 + r.val, by omega⟩ k) (by blk_ext [idx t])).trans ((V_v0 m c _ _).trans ?_)
  unfold ax bt
  refine congrArg _ ?_
  congr 1
  · exact Fin.ext (by show (t.val * 1024 + r.val) / 4096 = t.val / 4; omega)
  · exact Fin.ext (by show (t.val * 1024 + r.val) % 4096 = 1024 * (t.val % 4) + r.val; omega)

/-- The re-ordered and padded projection a grid point reads, over the layer's input weights. -/
theorem w_blk (k : Fin 1024) (q : Fin 1664) : (iblk m c 1 t : FVec Ideal S1x1024x1664 .bf16) (ix3 0 k q) =
    (if h : q.val < 1024 then aw m c k ⟨1824 + q, by omega⟩
     else if h : q.val < 1536 then aw m c k ⟨1824 + (16 + q), by omega⟩
     else if h : q.val < 1552 then aw m c k ⟨1824 + (q - 512), by omega⟩
     else (0 : EReal)) := by
  blk_simp [iblk, idx t]
  exact (congrArg (V m c main_v16) (a₂ := ix3 0 k q) (by blk_ext [idx t])).trans (V_v16 m c _ _ _)

/-- The padded second weight of the decays that a grid point reads. -/
theorem w2_blk (k : Fin 128) (q : Fin 256) : (iblk m c 2 t : FVec Ideal S1x128x256 .f32) (ix3 0 k q) =
    (if h : k.val < 16 then aw2 m c ⟨k, h⟩ q else (0 : EReal)) := by
  blk_simp [iblk, idx t]
  exact (congrArg (V m c main_v20) (a₂ := ix3 0 k q) (by blk_ext [idx t])).trans (V_v20 m c _ _ _)

/-- The offsets of the decays that a grid point reads. -/
theorem gb_blk (q : Fin 256) : (iblk m c 3 t : FVec Ideal S1x1x256 .f32) (ix3 0 0 q) = agb m c q := by
  blk_simp [iblk, idx t]
  exact (congrArg (V m c main_v21) (a₂ := ix3 0 0 q) (by blk_ext [idx t])).trans (V_v21 m c _ _ _)

/-- The gains of the norm that a grid point reads. -/
theorem ng_blk (q : Fin 128) : (iblk m c 4 t : FVec Ideal S1x1x128 .f32) (ix3 0 0 q) = ang m c q := by
  blk_simp [iblk, idx t]
  exact (congrArg (V m c main_v22) (a₂ := ix3 0 0 q) (by blk_ext [idx t])).trans (V_v22 m c _ _ _)
end Blocks
end Gla
end Cert.KernelIdeal.Value
end
end
-- ==== Proof.GlaTile.lean ====
/-
  The gated linear attention's kernel: the pieces of its body, as functions of the tiles they load.
-/
module

public import proofs.«01_k».proof.Proof.Gen.KernelIdeal.Value
public import proofs.«01_k».proof.Proof.Dense

@[expose] public section
set_option maxRecDepth 65536
noncomputable section
namespace Cert.KernelIdeal.Value
open Cert.KernelIdeal Cert.KernelIdeal.Gen Idealize.ShloMosaic Idealize.ShloMosaic.TcCoe Idealize.SL.Sem
namespace Gla
variable {F : FTy → Type} [FloatOps F]

/-- The zero a masked lane holds. -/
abbrev z64 : FVec F S64x128 .f32 := broadcast S64x128 (Scalar.ofBits .f32 0x00000000#32)

/-- The rows of a 64-row tile. -/
abbrev ri : IVec S64x128 32 := iota .tc S64x128 32 [0] iota_S64x128_d0_w32

/-- A pair's two heads, one over the other: the first 64 rows keep the first head's lanes, the last 64 the second's. -/
def stack (z : FVec F S64x128 .f32) : FVec F S128x128 .f32 :=
  concatenate S128x128 0
    [⟨S64x128, select (cmpi .slt (iota .tc S64x128 32 [1] iota_S64x128_d1_w32) (broadcast S64x128 64#32)) z z64⟩,
     ⟨S64x128, select (cmpi .slt (iota .tc S64x128 32 [1] iota_S64x128_d1_w32) (broadcast S64x128 64#32)) z64 z⟩]
    concatenates_S64x128_S64x128_S128x128_d0

/-- The row of a stacked score within its head. -/
abbrev r2 : IVec S128x64 32 := andi (iota .tc S128x64 32 [0] iota_S128x64_d0_w32) (broadcast S128x64 63#32)
/-- The column of a score. -/
abbrev c2 : IVec S128x64 32 := iota .tc S128x64 32 [1] iota_S128x64_d1_w32

/-- The rows a level takes as queries: bit `k` set. -/
def rowSide (k : BitVec 32) : IVec S64x128 1 :=
  cmpi .eq (andi (shrsi ri (broadcast S64x128 k)) (broadcast S64x128 1#32)) (broadcast S64x128 1#32)

/-- The pairs a level covers: the bits above `k` agree, bit `k` is set in the row and clear in the column. -/
def sib (k k1 : BitVec 32) : IVec S128x64 1 :=
  andi (andi (cmpi .eq (shrsi r2 (broadcast S128x64 k1)) (shrsi c2 (broadcast S128x64 k1)))
      (cmpi .eq (andi (shrsi r2 (broadcast S128x64 k)) (broadcast S128x64 1#32)) (broadcast S128x64 1#32)))
    (cmpi .eq (andi (shrsi c2 (broadcast S128x64 k)) (broadcast S128x64 1#32)) (broadcast S128x64 0#32))

/-- A tile's queries against its keys, both in the heads' lanes. -/
def qk (q k : FVec F S64x128 .f32) : FVec F S128x64 .f32 :=
  matmul dot_S128x128_S64x128_S128x64_1_1_0_0_n_n none (truncf .bf16 (stack q) bitsLt_bf16_f32)
    (truncf .bf16 k bitsLt_bf16_f32) (constant S128x64 .f32 0x00000000#32)

/-- One level's share of the scores. -/
def level (kk k1 : BitVec 32) (q k e : FVec F S64x128 .f32) : FVec F S128x64 .f32 :=
  select (sib kk k1) (qk (select (rowSide kk) (mulf q e) z64) (select (rowSide kk) z64 (mulf k e)))
    (broadcast S128x64 (Scalar.ofBits .f32 0x00000000#32))

/-- Row `r` of a tile of decays, spread over a block. -/
abbrev row (T : Shape) (hT : S1x128.Broadcasts T) (r : ℕ) (hr : S64x128.Slices ![r, 0] S1x128) (b : FVec F S64x128 .f32) : FVec F T .f32 :=
  broadcastTo T (shapeCast S1x128 (extractStridedSlice S1x128 ![r, 0] b hr) shapeCasts_S1x128_S1x128) hT

/-- The decay between a row and its level's reference row. -/
abbrev far (b r : FVec F S64x128 .f32) : FVec F S64x128 .f32 := exp (subf z64 (absf (subf b r)))

/-- The decay to the reference row of level 5. -/
def e32 (b : FVec F S64x128 .f32) : FVec F S64x128 .f32 :=
  far b (row S64x128 broadcasts_S1x128_S64x128 31 slices_S64x128_o31_0_S1x128 b)

/-- The decay to the reference row of level 4. -/
def e16 (b : FVec F S64x128 .f32) : FVec F S64x128 .f32 :=
  far b (concatenate S64x128 0
    [⟨S32x128, row S32x128 broadcasts_S1x128_S32x128 15 slices_S64x128_o15_0_S1x128 b⟩,
     ⟨S32x128, row S32x128 broadcasts_S1x128_S32x128 47 slices_S64x128_o47_0_S1x128 b⟩]
    concatenates_S32x128_S32x128_S64x128_d0)

/-- The decay to the reference row of level 3. -/
def e8 (b : FVec F S64x128 .f32) : FVec F S64x128 .f32 :=
  far b (concatenate S64x128 0
    [⟨S16x128, row S16x128 broadcasts_S1x128_S16x128 7 slices_S64x128_o7_0_S1x128 b⟩,
     ⟨S16x128, row S16x128 broadcasts_S1x128_S16x128 23 slices_S64x128_o23_0_S1x128 b⟩,
     ⟨S16x128, row S16x128 broadcasts_S1x128_S16x128 39 slices_S64x128_o39_0_S1x128 b⟩,
     ⟨S16x128, row S16x128 broadcasts_S1x128_S16x128 55 slices_S64x128_o55_0_S1x128 b⟩]
    concatenates_S16x128_S16x128_S16x128_S16x128_S64x128_d0)

/-- The decay to the reference row of level 2. -/
def e4 (b : FVec F S64x128 .f32) : FVec F S64x128 .f32 :=
  far b (concatenate S64x128 0
    [⟨S8x128, row S8x128 broadcasts_S1x128_S8x128 3 slices_S64x128_o3_0_S1x128 b⟩,
     ⟨S8x128, row S8x128 broadcasts_S1x128_S8x128 11 slices_S64x128_o11_0_S1x128 b⟩,
     ⟨S8x128, row S8x128 broadcasts_S1x128_S8x128 19 slices_S64x128_o19_0_S1x128 b⟩,
     ⟨S8x128, row S8x128 broadcasts_S1x128_S8x128 27 slices_S64x128_o27_0_S1x128 b⟩,
     ⟨S8x128, row S8x128 broadcasts_S1x128_S8x128 35 slices_S64x128_o35_0_S1x128 b⟩,
     ⟨S8x128, row S8x128 broadcasts_S1x128_S8x128 43 slices_S64x128_o43_0_S1x128 b⟩,
     ⟨S8x128, row S8x128 broadcasts_S1x128_S8x128 51 slices_S64x128_o51_0_S1x128 b⟩,
     ⟨S8x128, row S8x128 broadcasts_S1x128_S8x128 59 slices_S64x128_o59_0_S1x128 b⟩]
    concatenates_S8x128_S8x128_S8x128_S8x128_S8x128_S8x128_S8x128_S8x128_S64x128_d0)

/-- The decay to the reference row of level 1. -/
def e2 (la : FVec F S64x128 .f32) : FVec F S64x128 .f32 :=
  exp (select (cmpi .eq (andi ri (broadcast S64x128 3#32)) (broadcast S64x128 0#32))
    (dynamicRotate 0 63#32 none la rotates_S64x128_d0)
    (select (cmpi .eq (andi ri (broadcast S64x128 3#32)) (broadcast S64x128 1#32)) z64
      (select (cmpi .eq (andi ri (broadcast S64x128 3#32)) (broadcast S64x128 2#32)) la
        (addf la (dynamicRotate 0 1#32 none la rotates_S64x128_d0)))))

/-- The decay to the reference row of level 0. -/
def e1 (la : FVec F S64x128 .f32) : FVec F S64x128 .f32 :=
  exp (select (cmpi .eq (andi ri (broadcast S64x128 1#32)) (broadcast S64x128 1#32)) la z64)

/-- A chunk's scores, a pair's two heads stacked: the diagonal and the six levels below it. -/
def score (q k la b : FVec F S64x128 .f32) : FVec F S128x64 .f32 :=
  addf (addf (addf (addf (addf (addf
    (select (cmpi .eq r2 c2) (qk q k) (broadcast S128x64 (Scalar.ofBits .f32 0x00000000#32)))
    (level 5#32 6#32 q k (e32 b))) (level 4#32 5#32 q k (e16 b))) (level 3#32 4#32 q k (e8 b)))
    (level 2#32 3#32 q k (e4 b))) (level 1#32 2#32 q k (e2 la))) (level 0#32 1#32 q k (e1 la))

/-- The scaled queries. -/
abbrev scaled (q : FVec F S64x128 .f32) : FVec F S64x128 .f32 := mulf q (broadcast S64x128 (Scalar.ofBits .f32 0x3E000000#32))

/-- What the state carried into a chunk adds to its outputs, the pair's heads stacked. -/
def inter (q b : FVec F S64x128 .f32) (st : FVec F S128x128 .f32) : FVec F S128x128 .f32 :=
  matmul dot_S128x128_S128x128_S128x128_1_0_0_1_n_n none (truncf .bf16 (stack (mulf q (exp b))) bitsLt_bf16_f32)
    (truncf .bf16 st bitsLt_bf16_f32) (constant S128x128 .f32 0x00000000#32)

/-- A chunk's last decay, as a column. -/
abbrev bEnd (b : FVec F S64x128 .f32) : FVec F S128x1 .f32 :=
  extractStridedSlice S128x1 ![0, 63] (transpose S128x64 [1, 0] b transposes_S64x128_p1_0_S128x64) slices_S128x64_o0_63_S128x1

/-- What a chunk adds to the state, before the pair's heads are told apart. -/
def upd (k b : FVec F S64x128 .f32) (v : FVec F S64x256 .f32) : FVec F S128x256 .f32 :=
  matmul dot_S128x64_S64x256_S128x256_1_0_0_1_n_n none
    (truncf .bf16 (mulf (transpose S128x64 [1, 0] k transposes_S64x128_p1_0_S128x64)
      (exp (subf (broadcastTo S128x64 (bEnd b) broadcasts_S128x1_S128x64) (transpose S128x64 [1, 0] b transposes_S64x128_p1_0_S128x64)))) bitsLt_bf16_f32)
    (truncf .bf16 v bitsLt_bf16_f32) (constant S128x256 .f32 0x00000000#32)

/-- The state a chunk leaves. -/
def step (k b : FVec F S64x128 .f32) (v : FVec F S64x256 .f32) (st : FVec F S128x128 .f32) : FVec F S128x128 .f32 :=
  addf (mulf st (broadcastTo S128x128 (exp (bEnd b)) broadcasts_S128x1_S128x128))
    (select (cmpi .slt (iota .tc S128x128 32 [0] iota_S128x128_d0_w32) (broadcast S128x128 64#32))
      (extractStridedSlice S128x128 ![0, 0] (upd k b v) slices_S128x256_o0_0_S128x128)
      (extractStridedSlice S128x128 ![0, 128] (upd k b v) slices_S128x256_o0_128_S128x128))

/-- One head's outputs before its norm. -/
def attn0 (sc : FVec F S128x64 .f32) (v : FVec F S64x256 .f32) (it : FVec F S128x128 .f32) : FVec F S64x128 .f32 :=
  addf (matmul dot_S64x64_S64x128_S64x128_1_0_0_1_n_n none
      (truncf .bf16 (extractStridedSlice S64x64 ![0, 0] sc slices_S128x64_o0_0_S64x64) bitsLt_bf16_f32)
      (truncf .bf16 (extractStridedSlice S64x128 ![0, 0] v slices_S64x256_o0_0_S64x128) bitsLt_bf16_f32)
      (constant S64x128 .f32 0x00000000#32))
    (extractStridedSlice S64x128 ![0, 0] it slices_S128x128_o0_0_S64x128)

/-- The other head's. -/
def attn1 (sc : FVec F S128x64 .f32) (v : FVec F S64x256 .f32) (it : FVec F S128x128 .f32) : FVec F S64x128 .f32 :=
  addf (matmul dot_S64x64_S64x128_S64x128_1_0_0_1_n_n none
      (truncf .bf16 (extractStridedSlice S64x64 ![64, 0] sc slices_S128x64_o64_0_S64x64) bitsLt_bf16_f32)
      (truncf .bf16 (extractStridedSlice S64x128 ![0, 128] v slices_S64x256_o0_128_S64x128) bitsLt_bf16_f32)
      (constant S64x128 .f32 0x00000000#32))
    (extractStridedSlice S64x128 ![64, 0] it slices_S128x128_o64_0_S64x128)

/-- The norm of a head's outputs, its gain and its gate. -/
def headOut (o : FVec F S64x128 .f32) (ng : FVec F S1x128 .f32) (g : FVec F S64x128 .f32) : FVec F S64x128 .bf16 :=
  truncf .bf16 (mulf (mulf (mulf (mulf o (broadcastTo S64x128 (rsqrt (addf (divf (shapeCast S64x1
      (multiReduction .add [1] S64 (mulf o o) 0x00000000#32 reduces_S64x128_S64 (.inl rfl) rfl) shapeCasts_S64_S64x1)
      (broadcast S64x1 (Scalar.ofBits .f32 0x43000000#32))) (broadcast S64x1 (Scalar.ofBits .f32 0x358637BD#32)))) broadcasts_S64x1_S64x128))
    (broadcastTo S64x128 ng broadcasts_S1x128_S64x128)) g)
    (addf (mulf (broadcast S64x128 (Scalar.ofBits .f32 0x3F000000#32)) (tanh (mulf (broadcast S64x128 (Scalar.ofBits .f32 0x3F000000#32)) g)))
      (broadcast S64x128 (Scalar.ofBits .f32 0x3F000000#32)))) bitsLt_bf16_f32

end Gla
end Cert.KernelIdeal.Value
end
end
-- ==== Proof.GlaRun.lean ====
/-
  The gated linear attention's kernel: what a grid point stores, as a list of pieces for every array it writes.
-/
module

public import proofs.«01_k».proof.Proof.GlaTile

@[expose] public section
set_option maxRecDepth 65536
noncomputable section
namespace Cert.KernelIdeal.Value
open Cert.KernelIdeal Cert.KernelIdeal.Gen Idealize.ShloMosaic Idealize.ShloMosaic.TcCoe Idealize.SL.Sem
namespace Gla
variable {F : FTy → Type} [FloatOps F]

/-! ## What a block of tokens computes before its recurrence -/

/-- A column block of the projection. -/
def proj (x : Vec F S256x1024 .f32) (w : Vec F S1x1024x256 .bf16) : FVec F S256x256 .f32 :=
  shapeCast S256x256 (matmul dot_S256x1024_S1024x256_S256x256_1_0_0_1_n_n none
    (truncf .bf16 (shapeCast S256x1024 x shapeCasts_S256x1024_S256x1024) bitsLt_bf16_f32)
    (shapeCast S1024x256 w shapeCasts_S1x1024x256_S1024x256 : FVec F S1024x256 .bf16) (constant S256x256 .f32 0x00000000#32)) shapeCasts_S256x256_S256x256

/-- The decays' projection. -/
def low (x : Vec F S256x1024 .f32) (w : Vec F S1x1024x128 .bf16) : FVec F S256x128 .f32 :=
  matmul dot_S256x1024_S1024x128_S256x128_1_0_0_1_n_n none
    (truncf .bf16 (shapeCast S256x1024 x shapeCasts_S256x1024_S256x1024) bitsLt_bf16_f32)
    (shapeCast S1024x128 w shapeCasts_S1x1024x128_S1024x128 : FVec F S1024x128 .bf16) (constant S256x128 .f32 0x00000000#32)

/-- What a rounding leaves of a value, rounded. -/
abbrev lo {s : Shape} (a : FVec F s .f32) : FVec F s .f32 := subf a (extf .f32 (truncf .bf16 a bitsLt_bf16_f32) bitsLt_bf16_f32)

/-- The decays before their sigmoid: a product of split factors and an offset. -/
def pre (a : FVec F S256x128 .f32) (w : Vec F S1x128x256 .f32) (g : Vec F S1x1x256 .f32) : FVec F S256x256 .f32 :=
  addf (addf
    (matmul dot_S256x128_S128x256_S256x256_1_0_0_1_n_n none (truncf .bf16 a bitsLt_bf16_f32)
      (truncf .bf16 (shapeCast S128x256 w shapeCasts_S1x128x256_S128x256 : FVec F S128x256 .f32) bitsLt_bf16_f32) (constant S256x256 .f32 0x00000000#32))
    (addf (matmul dot_S256x128_S128x256_S256x256_1_0_0_1_n_n none (truncf .bf16 a bitsLt_bf16_f32)
      (truncf .bf16 (lo (shapeCast S128x256 w shapeCasts_S1x128x256_S128x256 : FVec F S128x256 .f32)) bitsLt_bf16_f32) (constant S256x256 .f32 0x00000000#32))
    (matmul dot_S256x128_S128x256_S256x256_1_0_0_1_n_n none (truncf .bf16 (lo a) bitsLt_bf16_f32)
      (truncf .bf16 (shapeCast S128x256 w shapeCasts_S1x128x256_S128x256 : FVec F S128x256 .f32) bitsLt_bf16_f32) (constant S256x256 .f32 0x00000000#32))))
    (broadcastTo S256x256 (shapeCast S1x256 g shapeCasts_S1x1x256_S1x256 : FVec F S1x256 .f32) broadcasts_S1x256_S256x256)

/-- The logarithm of the decays: a sixteenth of the log-sigmoid. -/
def logA (z : FVec F S256x256 .f32) : FVec F S256x256 .f32 :=
  mulf (subf (minimumf z (broadcast S256x256 (Scalar.ofBits .f32 0x00000000#32)))
    (log (addf (broadcast S256x256 (Scalar.ofBits .f32 0x3F800000#32))
      (exp (subf (broadcast S256x256 (Scalar.ofBits .f32 0x00000000#32)) (absf z))))))
    (broadcast S256x256 (Scalar.ofBits .f32 0x3D800000#32))

/-- The lower triangle of ones. -/
def tril : FVec F S64x64 .bf16 :=
  truncf .bf16 (select (cmpi .sge (iota .tc S64x64 32 [0] iota_S64x64_d0_w32) (iota .tc S64x64 32 [1] iota_S64x64_d1_w32))
    (broadcast S64x64 (Scalar.ofBits .f32 0x3F800000#32)) (broadcast S64x64 (Scalar.ofBits .f32 0x00000000#32)) : FVec F S64x64 .f32) bitsLt_bf16_f32

/-- The running sum of a chunk's rows, from three pieces of each value. -/
def csum (a : FVec F S64x256 .f32) : FVec F S64x256 .f32 :=
  addf (addf (matmul dot_S64x64_S64x256_S64x256_1_0_0_1_n_n none tril (truncf .bf16 (lo (lo a)) bitsLt_bf16_f32) (constant S64x256 .f32 0x00000000#32))
    (matmul dot_S64x64_S64x256_S64x256_1_0_0_1_n_n none tril (truncf .bf16 (lo a) bitsLt_bf16_f32) (constant S64x256 .f32 0x00000000#32)))
    (matmul dot_S64x64_S64x256_S64x256_1_0_0_1_n_n none tril (truncf .bf16 a bitsLt_bf16_f32) (constant S64x256 .f32 0x00000000#32))

/-- The running sums of a block's four chunks. -/
def csums (a : FVec F S256x256 .f32) : FVec F S256x256 .f32 :=
  shapeCast S256x256 (concatenate S256x256 0
    [⟨S64x256, csum (extractStridedSlice S64x256 ![0, 0] a slices_S256x256_o0_0_S64x256)⟩,
     ⟨S64x256, csum (extractStridedSlice S64x256 ![64, 0] a slices_S256x256_o64_0_S64x256)⟩,
     ⟨S64x256, csum (extractStridedSlice S64x256 ![128, 0] a slices_S256x256_o128_0_S64x256)⟩,
     ⟨S64x256, csum (extractStridedSlice S64x256 ![192, 0] a slices_S256x256_o192_0_S64x256)⟩]
    concatenates_S64x256_S64x256_S64x256_S64x256_S256x256_d0) shapeCasts_S256x256_S256x256

/-! ## The pieces of one grid point's run -/

section Run
variable (arg2 : Memref sig .tc .vmem S1024x1024 .f32) (harg2 : arg2.IsWhole) (arg3 : Memref sig .tc .vmem S1x1024x1664 .bf16) (harg3 : arg3.IsWhole)
  (arg4 : Memref sig .tc .vmem S1x128x256 .f32) (harg4 : arg4.IsWhole) (arg5 : Memref sig .tc .vmem S1x1x256 .f32) (harg5 : arg5.IsWhole)
  (arg6 : Memref sig .tc .vmem S1x1x128 .f32) (harg6 : arg6.IsWhole)
  (arg8 : Memref sig .tc .vmem S1024x1536 .f32) (arg9 : Memref sig .tc .vmem S1024x256 .f32)
  (arg10 : Memref sig .tc .vmem S1024x256 .f32) (arg11 : Memref sig .tc .vmem S2x128x128 .f32)
  (x0 : Vec F S1024x1024 .f32) (x1 : Vec F S1x1024x1664 .bf16) (x2 : Vec F S1x128x256 .f32) (x3 : Vec F S1x1x256 .f32) (x4 : Vec F S1x1x128 .f32)
  (ini : Fin 2 → Vec F S1x128x128 .f32) (base : List (View.Piece (Elt F) S2x128x128 .f32))

/-- The rows of block `s` of the tokens. -/
def xs (s : Fin 4) : Vec F S256x1024 .f32 :=
  View.readAt (Elt F) arg2.view (Rect.unit (s := S1024x1024) ![256 * s.val, 0] S256x1024.size
    (by intro a; fin_cases a <;> simp [S256x1024, S1024x1024] <;> omega)).toLoadRect (harg2.unread x0)

/-- A column block of the weights. -/
def ws (i : Fin 6) : Vec F S1x1024x256 .bf16 :=
  View.readAt (Elt F) arg3.view (Rect.unit (s := S1x1024x1664) ![0, 0, 256 * i.val] S1x1024x256.size
    (by intro a; fin_cases a <;> simp [S1x1024x256, S1x1024x1664] <;> omega)).toLoadRect (harg3.unread x1)

/-- A number as an index below `n`. -/
abbrev fin (n k : ℕ) [NeZero n] : Fin n := Fin.ofNat n k

/-- The pieces of the projection stored so far: block by block of 256 columns, a block of rows after the other. -/
def hs0 : ℕ → List (View.Piece (Elt F) S1024x1536 .f32)
  | 0 => []
  | n + 1 => ⟨Rect.unit (s := S1024x1536) ![256 * (fin 4 (n / 6)).val, 256 * (fin 6 n).val] S256x256.size
      (by have := (fin 4 (n / 6)).isLt; have := (fin 6 n).isLt; intro a; fin_cases a <;> simp only [S256x256, S1024x1536] <;> simp [-Fin.ofNat_eq_cast] <;> omega),
      proj (xs arg2 harg2 x0 (fin 4 (n / 6))) (ws arg3 harg3 x1 (fin 6 n))⟩ :: hs0 n

/-- A block's log-decays. -/
def las (s : Fin 4) : FVec F S256x256 .f32 :=
  logA (pre (low (xs arg2 harg2 x0 s) (View.readAt (Elt F) arg3.view (Rect.unit (s := S1x1024x1664) ![0, 0, 1536] S1x1024x128.size inb_S1x1024x1664_S1x1024x128_0_0_1536).toLoadRect (harg3.unread x1)))
    (View.readAt (Elt F) arg4.view (Rect.unit (s := S1x128x256) ![0, 0, 0] S1x128x256.size inb_S1x128x256_S1x128x256_0_0_0).toLoadRect (harg4.unread x2))
    (View.readAt (Elt F) arg5.view (Rect.unit (s := S1x1x256) ![0, 0, 0] S1x1x256.size inb_S1x1x256_S1x1x256_0_0_0).toLoadRect (harg5.unread x3)))

/-- The pieces of the log-decays stored so far. -/
def hs1 : ℕ → List (View.Piece (Elt F) S1024x256 .f32)
  | 0 => []
  | n + 1 => ⟨Rect.unit (s := S1024x256) ![256 * (fin 4 n).val, 0] S256x256.size
      (by have := (fin 4 n).isLt; intro a; fin_cases a <;> simp only [S256x256, S1024x256] <;> simp [-Fin.ofNat_eq_cast] <;> omega),
      shapeCast S256x256 (las arg2 harg2 arg3 harg3 arg4 harg4 arg5 harg5 x0 x1 x2 x3 (fin 4 n)) shapeCasts_S256x256_S256x256⟩ :: hs1 n

/-- The pieces of their running sums stored so far. -/
def hs2 : ℕ → List (View.Piece (Elt F) S1024x256 .f32)
  | 0 => []
  | n + 1 => ⟨Rect.unit (s := S1024x256) ![256 * (fin 4 n).val, 0] S256x256.size
      (by have := (fin 4 n).isLt; intro a; fin_cases a <;> simp only [S256x256, S1024x256] <;> simp [-Fin.ofNat_eq_cast] <;> omega),
      csums (las arg2 harg2 arg3 harg3 arg4 harg4 arg5 harg5 x0 x1 x2 x3 (fin 4 n))⟩ :: hs2 n

/-- A load of 128 columns of the stored projection, in chunk `j`, with the first `n` pieces stored. -/
def ld8 (n : ℕ) (j : Fin 16) (i : Fin 12) : Vec F S64x128 .f32 :=
  arg8.view.readCov (hs0 arg2 harg2 arg3 harg3 x0 x1 n) (Rect.unit (s := S1024x1536) ![64 * j.val, 128 * i.val] S64x128.size
    (by intro a; fin_cases a <;> simp [S64x128, S1024x1536] <;> omega)).toLoadRect

/-- A pair's values. -/
def ldv (j : Fin 16) (p : Fin 2) : Vec F S64x256 .f32 :=
  arg8.view.readCov (hs0 arg2 harg2 arg3 harg3 x0 x1 (6 * (j.val / 4 + 1))) (Rect.unit (s := S1024x1536) ![64 * j.val, 512 + 256 * p.val] S64x256.size
    (by intro a; fin_cases a <;> simp [S64x256, S1024x1536] <;> omega)).toLoadRect

/-- A pair's queries, keys, log-decays and running sums. -/
def ldq (j : Fin 16) (p : Fin 2) : Vec F S64x128 .f32 := ld8 arg2 harg2 arg3 harg3 arg8 x0 x1 (6 * (j.val / 4 + 1)) j ⟨p.val, by omega⟩
/-- The keys of a chunk and a pair of heads. -/
def ldk (j : Fin 16) (p : Fin 2) : Vec F S64x128 .f32 := ld8 arg2 harg2 arg3 harg3 arg8 x0 x1 (6 * (j.val / 4 + 1)) j ⟨2 + p.val, by omega⟩
/-- The output gates of a chunk and a head. -/
def ldg (j : Fin 16) (h : Fin 4) : Vec F S64x128 .f32 := ld8 arg2 harg2 arg3 harg3 arg8 x0 x1 (6 * (min (j.val / 4 + 2) 4)) j ⟨8 + h.val, by omega⟩
/-- The log-decays of a chunk and a pair of heads. -/
def ldl (j : Fin 16) (p : Fin 2) : Vec F S64x128 .f32 :=
  arg9.view.readCov (hs1 arg2 harg2 arg3 harg3 arg4 harg4 arg5 harg5 x0 x1 x2 x3 (j.val / 4 + 1)) (Rect.unit (s := S1024x256) ![64 * j.val, 128 * p.val] S64x128.size
    (by intro a; fin_cases a <;> simp [S64x128, S1024x256] <;> omega)).toLoadRect
/-- The running sums of a chunk and a pair of heads. -/
def ldb (j : Fin 16) (p : Fin 2) : Vec F S64x128 .f32 :=
  arg10.view.readCov (hs2 arg2 harg2 arg3 harg3 arg4 harg4 arg5 harg5 x0 x1 x2 x3 (j.val / 4 + 1)) (Rect.unit (s := S1024x256) ![64 * j.val, 128 * p.val] S64x128.size
    (by intro a; fin_cases a <;> simp [S64x128, S1024x256] <;> omega)).toLoadRect

/-- A pair's state after the first `i` chunks of block `s`, from the state the block starts with. -/
def within (s : ℕ) (p : Fin 2) (S : FVec F S128x128 .f32) : ℕ → FVec F S128x128 .f32
  | 0 => S
  | i + 1 => step (ldk arg2 harg2 arg3 harg3 arg8 x0 x1 (fin 16 (4 * s + i)) p) (ldb arg2 harg2 arg3 harg3 arg4 harg4 arg5 harg5 arg10 x0 x1 x2 x3 (fin 16 (4 * s + i)) p)
      (ldv arg2 harg2 arg3 harg3 arg8 x0 x1 (fin 16 (4 * s + i)) p) (within s p S i)

/-- A pair's state after the first `i` chunks of a block that loads it as `L`. -/
abbrev wst (s : ℕ) (p : Fin 2) (L : Vec F S1x128x128 .f32) (i : ℕ) : FVec F S128x128 .f32 :=
  within arg2 harg2 arg3 harg3 arg4 harg4 arg5 harg5 arg8 arg10 x0 x1 x2 x3 s p (shapeCast S128x128 L shapeCasts_S1x128x128_S128x128) i

/-- The pieces of the state after a block that loads the pairs' states as `L`. -/
def push (s : ℕ) (L : Fin 2 → Vec F S1x128x128 .f32) (old : List (View.Piece (Elt F) S2x128x128 .f32)) : List (View.Piece (Elt F) S2x128x128 .f32) :=
  ⟨Rect.unit (s := S2x128x128) ![1, 0, 0] S1x128x128.size inb_S2x128x128_S1x128x128_1_0_0,
    shapeCast S1x128x128 (wst arg2 harg2 arg3 harg3 arg4 harg4 arg5 harg5 arg8 arg10 x0 x1 x2 x3 s 1 (L 1) 4) shapeCasts_S128x128_S1x128x128⟩ ::
  ⟨Rect.unit (s := S2x128x128) ![0, 0, 0] S1x128x128.size inb_S2x128x128_S1x128x128_0_0_0,
    shapeCast S1x128x128 (wst arg2 harg2 arg3 harg3 arg4 harg4 arg5 harg5 arg8 arg10 x0 x1 x2 x3 s 0 (L 0) 4) shapeCasts_S128x128_S1x128x128⟩ :: old

/-- A load of a pair's state. -/
def ldst (l : List (View.Piece (Elt F) S2x128x128 .f32)) (p : Fin 2) : Vec F S1x128x128 .f32 :=
  arg11.view.readCov l (Rect.unit (s := S2x128x128) ![p.val, 0, 0] S1x128x128.size
    (by intro a; fin_cases a <;> simp [S1x128x128, S2x128x128] <;> omega)).toLoadRect

/-- The loads of the state at each block, and the pieces it then holds. -/
def blks : ℕ → (Fin 2 → Vec F S1x128x128 .f32) × List (View.Piece (Elt F) S2x128x128 .f32)
  | 0 => (ini, base)
  | s + 1 =>
    (fun p => ldst arg11 (push arg2 harg2 arg3 harg3 arg4 harg4 arg5 harg5 arg8 arg10 x0 x1 x2 x3 s (blks s).1 (blks s).2) p,
      push arg2 harg2 arg3 harg3 arg4 harg4 arg5 harg5 arg8 arg10 x0 x1 x2 x3 s (blks s).1 (blks s).2)

/-- A pair's state when chunk `j` starts. -/
def stAt (j : Fin 16) (p : Fin 2) : FVec F S128x128 .f32 :=
  wst arg2 harg2 arg3 harg3 arg4 harg4 arg5 harg5 arg8 arg10 x0 x1 x2 x3 (j.val / 4) p
    ((blks arg2 harg2 arg3 harg3 arg4 harg4 arg5 harg5 arg8 arg10 arg11 x0 x1 x2 x3 ini base (j.val / 4)).1 p) (j.val % 4)

/-- One head's outputs in one chunk. -/
def outT (j : Fin 16) (h : Fin 4) : FVec F S64x128 .bf16 :=
  let p : Fin 2 := ⟨h.val / 2, by omega⟩
  let q := scaled (ldq arg2 harg2 arg3 harg3 arg8 x0 x1 j p)
  let b := ldb arg2 harg2 arg3 harg3 arg4 harg4 arg5 harg5 arg10 x0 x1 x2 x3 j p
  let sc := score q (ldk arg2 harg2 arg3 harg3 arg8 x0 x1 j p) (ldl arg2 harg2 arg3 harg3 arg4 harg4 arg5 harg5 arg9 x0 x1 x2 x3 j p) b
  let v := ldv arg2 harg2 arg3 harg3 arg8 x0 x1 j p
  let it := inter q b (stAt arg2 harg2 arg3 harg3 arg4 harg4 arg5 harg5 arg8 arg10 arg11 x0 x1 x2 x3 ini base j p)
  headOut (match h with | 0 => attn0 sc v it | 1 => attn1 sc v it | 2 => attn0 sc v it | 3 => attn1 sc v it)
    (shapeCast S1x128 (View.readAt (Elt F) arg6.view (Rect.unit (s := S1x1x128) ![0, 0, 0] S1x1x128.size inb_S1x1x128_S1x1x128_0_0_0).toLoadRect (harg6.unread x4)) shapeCasts_S1x1x128_S1x128)
    (ldg arg2 harg2 arg3 harg3 arg8 x0 x1 j h)

/-- The pieces of the outputs, last first. -/
def outs : List (View.Piece (Elt F) S1024x512 .bf16) :=
  List.ofFn fun k : Fin 64 => ⟨Rect.unit (s := S1024x512) ![64 * ((63 - k.val) / 4), 128 * ((63 - k.val) % 4)] S64x128.size
    (by intro a; fin_cases a <;> simp [S64x128, S1024x512] <;> omega),
    outT arg2 harg2 arg3 harg3 arg4 harg4 arg5 harg5 arg6 harg6 arg8 arg9 arg10 arg11 x0 x1 x2 x3 x4 ini base
      ⟨(63 - k.val) / 4, by omega⟩ ⟨(63 - k.val) % 4, by omega⟩⟩

end Run
end Gla
end Cert.KernelIdeal.Value
end
end
-- ==== Proof.GlaScore.lean ====
/-
  The gated linear attention's kernel: its scores, computed level by level, are the scores of the definition.
-/
module

public import proofs.«01_k».proof.Proof.GlaTile
public import proofs.«01_k».proof.Proof.GlaMath

@[expose] public section
set_option maxRecDepth 65536
noncomputable section
namespace Cert.KernelIdeal.Value
open Cert.KernelIdeal Cert.KernelIdeal.Gen Idealize.ShloMosaic Idealize.ShloMosaic.TcCoe Idealize.SL.Sem
namespace Gla
open Cert.GlaMath

/-- Lane `d` of head `f` in a pair's tile. -/
abbrev ln (f : Fin 2) (d : Fin 64) : Fin 128 := ⟨64 * f.val + d.val, by omega⟩

/-- A choice by an equality of two numbers is a choice by the equality. -/
theorem select_eq_nat {α : Type} (a b : ℕ) (ha : a < 256) (hb : b < 256) (x y : α) :
    Scalar.select (IntOp.cmpi CmpIPredicate.eq (BitVec.ofNat 32 a) (BitVec.ofNat 32 b)) x y = if a = b then x else y := by
  have h : (BitVec.ofNat 32 a = BitVec.ofNat 32 b) ↔ a = b := by
    constructor
    · intro h
      have := congrArg BitVec.toNat h
      simp at this; omega
    · rintro rfl; rfl
  unfold Scalar.select IntOp.cmpi
  by_cases hab : a = b
  · subst hab; simp
  · have h2 : (BitVec.ofNat 32 a == BitVec.ofNat 32 b) = false := beq_eq_false_iff_ne.mpr fun hh => hab (h.mp hh)
    rw [h2, if_neg hab]
    exact if_neg (show ¬(BitVec.ofBool false = 1) by decide)

/-- The first 64 lanes belong to the first head. -/
theorem lane_lt : ∀ l : Fin 128, IntOp.cmpi CmpIPredicate.slt (BitVec.ofNat 32 l.val) 64#32 = if l.val < 64 then 1#1 else 0#1 := by
  decide +kernel

/-- A choice by the half of a lane. -/
theorem select_lane {α : Type} (l : Fin 128) (x y : α) :
    Scalar.select (IntOp.cmpi CmpIPredicate.slt (BitVec.ofNat 32 l.val) 64#32) x y = if l.val < 64 then x else y := by
  rw [lane_lt]
  by_cases h : l.val < 64 <;> simp [h, Scalar.select]

/-- Row `r` of a stacked tile: the row of the head the row belongs to, with the other head's lanes at zero. -/
theorem stack_at (z : FVec Ideal S64x128 .f32) (f : Fin 2) (i : Fin 64) (l : Fin 128) :
    stack z (ix2 (ln f i) l) = if l.val / 64 = f.val then z (ix2 i l) else 0 := by
  unfold stack
  pointwise
  have hf := f.isLt
  split
  · rename_i h
    refine (select_lane _ _ _).trans ?_
    have e : (⟨64 * f.val + i.val, h⟩ : Fin 64) = i := Fin.ext (by show 64 * f.val + i.val = _; omega)
    rw [e]
    by_cases hl : l.val < 64
    · rw [if_pos hl, if_pos (by omega)]
    · rw [if_neg hl, if_neg (by omega)]
  · rename_i h
    refine (select_lane _ _ _).trans ?_
    have e : (⟨64 * f.val + i.val - 64, by omega⟩ : Fin 64) = i := Fin.ext (by show 64 * f.val + i.val - 64 = _; omega)
    rw [e]
    by_cases hl : l.val < 64
    · rw [if_pos hl, if_neg (by omega)]
    · rw [if_neg hl, if_pos (by omega)]

/-- A sum over a pair's lanes in which only one head's count. -/
theorem sum_lanes (f : Fin 2) (g : Fin 128 → EReal) :
    (∑ l : Fin 128, if l.val / 64 = f.val then g l else 0) = ∑ d, g (ln f d) := by
  rw [Fin.sum_univ_tiles 2 64 (by norm_num), Fin.sum_univ_two]
  have h0 : ∀ (e : Fin 2) (t : Fin 64), (e.val * 64 + t.val) / 64 = e.val := by intro e t; omega
  fin_cases f
  · simp only [h0]
    simp [ln]
  · simp only [h0]
    simp [ln]

/-- The product of one head's masked queries with the keys. -/
theorem qk_at (q k : FVec Ideal S64x128 .f32) (f : Fin 2) (i : Fin 64) (j : Fin 64) :
    qk q k (ix2 (ln f i) j) = ∑ d, q (ix2 i (ln f d)) * k (ix2 j (ln f d)) := by
  rw [← sum_lanes f fun l => q (ix2 i l) * k (ix2 j l)]
  have : qk q k (ix2 (ln f i) j) = ∑ l : Fin 128, stack q (ix2 (ln f i) l) * k (ix2 j l) := by
    unfold qk
    pointwise
  rw [this]
  refine Finset.sum_congr rfl fun l _ => ?_
  rw [stack_at]
  split_ifs
  · rfl
  · exact zero_mul _

/-- A shift to the right divides by a power of two. -/
theorem shr_bits : ∀ n : Fin 7, ∀ i : Fin 64, IntOp.shrsi ArithUnit.vector (BitVec.ofNat 32 i.val) (BitVec.ofNat 32 n.val) = BitVec.ofNat 32 (i.val / 2 ^ n.val) := by
  decide +kernel
/-- The lowest bit is the rest by two. -/
theorem and_one : ∀ i : Fin 64, IntOp.andi (BitVec.ofNat 32 i.val) 1#32 = BitVec.ofNat 32 (i.val % 2) := by
  decide +kernel
/-- The two lowest bits are the rest by four. -/
theorem and_three : ∀ i : Fin 64, IntOp.andi (BitVec.ofNat 32 i.val) 3#32 = BitVec.ofNat 32 (i.val % 4) := by
  decide +kernel
/-- The six lowest bits are the place in the chunk. -/
theorem and_63 : ∀ f : Fin 2, ∀ i : Fin 64, IntOp.andi (BitVec.ofNat 32 (64 * f.val + i.val)) 63#32 = BitVec.ofNat 32 i.val := by
  decide +kernel
/-- One bit of a place. -/
theorem bit_at (n : Fin 7) (i : Fin 64) : IntOp.andi (IntOp.shrsi ArithUnit.vector (BitVec.ofNat 32 i.val) (BitVec.ofNat 32 n.val)) 1#32 = BitVec.ofNat 32 (i.val / 2 ^ n.val % 2) := by
  rw [shr_bits]
  exact and_one ⟨i.val / 2 ^ n.val, lt_of_le_of_lt (Nat.div_le_self _ _) i.isLt⟩

/-- A selection by a conjunction, as two selections. -/
theorem select_and {α : Type} (a b : BitVec 1) (x y : α) : Scalar.select (IntOp.andi a b) x y = Scalar.select a (Scalar.select b x y) y := by
  have : ∀ a b : BitVec 1, (IntOp.andi a b = 1) ↔ (a = 1 ∧ b = 1) := by decide
  unfold Scalar.select
  simp only [this]
  by_cases ha : a = 1 <;> by_cases hb : b = 1
  · rw [if_pos ⟨ha, hb⟩, if_pos ha, if_pos hb]
  · rw [if_neg fun h => hb h.2, if_pos ha, if_neg hb]
  · rw [if_neg fun h => ha h.1, if_neg ha]
  · rw [if_neg fun h => ha h.1, if_neg ha]

/-- The half of a level's group a row lies in. -/
theorem rowSide_at (n : Fin 6) (i : Fin 64) (l : Fin 128) (x y : EReal) :
    Scalar.select (rowSide (BitVec.ofNat 32 n.val) (ix2 i l)) x y = if i.val / 2 ^ n.val % 2 = 1 then x else y := by
  unfold rowSide
  pointwise
  rw [bit_at ⟨n.val, by omega⟩ i]
  exact select_eq_nat _ 1 (by omega) (by omega) x y

/-- The pairs of rows that a level treats: same group, later half with earlier half. -/
theorem sib_at (n : Fin 6) (f : Fin 2) (i : Fin 64) (l : Fin 64) (x y : EReal) :
    Scalar.select (sib (BitVec.ofNat 32 n.val) (BitVec.ofNat 32 (n.val + 1)) (ix2 (ln f i) l)) x y = if sibN n.val i.val l.val = true then x else y := by
  unfold sib
  pointwise
  have h1 := shr_bits ⟨n.val + 1, by omega⟩
  have h2 := bit_at ⟨n.val, by omega⟩
  simp only at h1 h2
  rw [and_63, h1, h1, h2, h2, select_and, select_and]
  have b1 : ∀ i : Fin 64, i.val / 2 ^ (n.val + 1) < 256 := fun i => by have := Nat.div_le_self i.val (2 ^ (n.val + 1)); omega
  rw [select_eq_nat _ _ (b1 i) (b1 l), select_eq_nat _ 1 (by omega) (by omega), select_eq_nat _ 0 (by omega) (by omega)]
  unfold sibN
  by_cases c1 : i.val / 2 ^ (n.val + 1) = l.val / 2 ^ (n.val + 1) <;> by_cases c2 : i.val / 2 ^ n.val % 2 = 1 <;>
    by_cases c3 : l.val / 2 ^ n.val % 2 = 0 <;> simp [c1, c2, c3]

/-- One level of the scores: on its pairs the products with the level's two decays as one. -/
theorem level_at (n : Fin 6) (q k e : FVec Ideal S64x128 .f32) (E : Fin 64 → Fin 64 → Fin 128 → EReal)
    (he : ∀ i j l, sibN n.val i.val j.val = true → e (ix2 i l) * e (ix2 j l) = E i j l) (f : Fin 2) (i j : Fin 64) :
    level (BitVec.ofNat 32 n.val) (BitVec.ofNat 32 (n.val + 1)) q k e (ix2 (ln f i) j) =
      if sibN n.val i.val j.val = true then ∑ d, q (ix2 i (ln f d)) * k (ix2 j (ln f d)) * E i j (ln f d) else 0 := by
  unfold level
  refine (sib_at n f i j _ _).trans ?_
  split_ifs with h
  · rw [qk_at]
    refine Finset.sum_congr rfl fun d _ => ?_
    show Scalar.select (rowSide _ (ix2 i (ln f d))) _ _ * Scalar.select (rowSide _ (ix2 j (ln f d))) _ _ = _
    rw [rowSide_at, rowSide_at]
    have h' := h
    simp only [sibN, Bool.and_eq_true, beq_iff_eq] at h'
    rw [if_pos h'.1.2, if_neg (by omega), ← he i j _ h]
    exact mul_mul_mul_comm _ _ _ _
  · pointwise

/-! ## The levels' decays -/

/-- The reference row of a level. -/
abbrev ref (n : ℕ) (i : Fin 64) : ℕ := i.val / 2 ^ (n + 1) * 2 ^ (n + 1) + (2 ^ n - 1)

/-- The decay between a row and a reference row, of real running sums. -/
theorem exp_abs (x y : ℝ) : Ideal.exp (0 - FloatOps.absf (F := Ideal) (φ := .f32) ((x : EReal) - (y : EReal))) = ((Real.exp (-|x - y|) : ℝ) : EReal) := by
  have : FloatOps.absf (F := Ideal) (φ := .f32) ((x : EReal) - (y : EReal)) = ((|x - y| : ℝ) : EReal) := by
    show max ((x : EReal) - (y : EReal)) (-((x : EReal) - (y : EReal))) = _
    rw [← EReal.coe_sub, ← EReal.coe_neg, abs_eq_max_neg]
    exact (EReal.coe_strictMono.monotone.map_max).symm
  rw [this, zero_sub, ← EReal.coe_neg]
  rfl

section Decay
variable (b : FVec Ideal S64x128 .f32) (β : Fin 128 → Fin 64 → ℝ) (hb : ∀ i l, b (ix2 i l) = (β l i : EReal))
include hb

/-- The factor of level 5. -/
theorem e32_at (i : Fin 64) (l : Fin 128) (r : Fin 64) (hr : r.val = ref 5 i) :
    e32 b (ix2 i l) = ((Real.exp (-|β l i - β l r|) : ℝ) : EReal) := by
  rw [← exp_abs, ← hb, ← hb]
  unfold e32
  pointwise
  have e : r = 31 := Fin.ext (by rw [hr]; simp [ref])
  rw [e]

/-- The factor of level 4. -/
theorem e16_at (i : Fin 64) (l : Fin 128) (r : Fin 64) (hr : r.val = ref 4 i) :
    e16 b (ix2 i l) = ((Real.exp (-|β l i - β l r|) : ℝ) : EReal) := by
  rw [← exp_abs, ← hb, ← hb]
  unfold e16
  pointwise
  simp only [ref] at hr
  congr 3
  split_ifs <;> refine congrArg (fun r => b (ix2 i l) - b (ix2 r l)) (Fin.ext ?_) <;> rw [hr] <;> simp <;> omega

/-- The factor of level 3. -/
theorem e8_at (i : Fin 64) (l : Fin 128) (r : Fin 64) (hr : r.val = ref 3 i) :
    e8 b (ix2 i l) = ((Real.exp (-|β l i - β l r|) : ℝ) : EReal) := by
  rw [← exp_abs, ← hb, ← hb]
  unfold e8
  pointwise
  simp only [ref] at hr
  congr 3
  split_ifs <;> refine congrArg (fun r => b (ix2 i l) - b (ix2 r l)) (Fin.ext ?_) <;> rw [hr] <;> simp <;> omega

/-- The factor of level 2. -/
theorem e4_at (i : Fin 64) (l : Fin 128) (r : Fin 64) (hr : r.val = ref 2 i) :
    e4 b (ix2 i l) = ((Real.exp (-|β l i - β l r|) : ℝ) : EReal) := by
  rw [← exp_abs, ← hb, ← hb]
  unfold e4
  pointwise
  simp only [ref] at hr
  congr 3
  split_ifs <;> refine congrArg (fun r => b (ix2 i l) - b (ix2 r l)) (Fin.ext ?_) <;> rw [hr] <;> simp <;> omega

end Decay

/-- A level with a reference row: the two decays of its pairs multiply to the decay between the rows. -/
theorem far_pair (n : ℕ) (β : Fin 64 → ℝ) (hβ : ∀ i j : Fin 64, j ≤ i → β i ≤ β j) (i j ri rj : Fin 64)
    (hi : ri.val = ref n i) (hj : rj.val = ref n j) (h : sibN n i.val j.val = true) :
    ((Real.exp (-|β i - β ri|) : ℝ) : EReal) * ((Real.exp (-|β j - β rj|) : ℝ) : EReal) = Ideal.exp ((β i : EReal) - (β j : EReal)) := by
  simp only [sibN, Bool.and_eq_true, beq_iff_eq] at h
  obtain ⟨⟨h1, h2⟩, h3⟩ := h
  have e : rj = ri := Fin.ext (by rw [hi, hj, ref, ref, h1])
  subst e
  have hp : (2 : ℕ) ^ (n + 1) = 2 * 2 ^ n := by rw [pow_succ]; ring
  have hpos : 0 < (2 : ℕ) ^ n := by positivity
  have hle : rj.val ≤ i.val := by
    rw [hi, ref, hp]
    have a1 := Nat.div_add_mod i.val (2 ^ n)
    have a2 : i.val / (2 * 2 ^ n) = i.val / 2 ^ n / 2 := by rw [mul_comm, Nat.div_div_eq_div_mul]
    have a3 := Nat.div_add_mod (i.val / 2 ^ n) 2
    rw [h2] at a3
    rw [a2]
    have : i.val / 2 ^ n / 2 * (2 * 2 ^ n) + 2 ^ n = 2 ^ n * (i.val / 2 ^ n) := by
      calc _ = 2 ^ n * (2 * (i.val / 2 ^ n / 2) + 1) := by ring
        _ = _ := by rw [a3]
    omega
  have hge : j.val ≤ rj.val := by
    rw [hj, ref, hp]
    have a1 := Nat.div_add_mod j.val (2 ^ n)
    have a2 : j.val / (2 * 2 ^ n) = j.val / 2 ^ n / 2 := by rw [mul_comm, Nat.div_div_eq_div_mul]
    have a3 := Nat.div_add_mod (j.val / 2 ^ n) 2
    have a4 := Nat.mod_lt j.val hpos
    rw [h3] at a3
    rw [a2]
    have : j.val / 2 ^ n / 2 * (2 * 2 ^ n) = 2 ^ n * (j.val / 2 ^ n) := by nlinarith
    omega
  have h5 := hβ i rj hle
  have h6 := hβ rj j hge
  rw [← EReal.coe_mul, ← Real.exp_add, abs_of_nonpos (by linarith), abs_of_nonneg (by linarith), ← EReal.coe_sub, Ideal.exp_coe]
  congr 2
  ring

section Near
variable (la : FVec Ideal S64x128 .f32) (α : Fin 128 → Fin 64 → ℝ) (hla : ∀ i l, la (ix2 i l) = (α l i : EReal))
include hla

/-- The factor of level 0. -/
theorem e1_at (i : Fin 64) (l : Fin 128) : e1 la (ix2 i l) = ((Real.exp (if i.val % 2 = 1 then α l i else 0) : ℝ) : EReal) := by
  unfold e1
  pointwise
  rw [and_one]
  have := select_eq_nat (i.val % 2) 1 (by omega) (by omega) (la (ix2 i l)) 0
  refine (congrArg Ideal.exp this).trans ?_
  split_ifs
  · rw [hla]; rfl
  · rfl

/-- The factor of level 1. -/
theorem e2_at (i : Fin 64) (l : Fin 128) : e2 la (ix2 i l) = ((Real.exp (if i.val % 4 = 0 then α l ⟨(i.val + 1) % 64, by omega⟩ else if i.val % 4 = 1 then 0
      else if i.val % 4 = 2 then α l i else α l i + α l ⟨(i.val + 63) % 64, by omega⟩) : ℝ) : EReal) := by
  unfold e2
  pointwise
  rw [and_three]
  have h0 := fun x y : EReal => select_eq_nat (i.val % 4) 0 (by omega) (by omega) x y
  have h1 := fun x y : EReal => select_eq_nat (i.val % 4) 1 (by omega) (by omega) x y
  have h2 := fun x y : EReal => select_eq_nat (i.val % 4) 2 (by omega) (by omega) x y
  erw [h0, h1, h2, hla, hla, hla]
  have e : (⟨(i.val + 64 - 63) % 64, by omega⟩ : Fin 64) = ⟨(i.val + 1) % 64, by omega⟩ := rfl
  split_ifs
  · rfl
  · rfl
  · rfl
  · rw [← EReal.coe_add]; rfl

end Near
/-! ## The scores -/

section Score
variable (q k la b : FVec Ideal S64x128 .f32) (α β : Fin 128 → Fin 64 → ℝ)
  (hla : ∀ i l, la (ix2 i l) = (α l i : EReal)) (hb : ∀ i l, b (ix2 i l) = (β l i : EReal))
  (hα : ∀ l i, α l i ≤ 0) (hβ : ∀ l (i j : Fin 64), i.val = j.val + 1 → β l i = β l j + α l i)

omit b la in
/-- Level 0's two factors multiply to the decay between the rows. -/
theorem near1 (hβ : ∀ l (i j : Fin 64), i.val = j.val + 1 → β l i = β l j + α l i) (i j : Fin 64) (l : Fin 128) (h : sibN 0 i.val j.val = true) :
    (if i.val % 2 = 1 then α l i else 0) + (if j.val % 2 = 1 then α l j else 0) = β l i - β l j := by
  simp only [sibN, Bool.and_eq_true, beq_iff_eq] at h
  norm_num at h
  rw [if_pos (by omega), if_neg (by omega), hβ l i j (by omega)]
  ring

/-- Level 1's two factors multiply to the decay between the rows. -/
theorem near2 (hβ : ∀ l (i j : Fin 64), i.val = j.val + 1 → β l i = β l j + α l i) (i j : Fin 64) (l : Fin 128) (h : sibN 1 i.val j.val = true) :
    (if i.val % 4 = 0 then α l ⟨(i.val + 1) % 64, by omega⟩ else if i.val % 4 = 1 then 0
      else if i.val % 4 = 2 then α l i else α l i + α l ⟨(i.val + 63) % 64, by omega⟩) +
    (if j.val % 4 = 0 then α l ⟨(j.val + 1) % 64, by omega⟩ else if j.val % 4 = 1 then 0
      else if j.val % 4 = 2 then α l j else α l j + α l ⟨(j.val + 63) % 64, by omega⟩) = β l i - β l j := by
  simp only [sibN, Bool.and_eq_true, beq_iff_eq] at h
  norm_num at h
  have hi : i.val % 4 = 2 ∨ i.val % 4 = 3 := by omega
  have hj : j.val % 4 = 0 ∨ j.val % 4 = 1 := by omega
  rcases hi with hi | hi <;> rcases hj with hj | hj <;> simp only [hi, hj] <;> norm_num
  · have h1 := hβ l i ⟨(j.val + 1) % 64, by omega⟩ (by show i.val = (j.val + 1) % 64 + 1; omega)
    have h2 := hβ l ⟨(j.val + 1) % 64, by omega⟩ j (by show (j.val + 1) % 64 = _; omega)
    linarith
  · have h1 := hβ l i j (by omega)
    linarith
  · have h0 := hβ l i ⟨(i.val + 63) % 64, by omega⟩ (by show i.val = (i.val + 63) % 64 + 1; omega)
    have h1 := hβ l ⟨(i.val + 63) % 64, by omega⟩ ⟨(j.val + 1) % 64, by omega⟩ (by show (i.val + 63) % 64 = (j.val + 1) % 64 + 1; omega)
    have h2 := hβ l ⟨(j.val + 1) % 64, by omega⟩ j (by show (j.val + 1) % 64 = _; omega)
    linarith
  · have h0 := hβ l i ⟨(i.val + 63) % 64, by omega⟩ (by show i.val = (i.val + 63) % 64 + 1; omega)
    have h1 := hβ l ⟨(i.val + 63) % 64, by omega⟩ j (by show (i.val + 63) % 64 = j.val + 1; omega)
    linarith

/-- A real exponential of a sum, as the exponential of a difference. -/
theorem exp_pair (x y u v : ℝ) (h : x + y = u - v) : ((Real.exp x : ℝ) : EReal) * ((Real.exp y : ℝ) : EReal) = Ideal.exp ((u : EReal) - (v : EReal)) := by
  rw [← EReal.coe_mul, ← Real.exp_add, h, ← EReal.coe_sub]
  rfl

include hla hb hα hβ

/-- The stacked scores are the heads' scores. -/
theorem score_at (f : Fin 2) (i j : Fin 64) :
    score q k la b (ix2 (ln f i) j) = att (fun i d => q (ix2 i (ln f d))) (fun i d => k (ix2 i (ln f d))) (fun i d => b (ix2 i (ln f d))) i j := by
  have hβ' : ∀ l (i j : Fin 64), j ≤ i → β l i ≤ β l j := fun l i j h => anti (hα l) (hβ l) h
  have rlt : ∀ n : Fin 6, ∀ i : Fin 64, ref n.val i < 64 := by decide +kernel
  have p5 : level 5#32 6#32 q k (e32 b) (ix2 (ln f i) j) = if sibN 5 i.val j.val = true then ∑ d, q (ix2 i (ln f d)) * k (ix2 j (ln f d)) * Ideal.exp ((β (ln f d) i : EReal) - (β (ln f d) j : EReal)) else 0 := level_at 5 q k (e32 b) (fun i j l => Ideal.exp ((β l i : EReal) - (β l j : EReal))) (fun i j l h => by
    rw [e32_at b β hb i l ⟨_, rlt 5 i⟩ rfl, e32_at b β hb j l ⟨_, rlt 5 j⟩ rfl]
    exact far_pair 5 (β l) (hβ' l) i j _ _ rfl rfl h) f i j
  have p4 : level 4#32 5#32 q k (e16 b) (ix2 (ln f i) j) = if sibN 4 i.val j.val = true then ∑ d, q (ix2 i (ln f d)) * k (ix2 j (ln f d)) * Ideal.exp ((β (ln f d) i : EReal) - (β (ln f d) j : EReal)) else 0 := level_at 4 q k (e16 b) (fun i j l => Ideal.exp ((β l i : EReal) - (β l j : EReal))) (fun i j l h => by
    rw [e16_at b β hb i l ⟨_, rlt 4 i⟩ rfl, e16_at b β hb j l ⟨_, rlt 4 j⟩ rfl]
    exact far_pair 4 (β l) (hβ' l) i j _ _ rfl rfl h) f i j
  have p3 : level 3#32 4#32 q k (e8 b) (ix2 (ln f i) j) = if sibN 3 i.val j.val = true then ∑ d, q (ix2 i (ln f d)) * k (ix2 j (ln f d)) * Ideal.exp ((β (ln f d) i : EReal) - (β (ln f d) j : EReal)) else 0 := level_at 3 q k (e8 b) (fun i j l => Ideal.exp ((β l i : EReal) - (β l j : EReal))) (fun i j l h => by
    rw [e8_at b β hb i l ⟨_, rlt 3 i⟩ rfl, e8_at b β hb j l ⟨_, rlt 3 j⟩ rfl]
    exact far_pair 3 (β l) (hβ' l) i j _ _ rfl rfl h) f i j
  have p2 : level 2#32 3#32 q k (e4 b) (ix2 (ln f i) j) = if sibN 2 i.val j.val = true then ∑ d, q (ix2 i (ln f d)) * k (ix2 j (ln f d)) * Ideal.exp ((β (ln f d) i : EReal) - (β (ln f d) j : EReal)) else 0 := level_at 2 q k (e4 b) (fun i j l => Ideal.exp ((β l i : EReal) - (β l j : EReal))) (fun i j l h => by
    rw [e4_at b β hb i l ⟨_, rlt 2 i⟩ rfl, e4_at b β hb j l ⟨_, rlt 2 j⟩ rfl]
    exact far_pair 2 (β l) (hβ' l) i j _ _ rfl rfl h) f i j
  have p1 : level 1#32 2#32 q k (e2 la) (ix2 (ln f i) j) = if sibN 1 i.val j.val = true then ∑ d, q (ix2 i (ln f d)) * k (ix2 j (ln f d)) * Ideal.exp ((β (ln f d) i : EReal) - (β (ln f d) j : EReal)) else 0 := level_at 1 q k (e2 la) (fun i j l => Ideal.exp ((β l i : EReal) - (β l j : EReal))) (fun i j l h => by
    rw [e2_at la α hla i l, e2_at la α hla j l]
    exact exp_pair _ _ _ _ (near2 α β hβ i j l h)) f i j
  have p0 : level 0#32 1#32 q k (e1 la) (ix2 (ln f i) j) = if sibN 0 i.val j.val = true then ∑ d, q (ix2 i (ln f d)) * k (ix2 j (ln f d)) * Ideal.exp ((β (ln f d) i : EReal) - (β (ln f d) j : EReal)) else 0 := level_at 0 q k (e1 la) (fun i j l => Ideal.exp ((β l i : EReal) - (β l j : EReal))) (fun i j l h => by
    rw [e1_at la α hla i l, e1_at la α hla j l]
    exact exp_pair _ _ _ _ (near1 α β hβ i j l h)) f i j
  have pd : select (cmpi .eq r2 c2) (qk q k) (broadcast S128x64 (Scalar.ofBits .f32 0x00000000#32)) (ix2 (ln f i) j) =
      if i.val = j.val then ∑ d, q (ix2 i (ln f d)) * k (ix2 j (ln f d)) else (0 : EReal) := by
    rw [← qk_at]
    have : (broadcast S128x64 (Scalar.ofBits (F := Ideal) .f32 0x00000000#32) : FVec Ideal S128x64 .f32) (ix2 (ln f i) j) = 0 := by pointwise
    show Scalar.select ((cmpi .eq r2 c2) (ix2 (ln f i) j)) _ (broadcast S128x64 _ _) = _
    rw [this]
    have e : (cmpi .eq r2 c2) (ix2 (ln f i) j) = IntOp.cmpi CmpIPredicate.eq (BitVec.ofNat 32 i.val) (BitVec.ofNat 32 j.val) := by
      pointwise
      rw [and_63]
    rw [e]
    exact select_eq_nat _ _ (by omega) (by omega) _ _
  have hall : score q k la b (ix2 (ln f i) j) = select (cmpi .eq r2 c2) (qk q k) (broadcast S128x64 (Scalar.ofBits .f32 0x00000000#32)) (ix2 (ln f i) j)
      + level 5#32 6#32 q k (e32 b) (ix2 (ln f i) j) + level 4#32 5#32 q k (e16 b) (ix2 (ln f i) j) + level 3#32 4#32 q k (e8 b) (ix2 (ln f i) j)
      + level 2#32 3#32 q k (e4 b) (ix2 (ln f i) j) + level 1#32 2#32 q k (e2 la) (ix2 (ln f i) j) + level 0#32 1#32 q k (e1 la) (ix2 (ln f i) j) := rfl
  rw [hall, pd, p5, p4, p3, p2, p1, p0]
  simp only [att, hb]
  have h := levels i j
  unfold seven at h
  split_ifs at h with c0 c1
  all_goals
    simp only [List.cons.injEq, and_true, beq_eq_false_iff_ne, ne_eq, beq_iff_eq] at h
    obtain ⟨g0, g5, g4, g3, g2, g1, g6⟩ := h
    rw [g5, g4, g3, g2, g1, g6]
  · rw [if_neg g0]
    simp [not_le.mpr c0]
  · subst c1
    have e0 : Ideal.exp (0 : EReal) = 1 := by
      rw [← EReal.coe_zero, Ideal.exp_coe, Real.exp_zero]; rfl
    simp [e0]
  all_goals
    rw [if_neg g0]
    simp [not_lt.mp c0]
end Score
end Gla
end Cert.KernelIdeal.Value
end
end
-- ==== Proof.GlaStep.lean ====
/-
  The gated linear attention's kernel: outputs and state of one chunk and one head.
-/
module

public import proofs.«01_k».proof.Proof.GlaScore

@[expose] public section
set_option maxRecDepth 65536
noncomputable section
namespace Cert.KernelIdeal.Value
open Cert.KernelIdeal Cert.KernelIdeal.Gen Idealize.ShloMosaic Idealize.ShloMosaic.TcCoe Idealize.SL.Sem
namespace Gla
open Cert.GlaMath

/-- What the state adds to a head's outputs. -/
theorem inter_at (q b : FVec Ideal S64x128 .f32) (st : FVec Ideal S128x128 .f32) (f : Fin 2) (i : Fin 64) (c : Fin 128) :
    inter q b st (ix2 (ln f i) c) = ∑ d, q (ix2 i (ln f d)) * Ideal.exp (b (ix2 i (ln f d))) * st (ix2 (ln f d) c) := by
  rw [← sum_lanes f fun l => q (ix2 i l) * Ideal.exp (b (ix2 i l)) * st (ix2 l c)]
  have : inter q b st (ix2 (ln f i) c) = ∑ l : Fin 128, stack (mulf q (exp b)) (ix2 (ln f i) l) * st (ix2 l c) := by
    unfold inter
    pointwise
  rw [this]
  refine Finset.sum_congr rfl fun l _ => ?_
  rw [stack_at]
  split_ifs
  · pointwise
  · exact zero_mul _

/-- The update of a pair's state, one head's block. -/
theorem upd_at (k b : FVec Ideal S64x128 .f32) (v : FVec Ideal S64x256 .f32) (l : Fin 128) (c : Fin 256) :
    upd k b v (ix2 l c) = ∑ j, k (ix2 j l) * Ideal.exp (b (ix2 63 l) - b (ix2 j l)) * v (ix2 j c) := by
  unfold upd
  pointwise

/-- Column `c` of head `f` in a pair's values. -/
abbrev vn (f : Fin 2) (c : Fin 128) : Fin 256 := ⟨128 * f.val + c.val, by omega⟩

/-- A chunk's state, a head at a time. -/
theorem step_at (k b : FVec Ideal S64x128 .f32) (v : FVec Ideal S64x256 .f32) (st : FVec Ideal S128x128 .f32) (f : Fin 2) (d : Fin 64) (c : Fin 128) :
    step k b v st (ix2 (ln f d) c) = next (fun i d => k (ix2 i (ln f d))) (fun i d => b (ix2 i (ln f d))) (fun j c => v (ix2 j (vn f c)))
      (fun d c => st (ix2 (ln f d) c)) d c := by
  have h : step k b v st (ix2 (ln f d) c) = st (ix2 (ln f d) c) * Ideal.exp (b (ix2 63 (ln f d))) +
      Scalar.select (IntOp.cmpi CmpIPredicate.slt (BitVec.ofNat 32 (ln f d).val) 64#32)
        (upd k b v (ix2 (ln f d) ⟨c.val, by omega⟩)) (upd k b v (ix2 (ln f d) ⟨128 + c.val, by omega⟩)) := by
    unfold step
    pointwise
  rw [h, select_lane]
  unfold next
  congr 1
  have hf := f.isLt
  split_ifs with h1
  · have e : vn f c = ⟨c.val, by omega⟩ := Fin.ext (by show 128 * f.val + c.val = c.val; simp only at h1; omega)
    rw [upd_at, ← e]
  · have e : vn f c = ⟨128 + c.val, by omega⟩ := Fin.ext (by show 128 * f.val + c.val = 128 + c.val; simp only at h1; omega)
    rw [upd_at, ← e]

/-- The outputs of a pair's first head. -/
theorem attn0_at (sc : FVec Ideal S128x64 .f32) (v : FVec Ideal S64x256 .f32) (it : FVec Ideal S128x128 .f32) (i : Fin 64) (c : Fin 128) :
    attn0 sc v it (ix2 i c) = (∑ j, sc (ix2 (ln 0 i) j) * v (ix2 j (vn 0 c))) + it (ix2 (ln 0 i) c) := by
  unfold attn0
  pointwise
  simp [ln, vn]

/-- The outputs of a pair's second head. -/
theorem attn1_at (sc : FVec Ideal S128x64 .f32) (v : FVec Ideal S64x256 .f32) (it : FVec Ideal S128x128 .f32) (i : Fin 64) (c : Fin 128) :
    attn1 sc v it (ix2 i c) = (∑ j, sc (ix2 (ln 1 i) j) * v (ix2 j (vn 1 c))) + it (ix2 (ln 1 i) c) := by
  unfold attn1
  pointwise
  try simp [ln, vn]

/-- A head's outputs, normed and gated. -/
theorem headOut_at (o : FVec Ideal S64x128 .f32) (ng : FVec Ideal S1x128 .f32) (g : FVec Ideal S64x128 .f32) (i : Fin 64) (c : Fin 128) :
    headOut o ng g (ix2 i c) = headRow (fun c => o (ix2 i c)) (fun c => ng (ix2 0 c)) (fun c => g (ix2 i c)) c := by
  unfold headOut headRow
  rw [← Cert.Dense.tanh_gate]
  pointwise
  simp only [mul_assoc]

end Gla
end Cert.KernelIdeal.Value
end
end
-- ==== Proof.GlaLoad.lean ====
/-
  The gated linear attention's kernel: projections, decays and running sums of a tile.
-/
module

public import proofs.«01_k».proof.Proof.GlaRun
public import proofs.«01_k».proof.Proof.GlaStep

@[expose] public section
set_option maxRecDepth 65536
noncomputable section
namespace Cert.KernelIdeal.Value
open Cert.KernelIdeal Cert.KernelIdeal.Gen Idealize.ShloMosaic Idealize.ShloMosaic.TcCoe Idealize.SL.Sem
namespace Gla
open Cert.GlaMath

/-- A tile of the projection is the sum over the token's features. -/
theorem proj_at (x : FVec Ideal S256x1024 .f32) (w : FVec Ideal S1x1024x256 .bf16) (r c : Fin 256) :
    proj (F := Ideal) x w (ix2 r c) = ∑ k : Fin 1024, x (ix2 r k) * w (ix3 0 k c) := by
  unfold proj
  pointwise

/-- A tile of the decays' first product is the sum over the token's features. -/
theorem low_at (x : FVec Ideal S256x1024 .f32) (w : FVec Ideal S1x1024x128 .bf16) (r : Fin 256) (c : Fin 128) :
    low (F := Ideal) x w (ix2 r c) = ∑ k : Fin 1024, x (ix2 r k) * w (ix3 0 k c) := by
  unfold low
  pointwise

/-- The decays before their sigmoid: the product in two parts adds up to the plain product, if its left factor is real. -/
theorem pre_at (a : FVec Ideal S256x128 .f32) (w : FVec Ideal S1x128x256 .f32) (g : FVec Ideal S1x1x256 .f32)
    (ha : ∀ r m, Real' (a (ix2 r m))) (hw : ∀ m c, Real' (w (ix3 0 m c))) (r c : Fin 256) :
    pre (F := Ideal) a w g (ix2 r c) = (∑ m : Fin 128, a (ix2 r m) * w (ix3 0 m c)) + g (ix3 0 0 c) := by
  unfold pre
  pointwise
  have h1 : ∀ m, w (ix3 0 m c) - w (ix3 0 m c) = 0 := fun m => (hw m c).sub_self
  have h2 : ∀ m, a (ix2 r m) - a (ix2 r m) = 0 := fun m => (ha r m).sub_self
  simp only [h1, h2, mul_zero, zero_mul, Finset.sum_const_zero, add_zero]

/-- The kernel's log-decay. -/
theorem logA_at (z : FVec Ideal S256x256 .f32) (r c : Fin 256) : logA z (ix2 r c) = laf (z (ix2 r c)) := by
  unfold logA laf
  pointwise
  rfl

/-- A choice by the lower triangle is a choice by the order of row and column. -/
theorem select_tril {α : Type} (i j : Fin 64) (x y : α) :
    Scalar.select (IntOp.cmpi CmpIPredicate.sge (BitVec.ofNat 32 i.val) (BitVec.ofNat 32 j.val)) x y = if j ≤ i then x else y := by
  have h : ∀ i j : Fin 64, IntOp.cmpi CmpIPredicate.sge (BitVec.ofNat 32 i.val) (BitVec.ofNat 32 j.val) = if j ≤ i then 1#1 else 0#1 := by decide +kernel
  rw [h]
  unfold Scalar.select
  by_cases c : j ≤ i
  · rw [if_pos c, if_pos c]; exact if_pos rfl
  · rw [if_neg c, if_neg c]; exact if_neg (by decide)

/-- The running sums of a chunk: products with a triangle of ones, in two parts that add up. -/
theorem csum_at (a : FVec Ideal S64x256 .f32) (ha : ∀ j c, Real' (a (ix2 j c))) (i : Fin 64) (c : Fin 256) :
    csum a (ix2 i c) = runs (fun j => a (ix2 j c)) i := by
  unfold csum tril runs
  pointwise
  have h1 : ∀ j, a (ix2 j c) - a (ix2 j c) = 0 := fun j => (ha j c).sub_self
  simp only [h1, select_tril, sub_zero, mul_zero, Finset.sum_const_zero, zero_add, ite_mul, zero_mul, one_mul]
  simp only [ite_self, Finset.sum_const_zero, zero_add]

/-- A slice of 64 rows. -/
theorem slice_at (a : FVec Ideal S256x256 .f32) (o : ℕ) (ho : o + 64 ≤ 256) (h : S256x256.Slices ![o, 0] S64x256) (j : Fin 64) (c : Fin 256) :
    extractStridedSlice S64x256 ![o, 0] a h (ix2 j c) = a (ix2 ⟨o + j.val, by omega⟩ c) := by
  pointwise

/-- The running sums of one chunk of a quarter. -/
theorem part_at (a : FVec Ideal S256x256 .f32) (ha : ∀ j c, Real' (a (ix2 j c))) (o : ℕ) (ho : o + 64 ≤ 256) (hm : o % 64 = 0) (h : S256x256.Slices ![o, 0] S64x256)
    (r : Fin 256) (j : Fin 64) (hj : r.val = o + j.val) (c : Fin 256) :
    csum (extractStridedSlice S64x256 ![o, 0] a h) (ix2 j c) = runs (fun j => a (ix2 ⟨64 * (r.val / 64) + j.val, by omega⟩ c)) ⟨r.val % 64, by omega⟩ := by
  rw [csum_at _ (fun j c => by rw [slice_at a o ho]; exact ha _ _)]
  have e : (⟨r.val % 64, by omega⟩ : Fin 64) = j := Fin.ext (by simp only; omega)
  rw [e]
  congr 1
  funext j
  rw [slice_at a o ho]
  congr 2
  exact Fin.ext (by simp only; omega)

/-- The running sums of a quarter, chunk by chunk. -/
theorem csums_at (a : FVec Ideal S256x256 .f32) (ha : ∀ j c, Real' (a (ix2 j c))) (r c : Fin 256) :
    csums a (ix2 r c) = runs (fun j => a (ix2 ⟨64 * (r.val / 64) + j.val, by omega⟩ c)) ⟨r.val % 64, by omega⟩ := by
  unfold csums
  pointwise
  split
  · exact part_at a ha 0 (by norm_num) rfl _ r _ (by simp only; omega) c
  · split
    · exact part_at a ha 64 (by norm_num) rfl _ r _ (by simp only; omega) c
    · split
      · exact part_at a ha 128 (by norm_num) rfl _ r _ (by simp only; omega) c
      · exact part_at a ha 192 (by norm_num) rfl _ r _ (by simp only; omega) c

end Gla
end Cert.KernelIdeal.Value
end
end
-- ==== Proof.GlaPieces.lean ====
/-
  The gated linear attention's kernel: a grid point leaves the listed pieces.
-/
module

public import proofs.«01_k».proof.Proof.GlaRun

@[expose] public section
set_option maxRecDepth 65536
noncomputable section
namespace Cert.KernelIdeal.Value
open Cert.KernelIdeal Cert.KernelIdeal.Gen Idealize.ShloMosaic Idealize.ShloMosaic.TcCoe Idealize.SL.Sem
namespace Gla
variable {F : FTy → Type} [FloatOps F]
variable (c : Dev nD) (i : grid0.Coords) (arg2 : Memref sig .tc .vmem S1024x1024 .f32) (harg2 : arg2.IsWhole) (arg3 : Memref sig .tc .vmem S1x1024x1664 .bf16) (harg3 : arg3.IsWhole)
  (arg4 : Memref sig .tc .vmem S1x128x256 .f32) (harg4 : arg4.IsWhole) (arg5 : Memref sig .tc .vmem S1x1x256 .f32) (harg5 : arg5.IsWhole)
  (arg6 : Memref sig .tc .vmem S1x1x128 .f32) (harg6 : arg6.IsWhole) (arg7 : Memref sig .tc .vmem S1024x512 .bf16) (harg7 : arg7.IsWhole)
  (arg8 : Memref sig .tc .vmem S1024x1536 .f32) (harg8 : arg8.IsWhole) (arg9 : Memref sig .tc .vmem S1024x256 .f32) (harg9 : arg9.IsWhole)
  (arg10 : Memref sig .tc .vmem S1024x256 .f32) (harg10 : arg10.IsWhole) (arg11 : Memref sig .tc .vmem S2x128x128 .f32) (harg11 : arg11.IsWhole)
  (x0 : Vec F S1024x1024 .f32) (x1 : Vec F S1x1024x1664 .bf16) (x2 : Vec F S1x128x256 .f32) (x3 : Vec F S1x1x256 .f32) (x4 : Vec F S1x1x128 .f32)
  (xs3 : Vec F S2x128x128 .f32)
set_option maxHeartbeats 4000000

/-- The state's pieces in a run that clears it first: zeros everywhere. -/
abbrev zeroSt : List (View.Piece (Elt F) S2x128x128 .f32) :=
  [⟨Rect.unit (s := S2x128x128) ![0, 0, 0] S2x128x128.size inb_S2x128x128_S2x128x128_0_0_0, k0_pay4⟩]

/-- The loads of a pair's carried state. -/
def carried (p : Fin 2) : Vec F S1x128x128 .f32 :=
  View.readAt (Elt F) arg11.view (Rect.unit (s := S2x128x128) ![p.val, 0, 0] S1x128x128.size
    (by intro a; fin_cases a <;> simp [S1x128x128, S2x128x128] <;> omega)).toLoadRect (harg11.unread xs3)

/-- The output pieces of a run that clears the state. -/
theorem outs_A (hc0 : cond0_0 i) : (kernelRun0_A c i arg2 harg2 arg3 harg3 arg4 harg4 arg5 harg5 arg6 harg6 arg7 harg7 arg8 harg8 arg9 harg9 arg10 harg10 arg11 harg11 hc0 x0 x1 x2 x3 x4).1 =
    outs arg2 harg2 arg3 harg3 arg4 harg4 arg5 harg5 arg6 harg6 arg8 arg9 arg10 arg11 x0 x1 x2 x3 x4 (ldst arg11 zeroSt) zeroSt := by
  unfold kernelRun0_A
  dsimp only
  rfl

/-- The state pieces of a run that clears the state. -/
theorem sts_A (hc0 : cond0_0 i) : (kernelRun0_A c i arg2 harg2 arg3 harg3 arg4 harg4 arg5 harg5 arg6 harg6 arg7 harg7 arg8 harg8 arg9 harg9 arg10 harg10 arg11 harg11 hc0 x0 x1 x2 x3 x4).2.1 =
    (blks arg2 harg2 arg3 harg3 arg4 harg4 arg5 harg5 arg8 arg10 arg11 x0 x1 x2 x3 (ldst arg11 zeroSt) zeroSt 4).2 := by
  unfold kernelRun0_A
  dsimp only
  rfl

/-- The output pieces of a run that finds the state of the run before. -/
theorem outs_B (hc0 : ¬cond0_0 i) : (kernelRun0_B c i arg2 harg2 arg3 harg3 arg4 harg4 arg5 harg5 arg6 harg6 arg7 harg7 arg8 harg8 arg9 harg9 arg10 harg10 arg11 harg11 hc0 x0 x1 x2 x3 x4 xs3).1 =
    outs arg2 harg2 arg3 harg3 arg4 harg4 arg5 harg5 arg6 harg6 arg8 arg9 arg10 arg11 x0 x1 x2 x3 x4 (carried arg11 harg11 xs3) [] := by
  unfold kernelRun0_B
  dsimp only
  rfl

/-- The state pieces of a run that finds the state of the run before. -/
theorem sts_B (hc0 : ¬cond0_0 i) : (kernelRun0_B c i arg2 harg2 arg3 harg3 arg4 harg4 arg5 harg5 arg6 harg6 arg7 harg7 arg8 harg8 arg9 harg9 arg10 harg10 arg11 harg11 hc0 x0 x1 x2 x3 x4 xs3).2.1 =
    (blks arg2 harg2 arg3 harg3 arg4 harg4 arg5 harg5 arg8 arg10 arg11 x0 x1 x2 x3 (carried arg11 harg11 xs3) [] 4).2 := by
  unfold kernelRun0_B
  dsimp only
  rfl
end Gla
end Cert.KernelIdeal.Value
end
end
-- ==== Proof.GlaBlock.lean ====
/-
  The gated linear attention's kernel: what the loads of a chunk read from the stores of its block.
-/
module

public import proofs.«01_k».proof.Proof.GlaLoad
public import proofs.«01_k».proof.Proof.GlaPieces

@[expose] public section
set_option maxRecDepth 65536
noncomputable section
namespace Cert.KernelIdeal.Value
open Cert.KernelIdeal Cert.KernelIdeal.Gen Idealize.ShloMosaic Idealize.ShloMosaic.TcCoe Idealize.SL.Sem
namespace Gla
open Cert.GlaMath
variable (arg2 : Memref sig .tc .vmem S1024x1024 .f32) (harg2 : arg2.IsWhole) (arg3 : Memref sig .tc .vmem S1x1024x1664 .bf16) (harg3 : arg3.IsWhole)
  (arg4 : Memref sig .tc .vmem S1x128x256 .f32) (harg4 : arg4.IsWhole) (arg5 : Memref sig .tc .vmem S1x1x256 .f32) (harg5 : arg5.IsWhole)
  (arg6 : Memref sig .tc .vmem S1x1x128 .f32) (harg6 : arg6.IsWhole)
  (arg8 : Memref sig .tc .vmem S1024x1536 .f32) (arg9 : Memref sig .tc .vmem S1024x256 .f32)
  (arg10 : Memref sig .tc .vmem S1024x256 .f32) (arg11 : Memref sig .tc .vmem S2x128x128 .f32) (harg11 : arg11.IsWhole)
  (x0 : FVec Ideal S1024x1024 .f32) (x1 : FVec Ideal S1x1024x1664 .bf16) (x2 : FVec Ideal S1x128x256 .f32) (x3 : FVec Ideal S1x1x256 .f32) (x4 : FVec Ideal S1x1x128 .f32)
  (ini : Fin 2 → FVec Ideal S1x128x128 .f32) (base : List (View.Piece (Elt Ideal) S2x128x128 .f32))

/-- An entry of a block's projection. -/
def H (r : Fin 1024) (c : Fin 1664) : EReal := ∑ k : Fin 1024, x0 (ix2 r k) * x1 (ix3 0 k c)

/-- An entry of a block's decays before their sigmoid. -/
def Z (r : Fin 1024) (c : Fin 256) : EReal := (∑ m : Fin 128, H x0 x1 r ⟨1536 + m.val, by omega⟩ * x2 (ix3 0 m c)) + x3 (ix3 0 0 c)

/-- An entry of a block's log-decays. -/
def LA (r : Fin 1024) (c : Fin 256) : EReal := laf (Z x0 x1 x2 x3 r c)

/-- An entry of their running sums. -/
def B (r : Fin 1024) (c : Fin 256) : EReal :=
  runs (fun j => LA x0 x1 x2 x3 ⟨64 * (r.val / 64) + j.val, by omega⟩ c) ⟨r.val % 64, by omega⟩

/-- The projection's entries at an index. -/
def G0 (y : S1024x1536.Idx) : Elt Ideal .f32 := H x0 x1 (y 0) ⟨(y 1).val, by have : (y 1).val < 1536 := (y 1).isLt; omega⟩
/-- The log-decays' entries at an index. -/
def G1 (y : S1024x256.Idx) : Elt Ideal .f32 := LA x0 x1 x2 x3 (y 0) (y 1)
/-- Their running sums' entries at an index. -/
def G2 (y : S1024x256.Idx) : Elt Ideal .f32 := B x0 x1 x2 x3 (y 0) (y 1)

/-- A load of a whole buffer's box is the contents there. -/
theorem load_at {s : Shape} {e : EltTy} (a : Memref sig .tc .vmem s e) (ha : a.IsWhole) (X : Vec Ideal s e) (r : LoadRect s) (j : r.shape.Idx) :
    View.readAt (Elt Ideal) a.view r (ha.unread X) j = X (r.idx j) := by
  exact congrFun (ha.read_unread X) (r.idx j)

/-- The entries of a quarter of the block's tokens. -/
theorem xs_at (s : Fin 4) (r : Fin 256) (k : Fin 1024) : xs (F := Ideal) arg2 harg2 x0 s (ix2 r k) = x0 (ix2 ⟨256 * s.val + r.val, by omega⟩ k) := by
  unfold xs
  rw [load_at]
  congr 1
  funext a
  apply Fin.ext
  fin_cases a
  · show 256 * s.val + 1 * r.val = 256 * s.val + r.val; omega
  · show 0 + 1 * k.val = k.val; omega

/-- The entries of a group of 256 projection columns. -/
theorem ws_at (i : Fin 6) (k : Fin 1024) (c : Fin 256) : ws (F := Ideal) arg3 harg3 x1 i (ix3 0 k c) = x1 (ix3 0 k ⟨256 * i.val + c.val, by omega⟩) := by
  unfold ws
  rw [load_at]
  congr 1
  funext a
  apply Fin.ext
  fin_cases a
  · rfl
  · show 0 + 1 * k.val = k.val; omega
  · show 256 * i.val + 1 * c.val = 256 * i.val + c.val; omega

/-- The projection's pieces hold its entries. -/
theorem hs0_agree (n : ℕ) : ∀ p ∈ hs0 (F := Ideal) arg2 harg2 arg3 harg3 x0 x1 n, ∀ x,
    p.2 x = G0 x0 x1 (p.1.emb x) := by
  induction n with
  | zero => intro p hp; exact absurd hp (List.not_mem_nil)
  | succ n ih =>
    intro p hp
    rcases List.mem_cons.mp hp with rfl | hp
    · intro x
      obtain ⟨r, c, rfl⟩ : ∃ r c : Fin 256, x = ix2 r c := ⟨x 0, x 1, eq_ix2 (n0 := 256) (n1 := 256) x⟩
      refine (proj_at _ _ r c).trans ?_
      unfold G0 H
      refine Finset.sum_congr rfl fun k _ => ?_
      rw [xs_at, ws_at]
      congr 2
      · congr 1
        exact Fin.ext (by show 256 * (fin 4 (n / 6)).val + r.val = 256 * (fin 4 (n / 6)).val + 1 * r.val; omega)
      · congr 1
        exact Fin.ext (by show 256 * (fin 6 n).val + c.val = 256 * (fin 6 n).val + 1 * c.val; omega)
    · exact ih p hp

/-- The first `n` pieces cover the first `n` blocks. -/
theorem hs0_cov (n : ℕ) (hn : n ≤ 24) (y : S1024x1536.Idx) (h : 6 * ((y 0).val / 256) + (y 1).val / 256 < n) :
    ∃ p ∈ hs0 (F := Ideal) arg2 harg2 arg3 harg3 x0 x1 n, y ∈ p.1.set := by
  have h1 : (y 1).val < 1536 := (y 1).isLt
  have h0 : (y 0).val < 1024 := (y 0).isLt
  induction n with
  | zero => omega
  | succ n ih =>
    by_cases e : 6 * ((y 0).val / 256) + (y 1).val / 256 = n
    · refine ⟨_, List.mem_cons_self, ?_⟩
      rw [Rect.mem_set_unit]
      have e1 : (fin 4 (n / 6)).val = (n / 6) % 4 := rfl
      have e2 : (fin 6 n).val = n % 6 := rfl
      intro a
      fin_cases a
      · show 256 * (fin 4 (n / 6)).val ≤ (y 0).val ∧ (y 0).val < 256 * (fin 4 (n / 6)).val + 256
        rw [e1]; omega
      · show 256 * (fin 6 n).val ≤ (y 1).val ∧ (y 1).val < 256 * (fin 6 n).val + 256
        rw [e2]; omega
    · obtain ⟨p, hp, hy⟩ := ih (by omega) (by omega)
      exact ⟨p, List.mem_cons_of_mem _ hp, hy⟩

/-- What a 128-column load of a chunk reads from the projections stored so far. -/
theorem ld8_at (n : ℕ) (hn : n ≤ 24) (j : Fin 16) (i : Fin 12) (r : Fin 64) (c : Fin 128) (h : 6 * (j.val / 4) + i.val / 2 < n) :
    ld8 (F := Ideal) arg2 harg2 arg3 harg3 arg8 x0 x1 n j i (ix2 r c) = H x0 x1 ⟨64 * j.val + r.val, by omega⟩ ⟨128 * i.val + c.val, by omega⟩ := by
  unfold ld8
  rw [View.readCov_eq_canon']
  refine (View.canon_apply_of_pieces (G0 x0 x1) _ (hs0_agree arg2 harg2 arg3 harg3 x0 x1 n) _ (hs0_cov _ _ _ _ _ _ n hn _ ?_)).trans ?_
  · show 6 * ((64 * j.val + 1 * r.val) / 256) + (128 * i.val + 1 * c.val) / 256 < n
    omega
  · show H x0 x1 ⟨64 * j.val + 1 * r.val, _⟩ ⟨128 * i.val + 1 * c.val, _⟩ = _
    simp only [one_mul]

/-- What a 256-column load of a chunk's values reads from the projections. -/
theorem ldv_at (j : Fin 16) (p : Fin 2) (r : Fin 64) (c : Fin 256) :
    ldv (F := Ideal) arg2 harg2 arg3 harg3 arg8 x0 x1 j p (ix2 r c) = H x0 x1 ⟨64 * j.val + r.val, by omega⟩ ⟨512 + 256 * p.val + c.val, by omega⟩ := by
  unfold ldv
  rw [View.readCov_eq_canon']
  refine (View.canon_apply_of_pieces (G0 x0 x1) _ (hs0_agree arg2 harg2 arg3 harg3 x0 x1 _) _ (hs0_cov _ _ _ _ _ _ _ (by omega) _ ?_)).trans ?_
  · show 6 * ((64 * j.val + 1 * r.val) / 256) + (512 + 256 * p.val + 1 * c.val) / 256 < 6 * (j.val / 4 + 1)
    omega
  · show H x0 x1 ⟨64 * j.val + 1 * r.val, _⟩ ⟨512 + 256 * p.val + 1 * c.val, _⟩ = _
    simp only [one_mul]

variable (hlow : ∀ r (m : Fin 128), Real' (H x0 x1 r ⟨1536 + m.val, by omega⟩)) (hw2 : ∀ m c, Real' (x2 (ix3 0 m c))) (hg : ∀ c, Real' (x3 (ix3 0 0 c)))

include hlow hw2 hg in
/-- The decays are real before their sigmoid. -/
theorem Z_real (r : Fin 1024) (c : Fin 256) : Real' (Z x0 x1 x2 x3 r c) :=
  (Real'.sum _ fun m => (hlow r m).mul (hw2 m c)).add (hg c)

include hlow hw2 hg in
/-- The log-decays are real and at most zero. -/
theorem LA_real : ∃ α : Fin 1024 → Fin 256 → ℝ, ∀ r c, LA x0 x1 x2 x3 r c = (α r c : EReal) ∧ α r c ≤ 0 := by
  have h : ∀ r c, ∃ a : ℝ, LA x0 x1 x2 x3 r c = (a : EReal) ∧ a ≤ 0 := fun r c => by
    obtain ⟨z, hz⟩ := Z_real x0 x1 x2 x3 hlow hw2 hg r c
    refine ⟨_, (congrArg laf hz).trans (laf_coe z), ?_⟩
    have := lsig_nonpos z
    linarith
  choose α hα using h
  exact ⟨α, hα⟩

include hlow hw2 in
/-- The log-decays of a quarter of the block. -/
theorem las_at (s : Fin 4) (r c : Fin 256) :
    las (F := Ideal) arg2 harg2 arg3 harg3 arg4 harg4 arg5 harg5 x0 x1 x2 x3 s (ix2 r c) = LA x0 x1 x2 x3 ⟨256 * s.val + r.val, by omega⟩ c := by
  have low' : ∀ (r : Fin 256) (m : Fin 128), low (xs (F := Ideal) arg2 harg2 x0 s) (View.readAt (Elt Ideal) arg3.view (Rect.unit (s := S1x1024x1664) ![0, 0, 1536] S1x1024x128.size inb_S1x1024x1664_S1x1024x128_0_0_1536).toLoadRect (harg3.unread x1)) (ix2 r m)
      = H x0 x1 ⟨256 * s.val + r.val, by omega⟩ ⟨1536 + m.val, by omega⟩ := fun r m => by
    rw [low_at]
    unfold H
    refine Finset.sum_congr rfl fun k _ => ?_
    rw [xs_at, load_at]
    congr 2
    funext a
    apply Fin.ext
    fin_cases a
    · rfl
    · show 0 + 1 * k.val = k.val; omega
    · show 1536 + 1 * m.val = 1536 + m.val; omega
  have w2' : ∀ (m : Fin 128) (c : Fin 256), View.readAt (Elt Ideal) arg4.view (Rect.unit (s := S1x128x256) ![0, 0, 0] S1x128x256.size inb_S1x128x256_S1x128x256_0_0_0).toLoadRect (harg4.unread x2) (ix3 0 m c)
      = x2 (ix3 0 m c) := fun m c => by
    rw [load_at]
    congr 1
    funext a
    apply Fin.ext
    fin_cases a
    · rfl
    · show 0 + 1 * m.val = m.val; omega
    · show 0 + 1 * c.val = c.val; omega
  unfold las LA Z
  rw [logA_at, pre_at _ _ _ (fun r m => by rw [low']; exact hlow _ _) (fun m c => by rw [w2']; exact hw2 _ _)]
  congr 2
  · refine Finset.sum_congr rfl fun m _ => ?_
    rw [low', w2']
  · rw [load_at]
    congr 1
    funext a
    apply Fin.ext
    fin_cases a
    · rfl
    · rfl
    · show 0 + 1 * c.val = c.val; omega

include hlow hw2 in
/-- The stores of the log-decays hold the log-decays. -/
theorem hs1_agree (n : ℕ) : ∀ p ∈ hs1 (F := Ideal) arg2 harg2 arg3 harg3 arg4 harg4 arg5 harg5 x0 x1 x2 x3 n, ∀ x,
    p.2 x = G1 x0 x1 x2 x3 (p.1.emb x) := by
  induction n with
  | zero => intro p hp; exact absurd hp (List.not_mem_nil)
  | succ n ih =>
    intro p hp
    rcases List.mem_cons.mp hp with rfl | hp
    · intro x
      obtain ⟨r, c, rfl⟩ : ∃ r c : Fin 256, x = ix2 r c := ⟨x 0, x 1, eq_ix2 (n0 := 256) (n1 := 256) x⟩
      refine (congrFun (shapeCast_self _ _) (ix2 r c)).trans ((las_at _ _ _ _ _ _ _ _ _ _ _ _ hlow hw2 _ r c).trans ?_)
      unfold G1
      congr 1
      · exact Fin.ext (by show 256 * (fin 4 n).val + r.val = 256 * (fin 4 n).val + 1 * r.val; omega)
      · exact Fin.ext (by show c.val = 0 + 1 * c.val; omega)
    · exact ih p hp

include hlow hw2 hg in
/-- The stores of the running sums hold the running sums. -/
theorem hs2_agree (n : ℕ) : ∀ p ∈ hs2 (F := Ideal) arg2 harg2 arg3 harg3 arg4 harg4 arg5 harg5 x0 x1 x2 x3 n, ∀ x,
    p.2 x = G2 x0 x1 x2 x3 (p.1.emb x) := by
  obtain ⟨α, hα⟩ := LA_real x0 x1 x2 x3 hlow hw2 hg
  induction n with
  | zero => intro p hp; exact absurd hp (List.not_mem_nil)
  | succ n ih =>
    intro p hp
    rcases List.mem_cons.mp hp with rfl | hp
    · intro x
      obtain ⟨r, c, rfl⟩ : ∃ r c : Fin 256, x = ix2 r c := ⟨x 0, x 1, eq_ix2 (n0 := 256) (n1 := 256) x⟩
      refine (csums_at _ (fun r c => by rw [las_at _ _ _ _ _ _ _ _ _ _ _ _ hlow hw2]; exact ⟨_, (hα _ _).1⟩) r c).trans ?_
      unfold G2 B
      congr 1
      · funext j
        rw [las_at _ _ _ _ _ _ _ _ _ _ _ _ hlow hw2]
        congr 1
        · exact Fin.ext (by show 256 * (fin 4 n).val + (64 * (r.val / 64) + j.val) = 64 * ((256 * (fin 4 n).val + 1 * r.val) / 64) + j.val; omega)
        · exact Fin.ext (by show c.val = 0 + 1 * c.val; omega)
      · exact Fin.ext (by show r.val % 64 = (256 * (fin 4 n).val + 1 * r.val) % 64; omega)
    · exact ih p hp

/-- The first `n` stores of the log-decays cover the first `n` quarters. -/
theorem hs1_cov (n : ℕ) (hn : n ≤ 4) (y : S1024x256.Idx) (h : (y 0).val / 256 < n) :
    ∃ p ∈ hs1 (F := Ideal) arg2 harg2 arg3 harg3 arg4 harg4 arg5 harg5 x0 x1 x2 x3 n, y ∈ p.1.set := by
  have h1 : (y 1).val < 256 := (y 1).isLt
  induction n with
  | zero => omega
  | succ n ih =>
    by_cases e : (y 0).val / 256 = n
    · refine ⟨_, List.mem_cons_self, ?_⟩
      rw [Rect.mem_set_unit]
      have e1 : (fin 4 n).val = n % 4 := rfl
      intro a
      fin_cases a
      · show 256 * (fin 4 n).val ≤ (y 0).val ∧ (y 0).val < 256 * (fin 4 n).val + 256
        rw [e1]; omega
      · show 0 ≤ (y 1).val ∧ (y 1).val < 0 + 256
        omega
    · obtain ⟨p, hp, hy⟩ := ih (by omega) (by omega)
      exact ⟨p, List.mem_cons_of_mem _ hp, hy⟩

/-- The first `n` stores of the running sums cover the first `n` quarters. -/
theorem hs2_cov (n : ℕ) (hn : n ≤ 4) (y : S1024x256.Idx) (h : (y 0).val / 256 < n) :
    ∃ p ∈ hs2 (F := Ideal) arg2 harg2 arg3 harg3 arg4 harg4 arg5 harg5 x0 x1 x2 x3 n, y ∈ p.1.set := by
  have h1 : (y 1).val < 256 := (y 1).isLt
  induction n with
  | zero => omega
  | succ n ih =>
    by_cases e : (y 0).val / 256 = n
    · refine ⟨_, List.mem_cons_self, ?_⟩
      rw [Rect.mem_set_unit]
      have e1 : (fin 4 n).val = n % 4 := rfl
      intro a
      fin_cases a
      · show 256 * (fin 4 n).val ≤ (y 0).val ∧ (y 0).val < 256 * (fin 4 n).val + 256
        rw [e1]; omega
      · show 0 ≤ (y 1).val ∧ (y 1).val < 0 + 256
        omega
    · obtain ⟨p, hp, hy⟩ := ih (by omega) (by omega)
      exact ⟨p, List.mem_cons_of_mem _ hp, hy⟩

include hlow hw2 in
/-- The log-decays of a chunk and a pair of heads, as loaded. -/
theorem ldl_at (j : Fin 16) (p : Fin 2) (r : Fin 64) (c : Fin 128) :
    ldl (F := Ideal) arg2 harg2 arg3 harg3 arg4 harg4 arg5 harg5 arg9 x0 x1 x2 x3 j p (ix2 r c) = LA x0 x1 x2 x3 ⟨64 * j.val + r.val, by omega⟩ ⟨128 * p.val + c.val, by omega⟩ := by
  unfold ldl
  rw [View.readCov_eq_canon']
  refine (View.canon_apply_of_pieces (G1 x0 x1 x2 x3) _ (hs1_agree arg2 harg2 arg3 harg3 arg4 harg4 arg5 harg5 x0 x1 x2 x3 hlow hw2 _) _ (hs1_cov _ _ _ _ _ _ _ _ _ _ _ _ _ (by omega) _ ?_)).trans ?_
  · show (64 * j.val + 1 * r.val) / 256 < j.val / 4 + 1
    omega
  · show LA x0 x1 x2 x3 ⟨64 * j.val + 1 * r.val, _⟩ ⟨128 * p.val + 1 * c.val, _⟩ = _
    simp only [one_mul]

include hlow hw2 hg in
/-- The running sums of a chunk and a pair of heads, as loaded. -/
theorem ldb_at (j : Fin 16) (p : Fin 2) (r : Fin 64) (c : Fin 128) :
    ldb (F := Ideal) arg2 harg2 arg3 harg3 arg4 harg4 arg5 harg5 arg10 x0 x1 x2 x3 j p (ix2 r c) = B x0 x1 x2 x3 ⟨64 * j.val + r.val, by omega⟩ ⟨128 * p.val + c.val, by omega⟩ := by
  unfold ldb
  rw [View.readCov_eq_canon']
  refine (View.canon_apply_of_pieces (G2 x0 x1 x2 x3) _ (hs2_agree arg2 harg2 arg3 harg3 arg4 harg4 arg5 harg5 x0 x1 x2 x3 hlow hw2 hg _) _ (hs2_cov _ _ _ _ _ _ _ _ _ _ _ _ _ (by omega) _ ?_)).trans ?_
  · show (64 * j.val + 1 * r.val) / 256 < j.val / 4 + 1
    omega
  · show B x0 x1 x2 x3 ⟨64 * j.val + 1 * r.val, _⟩ ⟨128 * p.val + 1 * c.val, _⟩ = _
    simp only [one_mul]

end Gla
end Cert.KernelIdeal.Value
end
end
-- ==== Proof.GlaChunk.lean ====
/-
  The gated linear attention's kernel: the chunks of a block, one after another, with the state carried along.
-/
module

public import proofs.«01_k».proof.Proof.GlaBlock

@[expose] public section
set_option maxRecDepth 65536
noncomputable section
namespace Cert.KernelIdeal.Value
open Cert.KernelIdeal Cert.KernelIdeal.Gen Idealize.ShloMosaic Idealize.ShloMosaic.TcCoe Idealize.SL.Sem
namespace Gla
open Cert.GlaMath
variable (arg2 : Memref sig .tc .vmem S1024x1024 .f32) (harg2 : arg2.IsWhole) (arg3 : Memref sig .tc .vmem S1x1024x1664 .bf16) (harg3 : arg3.IsWhole)
  (arg4 : Memref sig .tc .vmem S1x128x256 .f32) (harg4 : arg4.IsWhole) (arg5 : Memref sig .tc .vmem S1x1x256 .f32) (harg5 : arg5.IsWhole)
  (arg6 : Memref sig .tc .vmem S1x1x128 .f32) (harg6 : arg6.IsWhole)
  (arg8 : Memref sig .tc .vmem S1024x1536 .f32) (arg9 : Memref sig .tc .vmem S1024x256 .f32)
  (arg10 : Memref sig .tc .vmem S1024x256 .f32) (arg11 : Memref sig .tc .vmem S2x128x128 .f32) (harg11 : arg11.IsWhole)
  (x0 : FVec Ideal S1024x1024 .f32) (x1 : FVec Ideal S1x1024x1664 .bf16) (x2 : FVec Ideal S1x128x256 .f32) (x3 : FVec Ideal S1x1x256 .f32) (x4 : FVec Ideal S1x1x128 .f32)
  (ini : Fin 2 → FVec Ideal S1x128x128 .f32) (base : List (View.Piece (Elt Ideal) S2x128x128 .f32))

/-- The head in place `f` of pair `p`. -/
abbrev hd (p f : Fin 2) : Fin 4 := ⟨2 * p.val + f.val, by omega⟩

/-- Queries, keys, running sums, values and gates of a head in chunk `j` of a block. -/
def qf (j : Fin 16) (h : Fin 4) (i d : Fin 64) : EReal := H x0 x1 ⟨64 * j.val + i.val, by omega⟩ ⟨64 * h.val + d.val, by omega⟩ * Ideal.ofBits .f32 0x3E000000#32
/-- The keys of a chunk of the block. -/
def kf (j : Fin 16) (h : Fin 4) (i d : Fin 64) : EReal := H x0 x1 ⟨64 * j.val + i.val, by omega⟩ ⟨256 + 64 * h.val + d.val, by omega⟩
/-- The running log-decays of a chunk of the block. -/
def bf (j : Fin 16) (h : Fin 4) (i d : Fin 64) : EReal := B x0 x1 x2 x3 ⟨64 * j.val + i.val, by omega⟩ ⟨64 * h.val + d.val, by omega⟩
/-- The values of a chunk of the block. -/
def vf (j : Fin 16) (h : Fin 4) (i : Fin 64) (c : Fin 128) : EReal := H x0 x1 ⟨64 * j.val + i.val, by omega⟩ ⟨512 + 128 * h.val + c.val, by omega⟩
/-- The output gates of a chunk of the block. -/
def gf (j : Fin 16) (h : Fin 4) (i : Fin 64) (c : Fin 128) : EReal := H x0 x1 ⟨64 * j.val + i.val, by omega⟩ ⟨1024 + 128 * h.val + c.val, by omega⟩

/-- The heads' states after `n` chunks of a block that starts from `S0`. -/
def stF (S0 : Fin 4 → Fin 64 → Fin 128 → EReal) : ℕ → Fin 4 → Fin 64 → Fin 128 → EReal
  | 0 => S0
  | n + 1 => fun h => next (kf x0 x1 (fin 16 n) h) (bf x0 x1 x2 x3 (fin 16 n) h) (vf x0 x1 (fin 16 n) h) (stF S0 n h)

/-- The output of row `r` at column `c`. -/
def outF (S0 : Fin 4 → Fin 64 → Fin 128 → EReal) (j : Fin 16) (h : Fin 4) (i : Fin 64) (c : Fin 128) : EReal :=
  headRow (attn (qf x0 x1 j h) (kf x0 x1 j h) (bf x0 x1 x2 x3 j h) (vf x0 x1 j h) (stF x0 x1 x2 x3 S0 j.val h) i)
    (fun c => x4 (ix3 0 0 c)) (gf x0 x1 j h i) c

/-- The outputs' entries at an index. -/
def G7 (S0 : Fin 4 → Fin 64 → Fin 128 → EReal) (y : S1024x512.Idx) : Elt Ideal .bf16 :=
  outF x0 x1 x2 x3 x4 S0 ⟨(y 0).val / 64, by have : (y 0).val < 1024 := (y 0).isLt; omega⟩ ⟨(y 1).val / 128, by have : (y 1).val < 512 := (y 1).isLt; omega⟩
    ⟨(y 0).val % 64, by omega⟩ ⟨(y 1).val % 128, by omega⟩

/-- The gate's columns are among the projection's. -/
theorem low_lt (m : Fin 128) : 1536 + m.val < 1664 := by omega

variable (hlow : ∀ r (m : Fin 128), Real' (H x0 x1 r ⟨1536 + m.val, low_lt m⟩)) (hw2 : ∀ m c, Real' (x2 (ix3 0 m c))) (hg : ∀ c, Real' (x3 (ix3 0 0 c)))
  (S0 : Fin 4 → Fin 64 → Fin 128 → EReal)

/-- The loaded keys of a pair of heads, one head's lane. -/
theorem k_at (j : Fin 16) (p f : Fin 2) (i d : Fin 64) : ldk (F := Ideal) arg2 harg2 arg3 harg3 arg8 x0 x1 j p (ix2 i (ln f d)) = kf x0 x1 j (hd p f) i d := by
  unfold ldk kf
  rw [ld8_at _ _ _ _ _ _ _ _ (by omega) _ _ _ _ (by simp only; omega)]
  congr 1
  exact Fin.ext (by simp only; omega)

/-- The loaded and scaled queries of a pair of heads, one head's lane. -/
theorem q_at (j : Fin 16) (p f : Fin 2) (i d : Fin 64) :
    scaled (F := Ideal) (ldq (F := Ideal) arg2 harg2 arg3 harg3 arg8 x0 x1 j p) (ix2 i (ln f d)) = qf x0 x1 j (hd p f) i d := by
  have h : ldq (F := Ideal) arg2 harg2 arg3 harg3 arg8 x0 x1 j p (ix2 i (ln f d)) = H x0 x1 ⟨64 * j.val + i.val, by omega⟩ ⟨64 * (hd p f).val + d.val, by simp only; omega⟩ := by
    unfold ldq
    rw [ld8_at _ _ _ _ _ _ _ _ (by omega) _ _ _ _ (by simp only; omega)]
    congr 1
    exact Fin.ext (by simp only; omega)
  unfold qf
  rw [← h]
  unfold scaled
  pointwise

/-- The loaded values of a pair of heads, one head's column. -/
theorem v_at (j : Fin 16) (p f : Fin 2) (i : Fin 64) (c : Fin 128) : ldv (F := Ideal) arg2 harg2 arg3 harg3 arg8 x0 x1 j p (ix2 i (vn f c)) = vf x0 x1 j (hd p f) i c := by
  unfold vf
  rw [ldv_at]
  congr 1
  exact Fin.ext (by simp only; omega)

/-- The loaded output gates of a head. -/
theorem g_at (j : Fin 16) (h : Fin 4) (i : Fin 64) (c : Fin 128) : ldg (F := Ideal) arg2 harg2 arg3 harg3 arg8 x0 x1 j h (ix2 i c) = gf x0 x1 j h i c := by
  unfold ldg gf
  rw [ld8_at _ _ _ _ _ _ _ _ (by omega) _ _ _ _ (by simp only; omega)]
  congr 1
  exact Fin.ext (by simp only; omega)

include hlow hw2 hg in
/-- The loaded running log-decays of a pair of heads, one head's lane. -/
theorem b_at (j : Fin 16) (p f : Fin 2) (i d : Fin 64) :
    ldb (F := Ideal) arg2 harg2 arg3 harg3 arg4 harg4 arg5 harg5 arg10 x0 x1 x2 x3 j p (ix2 i (ln f d)) = bf x0 x1 x2 x3 j (hd p f) i d := by
  unfold bf
  rw [ldb_at _ _ _ _ _ _ _ _ _ _ _ _ _ hlow hw2 hg]
  congr 1
  exact Fin.ext (by simp only; omega)

include hlow hw2 hg in
/-- A pair's state runs through the heads' states. -/
theorem within_at (s : ℕ) (hs : s < 4) (p : Fin 2) (S : FVec Ideal S128x128 .f32)
    (hS : ∀ f d c, S (ix2 (ln f d) c) = stF x0 x1 x2 x3 S0 (4 * s) (hd p f) d c) (i : ℕ) (f : Fin 2) (d : Fin 64) (c : Fin 128) :
    within (F := Ideal) arg2 harg2 arg3 harg3 arg4 harg4 arg5 harg5 arg8 arg10 x0 x1 x2 x3 s p S i (ix2 (ln f d) c) = stF x0 x1 x2 x3 S0 (4 * s + i) (hd p f) d c := by
  induction i generalizing d c with
  | zero => exact hS f d c
  | succ i ih =>
    refine (step_at _ _ _ _ f d c).trans ?_
    show next _ _ _ _ d c = next (kf x0 x1 (fin 16 (4 * s + i)) (hd p f)) (bf x0 x1 x2 x3 (fin 16 (4 * s + i)) (hd p f)) (vf x0 x1 (fin 16 (4 * s + i)) (hd p f)) (stF x0 x1 x2 x3 S0 (4 * s + i) (hd p f)) d c
    congr 1
    · funext i d; exact k_at _ _ _ _ _ _ _ _ _ _ _ _
    · funext i d; exact b_at _ _ _ _ _ _ _ _ _ _ _ _ _ hlow hw2 hg _ _ _ _ _
    · funext i c; exact v_at _ _ _ _ _ _ _ _ _ _ _ _
    · funext d c; exact ih d c

/-- A pair's state, as a block loads it. -/
theorem st_cast (L : FVec Ideal S1x128x128 .f32) (a c : Fin 128) : shapeCast S128x128 L shapeCasts_S1x128x128_S128x128 (ix2 a c) = L (ix3 0 a c) := by
  pointwise

/-- A pair's state, as a block stores it. -/
theorem st_cast' (S : FVec Ideal S128x128 .f32) (a c : Fin 128) : shapeCast S1x128x128 S shapeCasts_S128x128_S1x128x128 (ix3 0 a c) = S (ix2 a c) := by
  pointwise

/-- What a block's two stores leave of the pairs' states. -/
theorem push_at (s : ℕ) (L : Fin 2 → FVec Ideal S1x128x128 .f32) (old : List (View.Piece (Elt Ideal) S2x128x128 .f32)) (p : Fin 2) (a c : Fin 128) :
    View.canon (push (F := Ideal) arg2 harg2 arg3 harg3 arg4 harg4 arg5 harg5 arg8 arg10 x0 x1 x2 x3 s L old) (ix3 p a c)
      = wst (F := Ideal) arg2 harg2 arg3 harg3 arg4 harg4 arg5 harg5 arg8 arg10 x0 x1 x2 x3 s p (L p) 4 (ix2 a c) := by
  unfold push
  have e : ∀ (o : ℕ) (inb) (ho : p.val = o), (ix3 p a c : S2x128x128.Idx) = (Rect.unit (s := S2x128x128) ![o, 0, 0] S1x128x128.size inb).emb (ix3 (n0 := 1) (n1 := 128) (n2 := 128) 0 a c) := fun o inb ho => by
    funext x
    apply Fin.ext
    fin_cases x
    · show p.val = o + 1 * 0; omega
    · show a.val = 0 + 1 * a.val; omega
    · show c.val = 0 + 1 * c.val; omega
  rcases (show p = 0 ∨ p = 1 by omega) with rfl | rfl
  · rw [View.canon_cons_of_not_mem]
    · rw [e 0 inb_S2x128x128_S1x128x128_0_0_0 rfl]
      exact (View.canon_cons_emb _ _ _ _).trans (st_cast' _ a c)
    · rw [Rect.mem_set_unit]
      intro h
      exact absurd (h 0).1 (by show ¬ (1 ≤ 0); omega)
  · rw [e 1 inb_S2x128x128_S1x128x128_1_0_0 rfl]
    exact (View.canon_cons_emb _ _ _ _).trans (st_cast' _ a c)

/-- What a load of a pair's state reads after the stores so far. -/
theorem ldst_at (l : List (View.Piece (Elt Ideal) S2x128x128 .f32)) (p : Fin 2) (a c : Fin 128) :
    ldst arg11 l p (ix3 0 a c) = View.canon l (ix3 p a c) := by
  unfold ldst
  rw [View.readCov_eq_canon']
  show View.canon l _ = _
  congr 1
  funext x
  apply Fin.ext
  fin_cases x
  · show p.val + 1 * 0 = p.val; omega
  · show 0 + 1 * a.val = a.val; omega
  · show 0 + 1 * c.val = c.val; omega

variable (hini : ∀ p f d c, ini p (ix3 0 (ln f d) c) = S0 (hd p f) d c)

include hlow hw2 hg hini in
/-- The states each block loads. -/
theorem blks_at (s : ℕ) (hs : s ≤ 4) (p f : Fin 2) (d : Fin 64) (c : Fin 128) :
    (blks (F := Ideal) arg2 harg2 arg3 harg3 arg4 harg4 arg5 harg5 arg8 arg10 arg11 x0 x1 x2 x3 ini base s).1 p (ix3 0 (ln f d) c) = stF x0 x1 x2 x3 S0 (4 * s) (hd p f) d c := by
  induction s generalizing p f d c with
  | zero => exact hini p f d c
  | succ s ih =>
    refine (ldst_at _ _ _ _ _).trans ((push_at _ _ _ _ _ _ _ _ _ _ _ _ _ _ _ _ _ _ _ _).trans ?_)
    refine (within_at _ _ _ _ _ _ _ _ _ _ _ _ _ _ hlow hw2 hg S0 s (by omega) p _ (fun f d c => ?_) 4 f d c).trans ?_
    · exact (st_cast _ _ _).trans (ih (by omega) p f d c)
    · rw [Nat.mul_add]

include hlow hw2 hg hini in
/-- The states the whole block leaves. -/
theorem sts_at (p f : Fin 2) (d : Fin 64) (c : Fin 128) :
    View.canon (blks (F := Ideal) arg2 harg2 arg3 harg3 arg4 harg4 arg5 harg5 arg8 arg10 arg11 x0 x1 x2 x3 ini base 4).2 (ix3 p (ln f d) c) = stF x0 x1 x2 x3 S0 16 (hd p f) d c := by
  rw [← blks_at arg2 harg2 arg3 harg3 arg4 harg4 arg5 harg5 arg8 arg10 arg11 x0 x1 x2 x3 ini base hlow hw2 hg S0 hini 4 le_rfl p f d c]
  exact (ldst_at arg11 _ p _ c).symm

include hlow hw2 hg hini in
/-- The state before a chunk, one head of the pair. -/
theorem stAt_at (j : Fin 16) (p f : Fin 2) (d : Fin 64) (c : Fin 128) :
    stAt (F := Ideal) arg2 harg2 arg3 harg3 arg4 harg4 arg5 harg5 arg8 arg10 arg11 x0 x1 x2 x3 ini base j p (ix2 (ln f d) c) = stF x0 x1 x2 x3 S0 j.val (hd p f) d c := by
  unfold stAt
  refine (within_at _ _ _ _ _ _ _ _ _ _ _ _ _ _ hlow hw2 hg S0 (j.val / 4) (by omega) p _ (fun f d c => ?_) (j.val % 4) f d c).trans ?_
  · exact (st_cast _ _ _).trans (blks_at _ _ _ _ _ _ _ _ _ _ _ _ _ _ _ _ _ hlow hw2 hg S0 hini (j.val / 4) (by omega) p f d c)
  · rw [Nat.div_add_mod]

include hlow hw2 hg hini in
/-- What a pair's scores, values and state give a head. -/
theorem core_at (j : Fin 16) (p f : Fin 2) (i : Fin 64) (c : Fin 128) :
    (∑ r, score (scaled (ldq (F := Ideal) arg2 harg2 arg3 harg3 arg8 x0 x1 j p)) (ldk arg2 harg2 arg3 harg3 arg8 x0 x1 j p)
        (ldl arg2 harg2 arg3 harg3 arg4 harg4 arg5 harg5 arg9 x0 x1 x2 x3 j p) (ldb arg2 harg2 arg3 harg3 arg4 harg4 arg5 harg5 arg10 x0 x1 x2 x3 j p) (ix2 (ln f i) r)
          * ldv arg2 harg2 arg3 harg3 arg8 x0 x1 j p (ix2 r (vn f c)))
      + inter (scaled (ldq (F := Ideal) arg2 harg2 arg3 harg3 arg8 x0 x1 j p)) (ldb arg2 harg2 arg3 harg3 arg4 harg4 arg5 harg5 arg10 x0 x1 x2 x3 j p)
          (stAt arg2 harg2 arg3 harg3 arg4 harg4 arg5 harg5 arg8 arg10 arg11 x0 x1 x2 x3 ini base j p) (ix2 (ln f i) c)
      = attn (qf x0 x1 j (hd p f)) (kf x0 x1 j (hd p f)) (bf x0 x1 x2 x3 j (hd p f)) (vf x0 x1 j (hd p f)) (stF x0 x1 x2 x3 S0 j.val (hd p f)) i c := by
  obtain ⟨α, hα⟩ := LA_real x0 x1 x2 x3 hlow hw2 hg
  have hla : ∀ (i : Fin 64) (l : Fin 128), ldl (F := Ideal) arg2 harg2 arg3 harg3 arg4 harg4 arg5 harg5 arg9 x0 x1 x2 x3 j p (ix2 i l)
      = ((α ⟨64 * j.val + i.val, by omega⟩ ⟨128 * p.val + l.val, by omega⟩ : ℝ) : EReal) := fun i l => by
    rw [ldl_at _ _ _ _ _ _ _ _ _ _ _ _ _ hlow hw2]; exact (hα _ _).1
  have hb : ∀ (i : Fin 64) (l : Fin 128), ldb (F := Ideal) arg2 harg2 arg3 harg3 arg4 harg4 arg5 harg5 arg10 x0 x1 x2 x3 j p (ix2 i l)
      = ((runsR (fun i => α ⟨64 * j.val + i.val, by omega⟩ ⟨128 * p.val + l.val, by omega⟩) i : ℝ) : EReal) := fun i l => by
    rw [ldb_at _ _ _ _ _ _ _ _ _ _ _ _ _ hlow hw2 hg, ← runs_coe]
    unfold B
    congr 1
    · funext r
      rw [(hα _ _).1]
      congr 2
      exact Fin.ext (by simp only; omega)
    · exact Fin.ext (by simp only; omega)
  unfold attn
  congr 1
  · refine Finset.sum_congr rfl fun r _ => ?_
    rw [score_at _ _ _ _ _ _ hla hb (fun l i => (hα _ _).2) (fun l i j h => runsR_succ _ i j h), v_at]
    congr 2
    · funext i d; exact q_at _ _ _ _ _ _ _ _ _ _ _ _
    · funext i d; exact k_at _ _ _ _ _ _ _ _ _ _ _ _
    · funext i d; exact b_at _ _ _ _ _ _ _ _ _ _ _ _ _ hlow hw2 hg _ _ _ _ _
  · rw [inter_at]
    refine Finset.sum_congr rfl fun d _ => ?_
    rw [q_at, b_at _ _ _ _ _ _ _ _ _ _ _ _ _ hlow hw2 hg, stAt_at _ _ _ _ _ _ _ _ _ _ _ _ _ _ _ _ _ hlow hw2 hg S0 hini]

include hlow hw2 hg hini in
/-- The output of a chunk and a head. -/
theorem outT_at (j : Fin 16) (h : Fin 4) (i : Fin 64) (c : Fin 128) :
    outT (F := Ideal) arg2 harg2 arg3 harg3 arg4 harg4 arg5 harg5 arg6 harg6 arg8 arg9 arg10 arg11 x0 x1 x2 x3 x4 ini base j h (ix2 i c) = outF x0 x1 x2 x3 x4 S0 j h i c := by
  have core := core_at arg2 harg2 arg3 harg3 arg4 harg4 arg5 harg5 arg8 arg9 arg10 arg11 x0 x1 x2 x3 ini base hlow hw2 hg S0 hini
  unfold outT outF
  dsimp only
  rw [headOut_at]
  congr 1
  · funext c
    rcases (show h = 0 ∨ h = 1 ∨ h = 2 ∨ h = 3 by omega) with rfl | rfl | rfl | rfl
    · exact (attn0_at _ _ _ _ _).trans (core j 0 0 i c)
    · exact (attn1_at _ _ _ _ _).trans (core j 0 1 i c)
    · exact (attn0_at _ _ _ _ _).trans (core j 1 0 i c)
    · exact (attn1_at _ _ _ _ _).trans (core j 1 1 i c)
  · funext c
    have e : ∀ (w : FVec Ideal S1x1x128 .f32), shapeCast S1x128 w shapeCasts_S1x1x128_S1x128 (ix2 0 c) = w (ix3 0 0 c) := fun w => by pointwise
    refine (e _).trans ((load_at _ _ _ _ _).trans ?_)
    congr 1
    funext a
    apply Fin.ext
    fin_cases a
    · rfl
    · rfl
    · show 0 + 1 * c.val = c.val; omega
  · funext c; exact g_at _ _ _ _ _ _ _ _ _ _ _

include hlow hw2 hg hini in
/-- The pieces of the outputs hold the heads' outputs. -/
theorem outs_at (y : S1024x512.Idx) :
    View.canon (outs (F := Ideal) arg2 harg2 arg3 harg3 arg4 harg4 arg5 harg5 arg6 harg6 arg8 arg9 arg10 arg11 x0 x1 x2 x3 x4 ini base) y = G7 x0 x1 x2 x3 x4 S0 y := by
  have h0 : (y 0).val < 1024 := (y 0).isLt
  have h1 : (y 1).val < 512 := (y 1).isLt
  refine View.canon_apply_of_pieces (G7 x0 x1 x2 x3 x4 S0) _ ?_ y ?_
  · intro p hp x
    unfold outs at hp
    obtain ⟨k, rfl⟩ := (List.mem_ofFn' _ _).mp hp
    obtain ⟨r, c, rfl⟩ : ∃ (r : Fin 64) (c : Fin 128), x = ix2 r c := ⟨x 0, x 1, eq_ix2 (n0 := 64) (n1 := 128) x⟩
    refine (outT_at _ _ _ _ _ _ _ _ _ _ _ _ _ _ _ _ _ _ _ _ _ hlow hw2 hg S0 hini _ _ r c).trans ?_
    unfold G7
    have e0 : 64 * ((63 - k.val) / 4) + 1 * r.val < 1024 := by omega
    congr 1
    · exact Fin.ext (by show (63 - k.val) / 4 = (64 * ((63 - k.val) / 4) + 1 * r.val) / 64; omega)
    · exact Fin.ext (by show (63 - k.val) % 4 = (128 * ((63 - k.val) % 4) + 1 * c.val) / 128; omega)
    · exact Fin.ext (by show r.val = (64 * ((63 - k.val) / 4) + 1 * r.val) % 64; omega)
    · exact Fin.ext (by show c.val = (128 * ((63 - k.val) % 4) + 1 * c.val) % 128; omega)
  · refine ⟨_, (List.mem_ofFn' _ _).mpr ⟨⟨63 - (4 * ((y 0).val / 64) + (y 1).val / 128), by omega⟩, rfl⟩, ?_⟩
    rw [Rect.mem_set_unit]
    have e : 63 - (63 - (4 * ((y 0).val / 64) + (y 1).val / 128)) = 4 * ((y 0).val / 64) + (y 1).val / 128 := by omega
    intro a
    fin_cases a
    · show 64 * ((63 - (63 - (4 * ((y 0).val / 64) + (y 1).val / 128))) / 4) ≤ (y 0).val ∧ (y 0).val < 64 * ((63 - (63 - (4 * ((y 0).val / 64) + (y 1).val / 128))) / 4) + 64
      rw [e]; omega
    · show 128 * ((63 - (63 - (4 * ((y 0).val / 64) + (y 1).val / 128))) % 4) ≤ (y 1).val ∧ (y 1).val < 128 * ((63 - (63 - (4 * ((y 0).val / 64) + (y 1).val / 128))) % 4) + 128
      rw [e]; omega

end Gla
end Cert.KernelIdeal.Value
end
end
-- ==== Proof.GlaGrid.lean ====
/-
  The gated linear attention's kernel: the grid points, one after another; the result array over the layer's arguments.
-/
module

public import proofs.«01_k».proof.Proof.GlaHost
public import proofs.«01_k».proof.Proof.GlaChunk

@[expose] public section
set_option maxRecDepth 65536
noncomputable section
namespace Cert.KernelIdeal.Value
open Cert.KernelIdeal Cert.KernelIdeal.Gen Idealize.ShloMosaic Idealize.ShloMosaic.TcCoe Idealize.SL.Sem
namespace Gla
open Cert.GlaMath
variable (m : (ℓ : Loc nD τ sig) → Buf (Elt Ideal) ℓ) (c : Dev nD) (t : Fin cfg0.N)

/-- The token of row `r` of a grid point's block. -/
abbrev tkn (r : Fin 1024) : Fin 4096 := ⟨1024 * (t.val % 4) + r.val, by omega⟩

/-- The chunk of place `j` of a grid point's block. -/
abbrev chk (j : Fin 16) : Fin 64 := ⟨16 * (t.val % 4) + j.val, by omega⟩

/-- The projection columns of queries, keys and values, over the arguments. -/
theorem H_lo (r : Fin 1024) (q : ℕ) (hq : q < 1024) : H (iblk m c 0 t) (iblk m c 1 t) r ⟨q, by omega⟩ = col (ax m c) (aw m c) (bt t) (tkn t r) ⟨q, by omega⟩ :=
  Finset.sum_congr rfl fun k _ => congrArg₂ (· * ·) (x_blk m c t r k) ((w_blk m c t k _).trans (dif_pos hq))

/-- The projection columns of the output gates, over the arguments. -/
theorem H_gate (r : Fin 1024) (q : ℕ) (hq : 1024 ≤ q) (hq' : q < 1536) :
    H (iblk m c 0 t) (iblk m c 1 t) r ⟨q, by omega⟩ = col (ax m c) (aw m c) (bt t) (tkn t r) ⟨16 + q, by omega⟩ :=
  Finset.sum_congr rfl fun k _ => congrArg₂ (· * ·) (x_blk m c t r k)
    ((w_blk m c t k _).trans ((dif_neg (by show ¬ q < 1024; omega)).trans (dif_pos hq')))

/-- The projection columns of the decays' first product, over the arguments. -/
theorem H_low (r : Fin 1024) (q : ℕ) (hq : q < 16) :
    H (iblk m c 0 t) (iblk m c 1 t) r ⟨1536 + q, by omega⟩ = col (ax m c) (aw m c) (bt t) (tkn t r) ⟨1024 + q, by omega⟩ :=
  Finset.sum_congr rfl fun k _ => congrArg₂ (· * ·) (x_blk m c t r k)
    ((w_blk m c t k _).trans ((dif_neg (by show ¬ 1536 + q < 1024; omega)).trans ((dif_neg (by show ¬ 1536 + q < 1536; omega)).trans
      ((dif_pos (by show 1536 + q < 1552; omega)).trans (congrArg (aw m c k) (Fin.ext (by show 1824 + (1536 + q - 512) = 1824 + (1024 + q); omega)))))))

/-- The padded projection columns are zero. -/
theorem H_pad (r : Fin 1024) (q : ℕ) (hq : 16 ≤ q) (hq' : q < 128) :
    H (iblk m c 0 t) (iblk m c 1 t) r ⟨1536 + q, by omega⟩ = 0 :=
  Finset.sum_eq_zero fun k _ => by
    rw [show (iblk m c 1 t : FVec Ideal S1x1024x1664 .bf16) (ix3 0 k ⟨1536 + q, by omega⟩) = (0 : EReal) from
      (w_blk m c t k _).trans ((dif_neg (by show ¬ 1536 + q < 1024; omega)).trans ((dif_neg (by show ¬ 1536 + q < 1536; omega)).trans
      (dif_neg (by show ¬ 1536 + q < 1552; omega))))]
    exact mul_zero _

/-- The decays before their sigmoid are the layer's. -/
theorem Z_eq (r : Fin 1024) (q : Fin 256) : Z (iblk m c 0 t) (iblk m c 1 t) (iblk m c 2 t) (iblk m c 3 t) r q
    = gz (ax m c) (aw m c) (aw2 m c) (agb m c) (bt t) (tkn t r) q := by
  unfold Z gz
  refine congrArg₂ (· + ·) ?_ (gb_blk m c t q)
  refine (Fin.sum_univ_add (a := 16) (b := 112) (M := EReal) fun i : Fin (16 + 112) => H (iblk m c 0 t) (iblk m c 1 t) r ⟨1536 + i.val, by omega⟩ * (iblk m c 2 t : FVec Ideal S1x128x256 .f32) (ix3 0 i q)).trans ?_
  refine Eq.trans (congrArg₂ (· + ·) (Finset.sum_congr rfl fun k _ => ?_) (Finset.sum_eq_zero fun k _ => ?_)) (add_zero _)
  · exact congrArg₂ (· * ·) (H_low m c t r k.val k.isLt) ((w2_blk m c t _ q).trans (dif_pos k.isLt))
  · refine (congrArg₂ (· * ·) rfl ((w2_blk m c t _ q).trans (dif_neg (by show ¬ 16 + k.val < 16; omega)))).trans (mul_zero _)

variable (S0 : Fin 4 → Fin 64 → Fin 128 → EReal)

/-- The block's queries are the layer's. -/
theorem q_eq (j : Fin 16) (h : Fin 4) : qf (iblk m c 0 t) (iblk m c 1 t) j h = gq (ax m c) (aw m c) (bt t) (chk t j) h := by
  funext i d
  unfold qf gq
  rw [H_lo m c t _ _ (by omega)]
  congr 2
  exact Fin.ext (by show 1024 * (t.val % 4) + (64 * j.val + i.val) = 64 * (16 * (t.val % 4) + j.val) + i.val; omega)

/-- The block's keys are the layer's. -/
theorem k_eq (j : Fin 16) (h : Fin 4) : kf (iblk m c 0 t) (iblk m c 1 t) j h = gk (ax m c) (aw m c) (bt t) (chk t j) h := by
  funext i d
  unfold kf gk
  rw [H_lo m c t _ _ (by omega)]
  congr 1
  exact Fin.ext (by show 1024 * (t.val % 4) + (64 * j.val + i.val) = 64 * (16 * (t.val % 4) + j.val) + i.val; omega)

/-- The block's values are the layer's. -/
theorem v_eq (j : Fin 16) (h : Fin 4) : vf (iblk m c 0 t) (iblk m c 1 t) j h = gv (ax m c) (aw m c) (bt t) (chk t j) h := by
  funext i d
  unfold vf gv
  rw [H_lo m c t _ _ (by omega)]
  congr 1
  exact Fin.ext (by show 1024 * (t.val % 4) + (64 * j.val + i.val) = 64 * (16 * (t.val % 4) + j.val) + i.val; omega)

/-- The block's output gates are the layer's. -/
theorem g_eq (j : Fin 16) (h : Fin 4) : gf (iblk m c 0 t) (iblk m c 1 t) j h = gg (ax m c) (aw m c) (bt t) (chk t j) h := by
  funext i d
  unfold gf gg
  rw [H_gate m c t _ _ (by omega) (by omega)]
  congr 1
  · exact Fin.ext (by show 1024 * (t.val % 4) + (64 * j.val + i.val) = 64 * (16 * (t.val % 4) + j.val) + i.val; omega)
  · exact Fin.ext (by show 16 + (1024 + 128 * h.val + d.val) = 1040 + 128 * h.val + d.val; omega)

/-- The block's running log-decays are the layer's, row by row. -/
theorem B_eq (r : Fin 1024) (q : Fin 256) : B (iblk m c 0 t) (iblk m c 1 t) (iblk m c 2 t) (iblk m c 3 t) r q
    = runs (fun j => laf (gz (ax m c) (aw m c) (aw2 m c) (agb m c) (bt t) (tkn t ⟨64 * (r.val / 64) + j.val, by omega⟩) q)) ⟨r.val % 64, by omega⟩ := by
  unfold B LA
  simp only [Z_eq]

/-- The block's running log-decays are the layer's, chunk by chunk. -/
theorem b_eq (j : Fin 16) (h : Fin 4) : bf (iblk m c 0 t) (iblk m c 1 t) (iblk m c 2 t) (iblk m c 3 t) j h
    = gB (ax m c) (aw m c) (aw2 m c) (agb m c) (bt t) (chk t j) h := by
  funext i d
  unfold bf
  rw [B_eq]
  unfold gB
  refine congrArg₂ runs (funext fun i' => congrArg laf ?_) (Fin.ext (by show (64 * j.val + i.val) % 64 = i.val; omega))
  refine congrArg (fun τ => gz (ax m c) (aw m c) (aw2 m c) (agb m c) (bt t) τ _) ?_
  exact Fin.ext (by show 1024 * (t.val % 4) + (64 * ((64 * j.val + i.val) / 64) + i'.val) = 64 * (16 * (t.val % 4) + j.val) + i'.val; omega)

/-- A block's states run on from the layer's. -/
theorem st_eq (hS : ∀ h, S0 h = gS (ax m c) (aw m c) (aw2 m c) (agb m c) (bt t) (16 * (t.val % 4)) h) (n : ℕ) (hn : n ≤ 16) (h : Fin 4) :
    stF (iblk m c 0 t) (iblk m c 1 t) (iblk m c 2 t) (iblk m c 3 t) S0 n h
      = gS (ax m c) (aw m c) (aw2 m c) (agb m c) (bt t) (16 * (t.val % 4) + n) h := by
  induction n with
  | zero => exact hS h
  | succ n ih =>
    show next _ _ _ _ = next _ _ _ _
    have e : chk t (fin 16 n) = Fin.ofNat 64 (16 * (t.val % 4) + n) :=
      Fin.ext (by show 16 * (t.val % 4) + n % 16 = (16 * (t.val % 4) + n) % 64; omega)
    rw [k_eq, b_eq, v_eq, ih (by omega), e]
    rfl

/-- A normed and gated row depends on its output, gains and gate. -/
theorem headRow_congr {o o' n n' g g' : Fin 128 → EReal} (ho : o = o') (hn : n = n') (hg : g = g') (q : Fin 128) :
    headRow o n g q = headRow o' n' g' q := by
  rw [ho, hn, hg]

/-- A head's outputs depend on its queries, keys, running log-decays, values and state. -/
theorem attn_congr {q q' k k' b b' : Fin 64 → Fin 64 → EReal} {v v' S S' : Fin 64 → Fin 128 → EReal} (hq : q = q') (hk : k = k') (hb : b = b')
    (hv : v = v') (hS : S = S') (i : Fin 64) (c : Fin 128) : attn q k b v S i c = attn q' k' b' v' S' i c := by
  rw [hq, hk, hb, hv, hS]

/-- A block's outputs are the layer's. -/
theorem out_eq (hS : ∀ h, S0 h = gS (ax m c) (aw m c) (aw2 m c) (agb m c) (bt t) (16 * (t.val % 4)) h) (j : Fin 16) (h : Fin 4) (i : Fin 64) (q : Fin 128) :
    outF (iblk m c 0 t) (iblk m c 1 t) (iblk m c 2 t) (iblk m c 3 t) (iblk m c 4 t) S0 j h i q
      = gO (ax m c) (aw m c) (aw2 m c) (agb m c) (ang m c) (bt t) (chk t j) h i q := by
  refine headRow_congr ?_ (funext (ng_blk m c t)) (congrFun (g_eq m c t j h) i) q
  funext q'
  exact attn_congr (q_eq m c t j h) (k_eq m c t j h) (b_eq m c t j h) (v_eq m c t j h) (st_eq m c t S0 hS j.val (by omega) h) i q'

section Finite
variable (hx : ∀ b t k, Real' (ax m c b t k)) (hw : ∀ k q, Real' (aw m c k (lowCol q))) (hw2 : ∀ k j, Real' (aw2 m c k j)) (hgb : ∀ j, Real' (agb m c j))

include hx hw in
/-- The decays' first product is real. -/
theorem low_real (r : Fin 1024) (q : Fin 128) : Real' (H (iblk m c 0 t) (iblk m c 1 t) r ⟨1536 + q.val, by omega⟩) := by
  by_cases h : q.val < 16
  · rw [H_low m c t r q.val h]
    exact Real'.sum _ fun k => (hx _ _ _).mul (hw k ⟨q.val, h⟩)
  · rw [H_pad m c t r q.val (by omega) q.isLt]
    exact Real'.zero

include hw2 in
/-- The padded second weight of the decays is real. -/
theorem w2_real (q : Fin 128) (k : Fin 256) : Real' ((iblk m c 2 t : FVec Ideal S1x128x256 .f32) (ix3 0 q k)) := by
  rw [w2_blk]
  split
  · exact hw2 _ _
  · exact Real'.zero

include hgb in
/-- The decays' offsets are real. -/
theorem gb_real (k : Fin 256) : Real' ((iblk m c 3 t : FVec Ideal S1x1x256 .f32) (ix3 0 0 k)) := by
  rw [gb_blk]; exact hgb k

/-- The cleared state is zero. -/
theorem zero_at (arg11 : Memref sig .tc .vmem S2x128x128 .f32) (p : Fin 2) (a q : Fin 128) :
    ldst (F := Ideal) arg11 zeroSt p (ix3 0 a q) = (0 : EReal) := by
  rw [ldst_at]
  have e : (ix3 p a q : S2x128x128.Idx) = (Rect.unit (s := S2x128x128) ![0, 0, 0] S2x128x128.size inb_S2x128x128_S2x128x128_0_0_0).emb (ix3 p a q) := by
    funext k; apply Fin.ext; rw [Rect.emb_apply]
    fin_cases k
    · show p.val = 0 + 1 * p.val; omega
    · show a.val = 0 + 1 * a.val; omega
    · show q.val = 0 + 1 * q.val; omega
  rw [e]
  refine (View.canon_cons_emb _ _ _ _).trans ?_
  unfold k0_pay4
  pointwise

/-- The carried state is the state before. -/
theorem carried_at (arg11 : Memref sig .tc .vmem S2x128x128 .f32) (harg11 : arg11.IsWhole) (xs3 : FVec Ideal S2x128x128 .f32) (p : Fin 2) (a q : Fin 128) :
    carried (F := Ideal) arg11 harg11 xs3 p (ix3 0 a q) = xs3 (ix3 p a q) := by
  unfold carried
  rw [load_at]
  congr 1
  funext k; apply Fin.ext
  fin_cases k
  · show p.val + 1 * 0 = p.val; omega
  · show 0 + 1 * a.val = a.val; omega
  · show 0 + 1 * q.val = q.val; omega

/-- The layer's state before a grid point's block. -/
abbrev before (h : Fin 4) : Fin 64 → Fin 128 → EReal := gS (ax m c) (aw m c) (aw2 m c) (agb m c) (bt t) (16 * (t.val % 4)) h

include hx hw hw2 hgb in
/-- A point that starts a batch row leaves the layer's outputs and states. -/
theorem pt_A (h0 : t.val % 4 = 0) :
    (∀ y, (outsAt0 m c t.val t.isLt).1 y = G7 (iblk m c 0 t) (iblk m c 1 t) (iblk m c 2 t) (iblk m c 3 t) (iblk m c 4 t) (before m c t) y) ∧
    ∀ p f d q, (outsAt0 m c t.val t.isLt).2 (ix3 p (ln f d) q) = stF (iblk m c 0 t) (iblk m c 1 t) (iblk m c 2 t) (iblk m c 3 t) (before m c t) 16 (hd p f) d q := by
  have hini : ∀ p f d q, ldst (F := Ideal) scM0_3 zeroSt p (ix3 0 (ln f d) q) = before m c t (hd p f) d q := by
    intro p f d q
    rw [zero_at]
    unfold before
    rw [h0]
    rfl
  rw [outsAt0_A m c t h0]
  constructor
  · intro y
    unfold out0_A_5
    rw [View.read_writes_junk_eq_canon, outs_A]
    exact outs_at _ _ _ _ _ _ _ _ _ _ _ _ _ _ _ _ _ _ _ _ _ (low_real m c t hx hw) (w2_real m c t hw2) (gb_real m c t hgb) _ hini y
  · intro p f d q
    dsimp only
    unfold sout0_A_3
    rw [View.read_writes_junk_eq_canon, sts_A]
    exact sts_at _ _ _ _ _ _ _ _ _ _ _ _ _ _ _ _ _ (low_real m c t hx hw) (w2_real m c t hw2) (gb_real m c t hgb) _ hini p f d q

include hx hw hw2 hgb in
/-- A point that goes on leaves the layer's outputs and states. -/
theorem pt_B (h0 : ¬ t.val % 4 = 0)
    (hb : ∀ p f d q, (outsAt0 m c (t.val - 1) (Nat.lt_of_le_of_lt (Nat.sub_le _ _) t.isLt)).2 (ix3 p (ln f d) q) = before m c t (hd p f) d q) :
    (∀ y, (outsAt0 m c t.val t.isLt).1 y = G7 (iblk m c 0 t) (iblk m c 1 t) (iblk m c 2 t) (iblk m c 3 t) (iblk m c 4 t) (before m c t) y) ∧
    ∀ p f d q, (outsAt0 m c t.val t.isLt).2 (ix3 p (ln f d) q) = stF (iblk m c 0 t) (iblk m c 1 t) (iblk m c 2 t) (iblk m c 3 t) (before m c t) 16 (hd p f) d q := by
  rw [outsAt0_B m c t h0]
  constructor
  · intro y
    unfold out0_B_5
    rw [View.read_writes_junk_eq_canon, outs_B]
    exact outs_at _ _ _ _ _ _ _ _ _ _ _ _ _ _ _ _ _ _ _ _ _ (low_real m c t hx hw) (w2_real m c t hw2) (gb_real m c t hgb) _
      (fun p f d q => (carried_at _ _ _ _ _ _).trans (hb p f d q)) y
  · intro p f d q
    dsimp only
    unfold sout0_B_3
    rw [View.read_writes_junk_eq_canon, sts_B]
    exact sts_at _ _ _ _ _ _ _ _ _ _ _ _ _ _ _ _ _ (low_real m c t hx hw) (w2_real m c t hw2) (gb_real m c t hgb) _
      (fun p f d q => (carried_at _ _ _ _ _ _).trans (hb p f d q)) p f d q

include hx hw hw2 hgb in
/-- Every point leaves the layer's outputs and states. -/
theorem pts (n : ℕ) : ∀ hn : n < cfg0.N,
    (∀ y, (outsAt0 m c n hn).1 y = G7 (iblk m c 0 ⟨n, hn⟩) (iblk m c 1 ⟨n, hn⟩) (iblk m c 2 ⟨n, hn⟩) (iblk m c 3 ⟨n, hn⟩) (iblk m c 4 ⟨n, hn⟩) (before m c ⟨n, hn⟩) y) ∧
    ∀ p f d q, (outsAt0 m c n hn).2 (ix3 p (ln f d) q) = stF (iblk m c 0 ⟨n, hn⟩) (iblk m c 1 ⟨n, hn⟩) (iblk m c 2 ⟨n, hn⟩) (iblk m c 3 ⟨n, hn⟩) (before m c ⟨n, hn⟩) 16 (hd p f) d q := by
  induction n with
  | zero => exact fun hn => pt_A m c ⟨0, hn⟩ hx hw hw2 hgb rfl
  | succ n ih =>
    intro hn
    by_cases h0 : (n + 1) % 4 = 0
    · exact pt_A m c ⟨n + 1, hn⟩ hx hw hw2 hgb h0
    · refine pt_B m c ⟨n + 1, hn⟩ hx hw hw2 hgb h0 fun p f d q => ?_
      have hn' : n < cfg0.N := by omega
      refine ((ih hn').2 p f d q).trans ?_
      rw [st_eq m c ⟨n, hn'⟩ _ (fun _ => rfl) 16 le_rfl]
      unfold before
      have eb : bt ⟨n, hn'⟩ = bt ⟨n + 1, hn⟩ := Fin.ext (by show n / 4 = (n + 1) / 4; omega)
      have en : 16 * ((⟨n, hn'⟩ : Fin cfg0.N).val % 4) + 16 = 16 * ((⟨n + 1, hn⟩ : Fin cfg0.N).val % 4) := by
        show 16 * (n % 4) + 16 = 16 * ((n + 1) % 4); omega
      rw [eb, en]

/-- The layer's result array. -/
def result (i : S16384x512.Idx) : Elt Ideal .bf16 :=
  gO (ax m c) (aw m c) (aw2 m c) (agb m c) (ang m c) ⟨(i 0).val / 4096, by have : (i 0).val < 16384 := (i 0).isLt; omega⟩
    ⟨(i 0).val % 4096 / 64, by omega⟩ ⟨(i 1).val / 128, by have : (i 1).val < 512 := (i 1).isLt; omega⟩ ⟨(i 0).val % 64, by omega⟩ ⟨(i 1).val % 128, by omega⟩

include hx hw hw2 hgb in
/-- The result array after the run. -/
theorem final : (dats m 0 c).arrAt 5 (cfgs 0).N = result m c := by
  refine (dats m 0 c).arrAt_eq_of_covers 5 _ (by decide +kernel) fun t _ y => ?_
  blk_simp
  rw [after0_5]
  have h0 : ((((cfg0.win 5).blk t).view.emb y) 0 : ℕ) = t.val * 1024 + y 0 := by blk_simp [idx t]
  have h1 : ((((cfg0.win 5).blk t).view.emb y) 1 : ℕ) = y 1 := by blk_simp [idx t]
  refine ((pts m c hx hw hw2 hgb t.val t.isLt).1 y).trans ?_
  have hy : (y 0).val < 1024 := (y 0).isLt
  unfold G7
  rw [out_eq m c t _ (fun _ => rfl)]
  unfold result bt chk
  congr 1
  · exact Fin.ext (by simp only [h0]; omega)
  · exact Fin.ext (by simp only [h0]; omega)
  · exact Fin.ext (by simp only [h1])
  · exact Fin.ext (by simp only [h0]; omega)
  · exact Fin.ext (by simp only [h1])
end Finite
end Gla
end Cert.KernelIdeal.Value
end
end
-- ==== Proof.GlaTrip.lean ====
/-
  The gated linear attention's reference: one trip of its loop over the chunks.
-/
module

public import proofs.«01_k».proof.Proof.GlaLayer
public import proofs.«01_k».proof.Proof.Dense
public import proofs.«01_k».proof.Proof.GlaRefFrame
public import Idealize.ShloMosaic.Lib.DynamicIndex

@[expose] public section
set_option maxRecDepth 16384
noncomputable section
namespace Cert.ReferenceIdeal.Value
open Cert.ReferenceIdeal Cert.ReferenceIdeal.Gen Idealize.ShloMosaic Idealize.ShloMosaic.TcCoe Idealize.ShloMosaic.StableHlo
open Cert.GlaMath
namespace Gla

/-- The counter's value as a number. -/
theorem ctr_int : ∀ n : Fin 64, (BitVec.ofNat 32 n.val).toInt = (n.val : Int) := by decide

/-- A chunk's window of the queries, keys or running sums. -/
theorem win64 (n : Fin 64) : S64x4x4x64x64.Slices ![n.val, 0, 0, 0, 0] S1x4x4x64x64 := by
  refine ⟨rfl, fun a => ?_⟩
  fin_cases a <;> simp [S64x4x4x64x64, S1x4x4x64x64] <;> omega

/-- A chunk's window of the values or outputs. -/
theorem win128 (n : Fin 64) : S64x4x4x64x128.Slices ![n.val, 0, 0, 0, 0] S1x4x4x64x128 := by
  refine ⟨rfl, fun a => ?_⟩
  fin_cases a <;> simp [S64x4x4x64x128, S1x4x4x64x128] <;> omega

variable (V : Valuation τ sig (Elt Ideal)) (n : Fin 64)
variable (hc : V (Proc.devRef .tc main_v38_5) = fun _ => BitVec.ofNat 32 n.val)

include hc in
/-- Where a trip's slices start. -/
theorem starts (a : Fin 5) : (((![V (Proc.devRef .tc main_v38_5), constantI S_ 32 0#32, constantI S_ 32 0#32, constantI S_ 32 0#32, constantI S_ 32 0#32] : Fin 5 → (⟨S_, .i32⟩ : BufTy).Contents (Elt Ideal))) a (Shape.Idx.first h_S_)).toInt
    = ((![n.val, 0, 0, 0, 0] : Fin 5 → ℕ) a : Int) := by
  rw [hc]
  fin_cases a
  · exact ctr_int n
  all_goals rfl

include hc in
/-- The queries of a trip. -/
theorem v59_at (b h : Fin 4) (i d : Fin 64) : res_main_while0b_v59 V (ix4 b h i d) = V (Proc.devRef .tc main_v38_0) (ix5 n b h i d) := by
  unfold res_main_while0b_v59
  rw [Host.dynamicSlice_eq_extractStridedSlice _ _ _ ![n.val, 0, 0, 0, 0] _ (win64 n) (starts V n hc)]
  pointwise

include hc in
/-- The keys of a trip. -/
theorem v60_at (b h : Fin 4) (i d : Fin 64) : res_main_while0b_v60 V (ix4 b h i d) = V (Proc.devRef .tc main_v38_1) (ix5 n b h i d) := by
  unfold res_main_while0b_v60
  rw [Host.dynamicSlice_eq_extractStridedSlice _ _ _ ![n.val, 0, 0, 0, 0] _ (win64 n) (starts V n hc)]
  pointwise

include hc in
/-- The values of a trip. -/
theorem v61_at (b h : Fin 4) (i : Fin 64) (c : Fin 128) : res_main_while0b_v61 V (ix4 b h i c) = V (Proc.devRef .tc main_v38_2) (ix5 n b h i c) := by
  unfold res_main_while0b_v61
  rw [Host.dynamicSlice_eq_extractStridedSlice _ _ _ ![n.val, 0, 0, 0, 0] _ (win128 n) (starts V n hc)]
  pointwise

include hc in
/-- The running log-decays of a trip. -/
theorem v62_at (b h : Fin 4) (i d : Fin 64) : res_main_while0b_v62 V (ix4 b h i d) = V (Proc.devRef .tc main_v38_3) (ix5 n b h i d) := by
  unfold res_main_while0b_v62
  rw [Host.dynamicSlice_eq_extractStridedSlice _ _ _ ![n.val, 0, 0, 0, 0] _ (win64 n) (starts V n hc)]
  pointwise

/-- A trip's new state. -/
theorem step6_at (b h : Fin 4) (d : Fin 64) (c : Fin 128) : step_main_v38_6 V (ix4 b h d c) =
    next (fun i d => res_main_while0b_v60 V (ix4 b h i d)) (fun i d => res_main_while0b_v62 V (ix4 b h i d)) (fun i c => res_main_while0b_v61 V (ix4 b h i c))
      (fun d c => V (Proc.devRef .tc main_v38_6) (ix4 b h d c)) d c := by
  unfold step_main_v38_6 res_main_while0b_v82 next
  simp only [id_eq]
  pointwise

/-- What a trip computes of its chunk, of the chunk's queries, keys, values and running gates, the state and
the mask. -/
def trip (q k B : FVec Ideal S4x4x64x64 .f32) (v S : FVec Ideal S4x4x64x128 .f32) (msk : IVec S64x64x1 1) :
    FVec Ideal S1x4x4x64x128 .f32 :=
  broadcastInDim S1x4x4x64x128 ![1, 2, 3, 4] bcast_S4x4x64x128_S1x4x4x64x128_1_2_3_4 (addf
    (Host.dotGeneral dot_S4x4x64x64_S4x4x64x128_S4x4x64x128_3_2_2_3_01_01 none (Host.reduceAdd (mulf
    (mulf (broadcastInDim S4x4x64x64x64 ![0, 1, 2, 3, 4] bcast_S4x4x64x1x64_S4x4x64x64x64_0_1_2_3_4
    (broadcastInDim S4x4x64x1x64 ![0, 1, 2, 4] bcast_S4x4x64x64_S4x4x64x1x64_0_1_2_4 q)) (broadcastInDim
    S4x4x64x64x64 ![0, 1, 2, 3, 4] bcast_S4x4x1x64x64_S4x4x64x64x64_0_1_2_3_4 (broadcastInDim
    S4x4x1x64x64 ![0, 1, 3, 4] bcast_S4x4x64x64_S4x4x1x64x64_0_1_3_4 k))) (Host.exp (select
    (broadcastInDim S4x4x64x64x64 ![2, 3, 4] bcast_S64x64x1_S4x4x64x64x64_2_3_4 msk) (subf
    (broadcastInDim S4x4x64x64x64 ![0, 1, 2, 3, 4] bcast_S4x4x64x1x64_S4x4x64x64x64_0_1_2_3_4
    (broadcastInDim S4x4x64x1x64 ![0, 1, 2, 4] bcast_S4x4x64x64_S4x4x64x1x64_0_1_2_4 B)) (broadcastInDim
    S4x4x64x64x64 ![0, 1, 2, 3, 4] bcast_S4x4x1x64x64_S4x4x64x64x64_0_1_2_3_4 (broadcastInDim
    S4x4x1x64x64 ![0, 1, 3, 4] bcast_S4x4x64x64_S4x4x1x64x64_0_1_3_4 B))) (broadcastInDim S4x4x64x64x64
    ![] bcast_S_S4x4x64x64x64 (constant S_ .f32 0xFF800000#32))))) (constant S_ .f32 0x00000000#32)
    reducesTo_S4x4x64x64x64_S4x4x64x64_d4 h_S_) v) (Host.dotGeneral
    dot_S4x4x64x64_S4x4x64x128_S4x4x64x128_3_2_2_3_01_01 none (mulf q (Host.exp B)) S))

/-- A trip's outputs: the scores within the chunk and the state's part. -/
theorem trip_at (q k B : FVec Ideal S4x4x64x64 .f32) (v S : FVec Ideal S4x4x64x128 .f32) (msk : IVec S64x64x1 1)
    (hm : ∀ i j : Fin 64, msk (ix3 i j (0 : Fin 1)) = if j ≤ i then 1#1 else 0#1)
    (b h : Fin 4) (i : Fin 64) (c : Fin 128) :
    trip q k B v S msk (ix5 (0 : Fin 1) b h i c) = attn (fun i d => q (ix4 b h i d)) (fun i d => k (ix4 b h i d))
      (fun i d => B (ix4 b h i d)) (fun i c => v (ix4 b h i c)) (fun d c => S (ix4 b h d c)) i c := by
  unfold trip attn att
  pointwise
  congr 1
  refine Finset.sum_congr rfl fun x _ => congrArg (· * _) (Finset.sum_congr rfl fun d _ => congrArg (fun e => q (ix4 b h i d) * k (ix4 b h x d) * e) ?_)
  rw [hm]
  by_cases hx : x ≤ i
  · rw [if_pos hx, if_pos hx]
    rfl
  · rw [if_neg hx, if_neg hx, show Scalar.select (0#1) (B (ix4 b h i d) - B (ix4 b h x d)) (Ideal.ofBits FTy.f32 4286578688#32)
      = Ideal.ofBits FTy.f32 4286578688#32 from rfl, show Ideal.ofBits FTy.f32 4286578688#32 = ⊥ by simp [Ideal.ofBits, Ideal.ieee]]
    rfl

/-- A chunk's outputs written over its slot of all chunks' outputs. -/
theorem put_at (x : FVec Ideal S64x4x4x64x128 .f32) (u : FVec Ideal S1x4x4x64x128 .f32) (n n' : Fin 64) (b h : Fin 4)
    (i : Fin 64) (c : Fin 128) : updateSlice x u ![n.val, 0, 0, 0, 0] (win128 n) (ix5 n' b h i c)
      = if n' = n then u (ix5 (0 : Fin 1) b h i c) else x (ix5 n' b h i c) := by
  unfold updateSlice
  by_cases hn : n' = n
  · subst hn
    rw [if_pos rfl, dif_pos]
    · congr 1
      funext a
      fin_cases a <;> exact Fin.ext (by simp [ix5])
    · intro a
      fin_cases a <;> simp [ix5, S1x4x4x64x128]
  · rw [if_neg hn, dif_neg]
    intro h0
    have := h0 0
    simp [ix5, S1x4x4x64x128] at this
    omega

/-- A trip stores its outputs at its own chunk. -/
theorem step7_eq : step_main_v38_7 V = Host.dynamicUpdateSlice (V (Proc.devRef .tc main_v38_7))
    (trip (res_main_while0b_v59 V) (res_main_while0b_v60 V) (res_main_while0b_v62 V) (res_main_while0b_v61 V)
      (V (Proc.devRef .tc main_v38_6)) (V (Proc.devRef .tc main_v38_4)))
    (fun k => (((![V (Proc.devRef .tc main_v38_5), constantI S_ 32 0#32, constantI S_ 32 0#32, constantI S_ 32 0#32, constantI S_ 32 0#32] : Fin 5 → (⟨S_, .i32⟩ : BufTy).Contents (Elt Ideal))) k (Shape.Idx.first h_S_)).toInt) updateFits_S64x4x4x64x128_S1x4x4x64x128 := by
  unfold step_main_v38_7 trip
  simp only [id_eq]

include hc in
/-- The outputs after a trip: the trip's at its own chunk, the earlier ones elsewhere. -/
theorem step7_at (hm : ∀ i j : Fin 64, V (Proc.devRef .tc main_v38_4) (ix3 i j (0 : Fin 1)) = if j ≤ i then 1#1 else 0#1)
    (n' : Fin 64) (b h : Fin 4) (i : Fin 64) (c : Fin 128) :
    step_main_v38_7 V (ix5 n' b h i c) = if n' = n then
      attn (fun i d => V (Proc.devRef .tc main_v38_0) (ix5 n b h i d)) (fun i d => V (Proc.devRef .tc main_v38_1) (ix5 n b h i d))
        (fun i d => V (Proc.devRef .tc main_v38_3) (ix5 n b h i d)) (fun i c => V (Proc.devRef .tc main_v38_2) (ix5 n b h i c))
        (fun d c => V (Proc.devRef .tc main_v38_6) (ix4 b h d c)) i c
      else V (Proc.devRef .tc main_v38_7) (ix5 n' b h i c) := by
  rw [step7_eq, Host.dynamicUpdateSlice_eq_updateSlice _ _ _ updateFits_S64x4x4x64x128_S1x4x4x64x128 ![n.val, 0, 0, 0, 0]
    (fun a => ?_) (win128 n), put_at, trip_at _ _ _ _ _ _ hm]
  · congr 1
    simp only [v59_at V n hc, v60_at V n hc, v61_at V n hc, v62_at V n hc]
  · rw [starts V n hc a]
    fin_cases a <;> simp [S64x4x4x64x128, S1x4x4x64x128]
    omega

include hc in
/-- The counter after a trip. -/
theorem step5_at : step_main_v38_5 V = fun _ => BitVec.ofNat 32 (n.val + 1) := by
  funext i
  unfold step_main_v38_5
  rw [hc]
  show BitVec.ofNat 32 n.val + 1#32 = _
  rw [BitVec.ofNat_add]

end Gla

end Cert.ReferenceIdeal.Value
-- ==== Proof.GlaRefEntry.lean ====
/-
  The gated linear attention's reference: what its loop starts from.
-/
module

public import proofs.«01_k».proof.Proof.GlaLayer
public import proofs.«01_k».proof.Proof.Dense
public import proofs.«01_k».proof.Proof.GlaRefFrame

@[expose] public section
set_option maxRecDepth 16384
noncomputable section
namespace Cert.ReferenceIdeal.Value
open Cert.ReferenceIdeal Cert.ReferenceIdeal.Gen Idealize.ShloMosaic Idealize.ShloMosaic.TcCoe Idealize.ShloMosaic.StableHlo
open Cert.GlaMath
namespace Gla

variable (X : Valuation τ sig (Elt Ideal))

/-- The layer input, as a function. -/
def rx (b : Fin 4) (t : Fin 4096) (k : Fin 1024) : EReal := (X (Proc.devRef .tc main_arg0) : FVec Ideal S4x4096x1024 .f32) (ix3 b t k)
/-- The first layer's projection. -/
def rw (k : Fin 1024) (j : Fin 8504) : EReal := (X (Proc.devRef .tc main_arg1) : FVec Ideal S2x1024x8504 .f32) (ix3 (0 : Fin 2) k j)
/-- The first layer's second gate matrix. -/
def rw2 (k : Fin 16) (j : Fin 256) : EReal := (X (Proc.devRef .tc main_arg2) : FVec Ideal S2x16x256 .f32) (ix3 (0 : Fin 2) k j)
/-- The first layer's gate offset. -/
def rgb (j : Fin 256) : EReal := (X (Proc.devRef .tc main_arg3) : FVec Ideal S2x256 .f32) (ix2 (0 : Fin 2) j)
/-- The first layer's scale of the normed heads. -/
def rng (j : Fin 128) : EReal := (X (Proc.devRef .tc main_arg4) : FVec Ideal S2x128 .f32) (ix2 (0 : Fin 2) j)

/-- The queries before the loop. -/
theorem v4_at (b : Fin 4) (t : Fin 4096) (j : Fin 256) : (after hostOps0 X (Proc.devRef .tc main_v4) : FVec Ideal S4x4096x256 .f32) (ix3 b t j)
    = col (rx X) (rw X) b t ⟨j, by omega⟩ := by
  unfold col rx rw
  after_results_simp
  pointwise

/-- The norm's gains before the loop. -/
theorem v14_at (j : Fin 128) : (after hostOps0 X (Proc.devRef .tc main_v14) : FVec Ideal S128 .f32) (ix1 j) = rng X j := by
  unfold rng
  after_results_simp
  pointwise

/-- The decays before their sigmoid. -/
theorem v18_at (b : Fin 4) (t : Fin 4096) (j : Fin 256) : (after hostOps0 X (Proc.devRef .tc main_v18) : FVec Ideal S4x4096x256 .f32) (ix3 b t j)
    = gz (rx X) (rw X) (rw2 X) (rgb X) b t j := by
  unfold gz col rx rw rw2 rgb
  after_results_simp
  pointwise

/-- The other two stretches of the projection the attention reads, and the output gate's. -/
theorem v5_at (b : Fin 4) (t : Fin 4096) (j : Fin 256) : (after hostOps0 X (Proc.devRef .tc main_v5) : FVec Ideal S4x4096x256 .f32) (ix3 b t j)
    = col (rx X) (rw X) b t ⟨256 + j, by omega⟩ := by
  unfold col rx rw
  after_results_simp
  pointwise

/-- The values before the loop. -/
theorem v6_at (b : Fin 4) (t : Fin 4096) (j : Fin 512) : (after hostOps0 X (Proc.devRef .tc main_v6) : FVec Ideal S4x4096x512 .f32) (ix3 b t j)
    = col (rx X) (rw X) b t ⟨512 + j, by omega⟩ := by
  unfold col rx rw
  after_results_simp
  pointwise

/-- The output gates before the loop. -/
theorem v8_at (b : Fin 4) (t : Fin 4096) (j : Fin 512) : (after hostOps0 X (Proc.devRef .tc main_v8) : FVec Ideal S4x4096x512 .f32) (ix3 b t j)
    = col (rx X) (rw X) b t ⟨1040 + j, by omega⟩ := by
  unfold col rx rw
  after_results_simp
  pointwise

/-- The logarithm of the sigmoid as the reference writes it. -/
def logSig (z : FVec Ideal S4x4096x256 .f32) : FVec Ideal S4x4096x256 .f32 :=
  let o := broadcastInDim S4x4096x256 ![] bcast_S_S4x4096x256 (constant (F := Ideal) S_ .f32 0x00000000#32)
  let y := Host.negf z
  Host.negf (select (cmpf .une (subf y o) (subf y o)) (addf y o)
    (addf (maximumf y o) (Host.log1p (Host.exp (Host.negf (Host.absf (subf y o)))))))

set_option maxHeartbeats 4000000 in
/-- The log-sigmoid, as one function of its operand. -/
theorem v19_eq : (after hostOps0_1 X (Proc.devRef .tc main_v19) : FVec Ideal S4x4096x256 .f32) = logSig (X (Proc.devRef .tc main_v18)) := by
  after_results_simp
  rfl

/-- The log-sigmoid of a real number. -/
theorem logSig_at (z : FVec Ideal S4x4096x256 .f32) (i : S4x4096x256.Idx) (r : ℝ) (hr : z i = r) :
    logSig z i = ((lsig r : ℝ) : EReal) := by
  unfold logSig
  pointwise
  rw [hr]
  rw [if_neg (by simp)]
  show -(max (-(r : EReal)) 0 + Ideal.log (1 + Ideal.exp (-max (-(r : EReal)) (-(-(r : EReal)))))) = _
  have h1 : max (-(r : EReal)) (-(-(r : EReal))) = ((|r| : ℝ) : EReal) := by
    rw [abs_eq_max_neg, max_comm, neg_neg, ← EReal.coe_neg]
    exact (EReal.coe_strictMono.monotone.map_max).symm
  have h2 : max (-(r : EReal)) 0 = ((max (-r) 0 : ℝ) : EReal) := by
    rw [← EReal.coe_neg, ← EReal.coe_zero]
    exact (EReal.coe_strictMono.monotone.map_max).symm
  rw [h1, h2, ← EReal.coe_neg, Ideal.exp_coe, ← EReal.coe_one, ← EReal.coe_add, Ideal.log_coe, if_neg (by have := Real.exp_pos (-|r|); linarith),
    ← EReal.coe_add, ← EReal.coe_neg]
  unfold lsig
  congr 1
  rw [show max (-r) 0 = -min r 0 from by rw [← max_neg_neg, neg_zero]]
  ring

/-- The queries by chunk and head, scaled. -/
theorem v25_at (n : Fin 64) (b h : Fin 4) (i d : Fin 64) : (after hostOps0_2 X (Proc.devRef .tc main_v25) : FVec Ideal S64x4x4x64x64 .f32) (ix5 n b h i d)
    = (fun e : EReal => e * Ideal.ofBits .f32 0x3E000000#32) ((X (Proc.devRef .tc main_v4) : FVec Ideal S4x4096x256 .f32) (ix3 b (tok n i) ⟨64 * h + d, by omega⟩)) := by
  dsimp only
  unfold tok
  after_results_simp
  pointwise
  simp only [Nat.mul_comm]

/-- The keys by chunk and head. -/
theorem v27_at (n : Fin 64) (b h : Fin 4) (i d : Fin 64) : (after hostOps0_2 X (Proc.devRef .tc main_v27) : FVec Ideal S64x4x4x64x64 .f32) (ix5 n b h i d)
    = (X (Proc.devRef .tc main_v5) : FVec Ideal S4x4096x256 .f32) (ix3 b (tok n i) ⟨64 * h + d, by omega⟩) := by
  unfold tok
  after_results_simp
  pointwise
  simp only [Nat.mul_comm]

/-- The values by chunk and head. -/
theorem v29_at (n : Fin 64) (b h : Fin 4) (i : Fin 64) (d : Fin 128) : (after hostOps0_2 X (Proc.devRef .tc main_v29) : FVec Ideal S64x4x4x64x128 .f32) (ix5 n b h i d)
    = (X (Proc.devRef .tc main_v6) : FVec Ideal S4x4096x512 .f32) (ix3 b (tok n i) ⟨128 * h + d, by omega⟩) := by
  unfold tok
  after_results_simp
  pointwise
  simp only [Nat.mul_comm]

/-- The log-decays by chunk and head. -/
theorem v31_at (n : Fin 64) (b h : Fin 4) (i d : Fin 64) : (after hostOps0_2 X (Proc.devRef .tc main_v31) : FVec Ideal S64x4x4x64x64 .f32) (ix5 n b h i d)
    = Ideal.div ((X (Proc.devRef .tc main_v19) : FVec Ideal S4x4096x256 .f32) (ix3 b (tok n i) ⟨64 * h + d, by omega⟩)) (Ideal.ofBits .f32 0x41800000#32) := by
  unfold tok
  after_results_simp
  pointwise
  simp only [Nat.mul_comm]

/-- A left fold of a sum over a list of numbers is the sum. -/
theorem foldl_sum {N : ℕ} (f : Fin N → EReal) (v : EReal) : (List.finRange N).foldl (fun r n => r + f n) v = v + ∑ n, f n := by
  have key : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [key, Fin.sum_univ_def]

/-- The window's positions: one for each row of a chunk. -/
def winIdx : (⟨5, ![1, 1, 1, 64, 1]⟩ : Shape).Idx ≃ Fin 64 where
  toFun i := i 3
  invFun k := ix5 (0 : Fin 1) (0 : Fin 1) (0 : Fin 1) k (0 : Fin 1)
  left_inv i := by
    funext a
    fin_cases a
    · exact Subsingleton.elim (α := Fin 1) _ _
    · exact Subsingleton.elim (α := Fin 1) _ _
    · exact Subsingleton.elim (α := Fin 1) _ _
    · rfl
    · exact Subsingleton.elim (α := Fin 1) _ _
  right_inv k := rfl

/-- The sums along a chunk's rows, as the reference's windowed sum. -/
def csum (x : FVec Ideal S64x4x4x64x64 .f32) : FVec Ideal S64x4x4x64x64 .f32 :=
  Host.reduceWindowAdd ![1, 1, 1, 64, 1] ![1, 1, 1, 1, 1] ![0, 0, 0, 63, 0] ![0, 0, 0, 0, 0] x
    (broadcastInDim S_ ![] bcast_S_S_ (constant (F := Ideal) S_ .f32 0x00000000#32))
    reduceWindows_S64x4x4x64x64_S64x4x4x64x64_w1s1p0_0_w1s1p0_0_w1s1p0_0_w64s1p63_0_w1s1p0_0 h_S_

/-- The running sums, as one function of their operand. -/
theorem v32_eq : (after hostOps0_3 X (Proc.devRef .tc main_v32) : FVec Ideal S64x4x4x64x64 .f32) = csum (X (Proc.devRef .tc main_v31)) := by
  after_results_simp
  rfl

/-- The sum over a window that ends at place `i` is the running sum. -/
theorem csum_at (x : FVec Ideal S64x4x4x64x64 .f32) (n : Fin 64) (b h : Fin 4) (i d : Fin 64) :
    csum x (ix5 n b h i d) = runs (fun j => x (ix5 n b h j d)) i := by
  unfold csum Host.reduceWindowAdd
  rw [Ideal.hostReduceWindowAdd_def]
  unfold Ideal.hostReduceWindowAdd Host.reduceWindow
  refine (foldl_sum _ _).trans ?_
  rw [show (broadcastInDim S_ ![] bcast_S_S_ (constant (F := Ideal) S_ .f32 0x00000000#32) (Shape.Idx.first h_S_) : EReal) = 0 from by pointwise, zero_add]
  refine (Fintype.sum_equiv (winIdx.symm.trans (Shape.rowMajor ⟨5, ![1, 1, 1, 64, 1]⟩)) (fun k : Fin 64 => if hk : 63 ≤ i.val + k.val then x (ix5 n b h ⟨i.val + k.val - 63, by omega⟩ d) else 0) _ fun k => ?_).symm.trans ?_
  · dsimp only
    rw [Equiv.trans_apply]
    have hv : ∀ a, (((⟨5, ![1, 1, 1, 64, 1]⟩ : Shape).rowMajor.symm ((⟨5, ![1, 1, 1, 64, 1]⟩ : Shape).rowMajor (winIdx.symm k))) a).val
        = (![0, 0, 0, k.val, 0] : Fin 5 → ℕ) a := by
      intro a
      rw [Equiv.symm_apply_apply]
      fin_cases a <;> rfl
    by_cases hk : 63 ≤ i.val + k.val
    · rw [dif_pos hk, dif_pos]
      · refine congrArg x (funext fun a => Fin.ext ?_)
        refine Eq.trans ?_ (congrArg (fun q => ((ix5 n b h i d : S64x4x4x64x64.Idx) a).val * (![1, 1, 1, 1, 1] : Fin 5 → ℕ) a + q - (![0, 0, 0, 63, 0] : Fin 5 → ℕ) a) (hv a).symm)
        fin_cases a <;> simp [ix5]
      · intro a
        show (![0, 0, 0, 63, 0] : Fin 5 → ℕ) a ≤ ((ix5 n b h i d : S64x4x4x64x64.Idx) a).val * (![1, 1, 1, 1, 1] : Fin 5 → ℕ) a + _
          ∧ ((ix5 n b h i d : S64x4x4x64x64.Idx) a).val * (![1, 1, 1, 1, 1] : Fin 5 → ℕ) a + _ - (![0, 0, 0, 63, 0] : Fin 5 → ℕ) a < (![64, 4, 4, 64, 64] : Fin 5 → ℕ) a
        rw [hv a]
        fin_cases a <;> simp [ix5] <;> omega
    · rw [dif_neg hk, dif_neg]
      intro h0
      have h3 := (h0 3).1
      change (63 : ℕ) ≤ i.val * 1 + _ at h3
      rw [hv 3] at h3
      exact hk (by simpa using h3)
  · unfold runs
    refine Fintype.sum_equiv (Equiv.addLeft (i + 1)) _ _ fun k => ?_
    have hv : ((Equiv.addLeft (i + 1)) k).val = (i.val + 1 + k.val) % 64 := by
      simp [Fin.val_add, Nat.add_assoc]
    by_cases hk : 63 ≤ i.val + k.val
    · rw [dif_pos hk, if_pos (Fin.le_def.mpr (by omega))]
      exact congrArg x (congrArg (fun q => ix5 n b h q d) (Fin.ext (by rw [hv]; simp only []; omega)))
    · rw [dif_neg hk, if_neg (by rw [Fin.le_def]; omega)]

/-- The mask's element. -/
theorem tril (i j : Fin 64) : Scalar.select (IntOp.cmpi CmpIPredicate.sge (IntOp.addi (BitVec.ofNat 32 i.val) 0#32) (BitVec.ofNat 32 j.val)) 1#1 0#1
    = if j ≤ i then 1#1 else 0#1 := by
  revert i j
  decide +kernel

/-- The rows a row reads. -/
theorem v34_at (i j : Fin 64) : (after hostOps0_5 (after hostOps0_4 X) (Proc.devRef .tc main_v34) : IVec S64x64 1) (ix2 i j)
    = if j ≤ i then 1#1 else 0#1 := by
  after_results_simp
  refine Eq.trans (b := select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1)) (ix2 i j)) rfl ?_
  pointwise
  exact tril i j

/-- The loop starts from a zero state. -/
theorem v38_6_at (i : S4x4x64x128.Idx) : (after hostOps0_6 X (Proc.devRef .tc main_v38_6) : FVec Ideal S4x4x64x128 .f32) i = (0 : EReal) := by
  after_results_simp
  simp only [id_eq]
  pointwise

/-- The causal mask. -/
theorem v38_4_at (i j : Fin 64) : (after hostOps0_6 X (Proc.devRef .tc main_v38_4) : IVec S64x64x1 1) (ix3 i j (0 : Fin 1))
    = (X (Proc.devRef .tc main_v34) : IVec S64x64 1) (ix2 i j) := by
  after_results_simp
  simp only [id_eq]
  pointwise

/-- The gate's logarithm of a real offset sum, as `laf` has it. -/
theorem logSig_laf (z : FVec Ideal S4x4096x256 .f32) (i : S4x4096x256.Idx) (hr : Real' (z i)) :
    Ideal.div (logSig z i) (Ideal.ofBits .f32 0x41800000#32) = laf (z i) := by
  obtain ⟨r, hr⟩ := hr
  rw [logSig_at z i r hr, hr, laf_coe, show Ideal.ofBits FTy.f32 0x41800000#32 = ((16 : ℝ) : EReal) from by
    simp [Ideal.ofBits, Ideal.ieee]; rw [← EReal.coe_mul]; norm_num, Ideal.div_coe (by norm_num), ← EReal.coe_mul]

/-- The loop's queries. -/
theorem v38_0_eq : after hostOps0_6 X (Proc.devRef .tc main_v38_0) = X (Proc.devRef .tc main_v25) := by
  after_results_simp
  rfl
/-- The loop's keys. -/
theorem v38_1_eq : after hostOps0_6 X (Proc.devRef .tc main_v38_1) = X (Proc.devRef .tc main_v27) := by
  after_results_simp
  rfl
/-- The loop's values. -/
theorem v38_2_eq : after hostOps0_6 X (Proc.devRef .tc main_v38_2) = X (Proc.devRef .tc main_v29) := by
  after_results_simp
  rfl
/-- The loop's running log-decays. -/
theorem v38_3_eq : after hostOps0_6 X (Proc.devRef .tc main_v38_3) = X (Proc.devRef .tc main_v32) := by
  after_results_simp
  rfl

variable (m : (ℓ : Loc nD τ sig) → Buf (Elt Ideal) ℓ) (c : Dev nD)

/-- The chunks' queries as the loop starts. -/
theorem e0 (n : Fin 64) (b h : Fin 4) (i d : Fin 64) : (entryContents preI m c (Proc.devRef .tc main_v38_0) : FVec Ideal S64x4x4x64x64 .f32) (ix5 n b h i d)
    = gq (rx (launchContents m c)) (rw (launchContents m c)) b n h i d := by
  simp only [entryContents, afterL_cons, afterL_nil]
  rw [v38_0_eq, after_of_writes_sub hostOps0_5 _ hostOps0_5_writes (by decide +kernel),
    after_of_writes_sub hostOps0_4 _ hostOps0_4_writes (by decide +kernel),
    after_of_writes_sub hostOps0_3 _ hostOps0_3_writes (by decide +kernel), v25_at,
    after_of_writes_sub hostOps0_1 _ hostOps0_1_writes (by decide +kernel), v4_at]
  rfl

/-- The chunks' keys. -/
theorem e1 (n : Fin 64) (b h : Fin 4) (i d : Fin 64) : (entryContents preI m c (Proc.devRef .tc main_v38_1) : FVec Ideal S64x4x4x64x64 .f32) (ix5 n b h i d)
    = gk (rx (launchContents m c)) (rw (launchContents m c)) b n h i d := by
  simp only [entryContents, afterL_cons, afterL_nil]
  rw [v38_1_eq, after_of_writes_sub hostOps0_5 _ hostOps0_5_writes (by decide +kernel),
    after_of_writes_sub hostOps0_4 _ hostOps0_4_writes (by decide +kernel),
    after_of_writes_sub hostOps0_3 _ hostOps0_3_writes (by decide +kernel), v27_at,
    after_of_writes_sub hostOps0_1 _ hostOps0_1_writes (by decide +kernel), v5_at]
  unfold gk
  simp only [Nat.add_assoc]

/-- The chunks' values. -/
theorem e2 (n : Fin 64) (b h : Fin 4) (i : Fin 64) (d : Fin 128) : (entryContents preI m c (Proc.devRef .tc main_v38_2) : FVec Ideal S64x4x4x64x128 .f32) (ix5 n b h i d)
    = gv (rx (launchContents m c)) (rw (launchContents m c)) b n h i d := by
  simp only [entryContents, afterL_cons, afterL_nil]
  rw [v38_2_eq, after_of_writes_sub hostOps0_5 _ hostOps0_5_writes (by decide +kernel),
    after_of_writes_sub hostOps0_4 _ hostOps0_4_writes (by decide +kernel),
    after_of_writes_sub hostOps0_3 _ hostOps0_3_writes (by decide +kernel), v29_at,
    after_of_writes_sub hostOps0_1 _ hostOps0_1_writes (by decide +kernel), v6_at]
  unfold gv
  simp only [Nat.add_assoc]

/-- The chunks' running gates, of real gate sums. -/
theorem e3 (hz : ∀ b t j, Real' (gz (rx (launchContents m c)) (rw (launchContents m c)) (rw2 (launchContents m c)) (rgb (launchContents m c)) b t j))
    (n : Fin 64) (b h : Fin 4) (i d : Fin 64) : (entryContents preI m c (Proc.devRef .tc main_v38_3) : FVec Ideal S64x4x4x64x64 .f32) (ix5 n b h i d)
    = gB (rx (launchContents m c)) (rw (launchContents m c)) (rw2 (launchContents m c)) (rgb (launchContents m c)) b n h i d := by
  simp only [entryContents, afterL_cons, afterL_nil]
  rw [v38_3_eq, after_of_writes_sub hostOps0_5 _ hostOps0_5_writes (by decide +kernel),
    after_of_writes_sub hostOps0_4 _ hostOps0_4_writes (by decide +kernel), v32_eq, csum_at]
  unfold gB
  refine congrArg (fun f => runs f i) (funext fun j => ?_)
  rw [v31_at, v19_eq, logSig_laf, v18_at]
  rw [v18_at]
  exact hz _ _ _

/-- The mask. -/
theorem e4 (i j : Fin 64) : (entryContents preI m c (Proc.devRef .tc main_v38_4) : IVec S64x64x1 1) (ix3 i j (0 : Fin 1))
    = if j ≤ i then 1#1 else 0#1 := by
  simp only [entryContents, afterL_cons, afterL_nil]
  rw [v38_4_at, v34_at]

/-- The state the loop starts with. -/
theorem e6 (i : S4x4x64x128.Idx) : (entryContents preI m c (Proc.devRef .tc main_v38_6) : FVec Ideal S4x4x64x128 .f32) i = (0 : EReal) := by
  simp only [entryContents, afterL_cons, afterL_nil]
  rw [v38_6_at]

/-- The output gate's columns. -/
theorem e8 (b : Fin 4) (t : Fin 4096) (j : Fin 512) : (entryContents preI m c (Proc.devRef .tc main_v8) : FVec Ideal S4x4096x512 .f32) (ix3 b t j)
    = col (rx (launchContents m c)) (rw (launchContents m c)) b t ⟨1040 + j, by omega⟩ := by
  simp only [entryContents, afterL_cons, afterL_nil]
  rw [after_of_writes_sub hostOps0_6 _ hostOps0_6_writes (by decide +kernel), after_of_writes_sub hostOps0_5 _ hostOps0_5_writes (by decide +kernel),
    after_of_writes_sub hostOps0_4 _ hostOps0_4_writes (by decide +kernel),
    after_of_writes_sub hostOps0_3 _ hostOps0_3_writes (by decide +kernel), after_of_writes_sub hostOps0_2 _ hostOps0_2_writes (by decide +kernel),
    after_of_writes_sub hostOps0_1 _ hostOps0_1_writes (by decide +kernel), v8_at]

/-- The scale of the normed heads. -/
theorem e14 (j : Fin 128) : (entryContents preI m c (Proc.devRef .tc main_v14) : FVec Ideal S128 .f32) (ix1 j) = rng (launchContents m c) j := by
  simp only [entryContents, afterL_cons, afterL_nil]
  rw [after_of_writes_sub hostOps0_6 _ hostOps0_6_writes (by decide +kernel), after_of_writes_sub hostOps0_5 _ hostOps0_5_writes (by decide +kernel),
    after_of_writes_sub hostOps0_4 _ hostOps0_4_writes (by decide +kernel),
    after_of_writes_sub hostOps0_3 _ hostOps0_3_writes (by decide +kernel), after_of_writes_sub hostOps0_2 _ hostOps0_2_writes (by decide +kernel),
    after_of_writes_sub hostOps0_1 _ hostOps0_1_writes (by decide +kernel), v14_at]

end Gla
end Cert.ReferenceIdeal.Value
-- ==== Proof.GlaRefLoop.lean ====
/-
  The gated linear attention's reference: its loop over the chunks, by induction on the trips.
-/
module

public import proofs.«01_k».proof.Proof.GlaTrip
public import proofs.«01_k».proof.Proof.GlaRefEntry

@[expose] public section
set_option maxRecDepth 16384
noncomputable section
namespace Cert.ReferenceIdeal.Value
open Cert.ReferenceIdeal Cert.ReferenceIdeal.Gen Idealize.ShloMosaic Idealize.ShloMosaic.TcCoe Idealize.ShloMosaic.StableHlo
open Cert.GlaMath
namespace Gla

variable (x : Fin 4 → Fin 4096 → Fin 1024 → EReal) (w : Fin 1024 → Fin 8504 → EReal)
variable (w2 : Fin 16 → Fin 256 → EReal) (gb : Fin 256 → EReal)

/-- What the loop's buffers hold before its trip `n`: the chunks' queries, keys, values and running gates, the mask,
the counter, the state, and the outputs of the chunks before. -/
structure At (V : Valuation τ sig (Elt Ideal)) (n : ℕ) : Prop where
  q : ∀ (n' : Fin 64) (b h : Fin 4) (i d : Fin 64), (V (Proc.devRef .tc main_v38_0) : FVec Ideal S64x4x4x64x64 .f32) (ix5 n' b h i d) = gq x w b n' h i d
  k : ∀ (n' : Fin 64) (b h : Fin 4) (i d : Fin 64), (V (Proc.devRef .tc main_v38_1) : FVec Ideal S64x4x4x64x64 .f32) (ix5 n' b h i d) = gk x w b n' h i d
  v : ∀ (n' : Fin 64) (b h : Fin 4) (i : Fin 64) (c : Fin 128), (V (Proc.devRef .tc main_v38_2) : FVec Ideal S64x4x4x64x128 .f32) (ix5 n' b h i c) = gv x w b n' h i c
  B : ∀ (n' : Fin 64) (b h : Fin 4) (i d : Fin 64), (V (Proc.devRef .tc main_v38_3) : FVec Ideal S64x4x4x64x64 .f32) (ix5 n' b h i d) = gB x w w2 gb b n' h i d
  msk : ∀ i j : Fin 64, (V (Proc.devRef .tc main_v38_4) : IVec S64x64x1 1) (ix3 i j (0 : Fin 1)) = if j ≤ i then 1#1 else 0#1
  ctr : V (Proc.devRef .tc main_v38_5) = fun _ => BitVec.ofNat 32 n
  st : ∀ (b h : Fin 4) (d : Fin 64) (c : Fin 128), (V (Proc.devRef .tc main_v38_6) : FVec Ideal S4x4x64x128 .f32) (ix4 b h d c) = gS x w w2 gb b n h d c
  out : ∀ (n' : Fin 64) (b h : Fin 4) (i : Fin 64) (c : Fin 128), n'.val < n →
    (V (Proc.devRef .tc main_v38_7) : FVec Ideal S64x4x4x64x128 .f32) (ix5 n' b h i c) = gA x w w2 gb b n' h i c

/-- A trip carries the statement on. -/
theorem At.step {V : Valuation τ sig (Elt Ideal)} {n : ℕ} (hn : n < 64) (h : At x w w2 gb V n) : At x w w2 gb (STEP V) (n + 1) where
  q n' b h' i d := by rw [STEP_main_v38_0]; exact h.q n' b h' i d
  k n' b h' i d := by rw [STEP_main_v38_1]; exact h.k n' b h' i d
  v n' b h' i c := by rw [STEP_main_v38_2]; exact h.v n' b h' i c
  B n' b h' i d := by rw [STEP_main_v38_3]; exact h.B n' b h' i d
  msk i j := by rw [STEP_main_v38_4]; exact h.msk i j
  ctr := by rw [STEP_main_v38_5]; exact step5_at V ⟨n, hn⟩ h.ctr
  st b h' d c := by
    rw [STEP_main_v38_6, step6_at]
    simp only [v60_at V ⟨n, hn⟩ h.ctr, v61_at V ⟨n, hn⟩ h.ctr, v62_at V ⟨n, hn⟩ h.ctr, h.k, h.v, h.B, h.st]
    rw [show gS x w w2 gb b (n + 1) h' d c = next (gk x w b (Fin.ofNat 64 n) h') (gB x w w2 gb b (Fin.ofNat 64 n) h') (gv x w b (Fin.ofNat 64 n) h') (gS x w w2 gb b n h') d c from rfl,
      show Fin.ofNat 64 n = ⟨n, hn⟩ from Fin.ext (Nat.mod_eq_of_lt hn)]
  out n' b h' i c hn' := by
    rw [STEP_main_v38_7, step7_at V ⟨n, hn⟩ h.ctr h.msk]
    by_cases e : n' = ⟨n, hn⟩
    · rw [if_pos e]
      subst e
      simp only [h.q, h.k, h.v, h.B, h.st]
      rfl
    · rw [if_neg e]
      exact h.out n' b h' i c (by
        have : n'.val ≠ n := fun hh => e (Fin.ext hh)
        omega)

/-- The statement at the loop's entry gives it after any number of trips. -/
theorem At.iter {V : Valuation τ sig (Elt Ideal)} (h : At x w w2 gb V 0) : ∀ n, n ≤ 64 → At x w w2 gb (STEP^[n] V) n
  | 0, _ => h
  | n + 1, hn => by
    rw [Function.iterate_succ_apply']
    exact (At.iter h n (by omega)).step x w w2 gb (by omega)

end Gla
end Cert.ReferenceIdeal.Value
-- ==== Proof.GlaRefPost.lean ====
/-
  The gated linear attention's reference: what it does after its loop.
-/
module

public import proofs.«01_k».proof.Proof.GlaLayer
public import proofs.«01_k».proof.Proof.Dense
public import proofs.«01_k».proof.Proof.GlaRefFrame

@[expose] public section
set_option maxRecDepth 16384
noncomputable section
namespace Cert.ReferenceIdeal.Value
open Cert.ReferenceIdeal Cert.ReferenceIdeal.Gen Idealize.ShloMosaic Idealize.ShloMosaic.TcCoe Idealize.ShloMosaic.StableHlo
open Cert.GlaMath
namespace Gla

variable (X : Valuation τ sig (Elt Ideal))

/-- The heads, normed and scaled, as the operations after the loop compute them. -/
theorem v54_at (r : Fin 4) (t : Fin 4096) (q : Fin 512) : (after hostOps0_7 X (Proc.devRef .tc main_v54) : FVec Ideal S4x4096x512 .f32) (ix3 r t q)
    = (fun (o : Fin 128 → EReal) (g : EReal) => o ⟨q % 128, by omega⟩ * Ideal.rsqrt (Ideal.div (∑ e, o e * o e) (Ideal.ofBits .f32 0x43000000#32) + Ideal.ofBits .f32 0x358637BD#32) * g)
      (fun e => (X (Proc.devRef .tc main_v38_7) : FVec Ideal S64x4x4x64x128 .f32) (ix5 ⟨t / 64, by omega⟩ r ⟨q / 128, by omega⟩ ⟨t % 64, by omega⟩ e))
      ((X (Proc.devRef .tc main_v14) : FVec Ideal S128 .f32) (ix1 ⟨q % 128, by omega⟩)) := by
  dsimp only
  after_results_simp
  pointwise

/-- The output gate. -/
def silu (z : FVec Ideal S4x4096x512 .f32) : FVec Ideal S4x4096x512 .f32 :=
  let o := broadcastInDim S4x4096x512 ![] bcast_S_S4x4096x512 (constant (F := Ideal) S_ .f32 0x3F800000#32)
  mulf z (Host.divf o (addf o (Host.exp (Host.negf z))))

/-- The gate after the loop, as one function of its operand. -/
theorem v55_eq : (after hostOps0_8 X (Proc.devRef .tc main_v55) : FVec Ideal S4x4096x512 .f32) = silu (X (Proc.devRef .tc main_v8)) := by
  after_results_simp
  rfl

/-- The gate's function, entry by entry. -/
theorem silu_at (z : FVec Ideal S4x4096x512 .f32) (i : S4x4096x512.Idx) : silu z i = z i * Cert.Dense.sg (z i) := by
  unfold silu Cert.Dense.sg
  pointwise

/-- The result's rows: the normed and gated heads, joined. -/
theorem v58_at (r : Fin 16384) (q : Fin 512) : (after hostOps0_9 X (Proc.devRef .tc main_v58) : FVec Ideal S16384x512 .bf16) (ix2 r q)
    = (fun a b : EReal => a * b) ((X (Proc.devRef .tc main_v54) : FVec Ideal S4x4096x512 .f32) (ix3 ⟨r / 4096, by omega⟩ ⟨r % 4096, by omega⟩ q))
      ((X (Proc.devRef .tc main_v55) : FVec Ideal S4x4096x512 .f32) (ix3 ⟨r / 4096, by omega⟩ ⟨r % 4096, by omega⟩ q)) := by
  dsimp only
  after_results_simp
  pointwise

/-- The result of the operations after the loop: each head's output normed, scaled and gated. -/
theorem post_at (V : Valuation τ sig (Elt Ideal)) (r : Fin 16384) (q : Fin 512) :
    (after hostOps0_9 (after hostOps0_8 (after hostOps0_7 (after condOps V))) (Proc.devRef .tc main_v58) : FVec Ideal S16384x512 .bf16) (ix2 r q)
    = (fun (o : Fin 128 → EReal) (g z : EReal) => o ⟨q % 128, by omega⟩ * Ideal.rsqrt (Ideal.div (∑ e, o e * o e) (Ideal.ofBits .f32 0x43000000#32) + Ideal.ofBits .f32 0x358637BD#32) * g * (z * Cert.Dense.sg z))
      (fun e => (V (Proc.devRef .tc main_v38_7) : FVec Ideal S64x4x4x64x128 .f32) (ix5 ⟨r % 4096 / 64, by omega⟩ ⟨r / 4096, by omega⟩ ⟨q / 128, by omega⟩ ⟨r % 4096 % 64, by omega⟩ e))
      ((V (Proc.devRef .tc main_v14) : FVec Ideal S128 .f32) (ix1 ⟨q % 128, by omega⟩))
      ((V (Proc.devRef .tc main_v8) : FVec Ideal S4x4096x512 .f32) (ix3 ⟨r / 4096, by omega⟩ ⟨r % 4096, by omega⟩ q)) := by
  have k54 : ∀ Y : Valuation τ sig (Elt Ideal), after hostOps0_8 Y (Proc.devRef .tc main_v54) = Y (Proc.devRef .tc main_v54) :=
    fun Y => after_of_writes_sub hostOps0_8 Y hostOps0_8_writes (by decide +kernel)
  have k8 : ∀ Y : Valuation τ sig (Elt Ideal), after hostOps0_7 Y (Proc.devRef .tc main_v8) = Y (Proc.devRef .tc main_v8) :=
    fun Y => after_of_writes_sub hostOps0_7 Y hostOps0_7_writes (by decide +kernel)
  have c8 : after condOps V (Proc.devRef .tc main_v8) = V (Proc.devRef .tc main_v8) :=
    after_of_writes_sub condOps V condOps_writes (by decide +kernel)
  have c14 : after condOps V (Proc.devRef .tc main_v14) = V (Proc.devRef .tc main_v14) :=
    after_of_writes_sub condOps V condOps_writes (by decide +kernel)
  have c7 : after condOps V (Proc.devRef .tc main_v38_7) = V (Proc.devRef .tc main_v38_7) :=
    after_of_writes_sub condOps V condOps_writes (by decide +kernel)
  rw [v58_at, v55_eq, silu_at, k54, k8, c8, v54_at, c14, c7]

/-- Every buffer the loop writes. -/
abbrev loopWritten : List (Ref sig .tc) :=
  condOps_W ++ while0Ops0_W ++ while0Ops0_1_W ++ while0Ops0_2_W ++ while0Ops0_3_W ++ while0Ops0_4_W ++ while0Ops0_5_W
    ++ while0Ops0_6_W ++ while0Ops0_7_W ++ while0Ops0_8_W

/-- A stretch that writes only buffers of the list leaves a buffer outside it as it was. -/
theorem loop_keeps_of {ops : List (HloOp τ sig (Elt Ideal))} {W : List (Ref sig .tc)} (b : Ref sig .tc) (hb : b ∉ loopWritten)
    (hw : ops.Forall fun op => op.writes ⊆ (W.map (Proc.devRef (τ := τ) .tc)).toFinset) (hW : W ⊆ loopWritten)
    (V : Valuation τ sig (Elt Ideal)) : after ops V (Proc.devRef .tc b) = V (Proc.devRef .tc b) :=
  after_of_writes_sub ops V hw (fun h => hb (hW h))

/-- The loop's trips leave such a buffer as it was at the loop's entry. -/
theorem loop_keeps (m : (ℓ : Loc nD τ sig) → Buf (Elt Ideal) ℓ) (c : Dev nD) (b : Ref sig .tc) (hb : b ∉ loopWritten) (k : ℕ) :
    atK m k c (Proc.devRef .tc b) = entryContents preI m c (Proc.devRef .tc b) := by
  induction k with
  | zero => rfl
  | succ k ih =>
    rw [show atK m (k + 1) c = afterL bodyI (after condOps (atK m k c)) from rfl]
    simp only [afterL_cons, afterL_nil]
    rw [loop_keeps_of b hb while0Ops0_8_writes (by decide +kernel), loop_keeps_of b hb while0Ops0_7_writes (by decide +kernel),
      loop_keeps_of b hb while0Ops0_6_writes (by decide +kernel), loop_keeps_of b hb while0Ops0_5_writes (by decide +kernel),
      loop_keeps_of b hb while0Ops0_4_writes (by decide +kernel), loop_keeps_of b hb while0Ops0_3_writes (by decide +kernel),
      loop_keeps_of b hb while0Ops0_2_writes (by decide +kernel), loop_keeps_of b hb while0Ops0_1_writes (by decide +kernel),
      loop_keeps_of b hb while0Ops0_writes (by decide +kernel), loop_keeps_of b hb condOps_writes (by decide +kernel)]
    exact ih

end Gla
end Cert.ReferenceIdeal.Value
-- ==== Proof.GlaRefOut.lean ====
/-
  The gated linear attention's reference: its result over the layer's arguments.
-/
module

public import proofs.«01_k».proof.Proof.GlaRefLoop
public import proofs.«01_k».proof.Proof.GlaRefPost

@[expose] public section
set_option maxRecDepth 16384
noncomputable section
namespace Cert.ReferenceIdeal.Value
open Cert.ReferenceIdeal Cert.ReferenceIdeal.Gen Idealize.ShloMosaic Idealize.ShloMosaic.TcCoe Idealize.ShloMosaic.StableHlo
open Cert.GlaMath
namespace Gla

variable (m : (ℓ : Loc nD τ sig) → Buf (Elt Ideal) ℓ) (c : Dev nD)

/-- The loop's entry meets the statement at no trips. -/
theorem at_entry (hz : ∀ b t j, Real' (gz (rx (launchContents m c)) (rw (launchContents m c)) (rw2 (launchContents m c)) (rgb (launchContents m c)) b t j)) : At (rx (launchContents m c)) (rw (launchContents m c)) (rw2 (launchContents m c)) (rgb (launchContents m c)) (entryContents preI m c) 0 where
  q := e0 m c
  k := e1 m c
  v := e2 m c
  B := e3 m c hz
  msk := e4 m c
  ctr := ctr_entry m c
  st b h d e := e6 m c _
  out n' _ _ _ _ h := absurd h (Nat.not_lt_zero _)

/-- After the loop every chunk's outputs are what the layer says. -/
theorem loop_out (hz : ∀ b t j, Real' (gz (rx (launchContents m c)) (rw (launchContents m c)) (rw2 (launchContents m c)) (rgb (launchContents m c)) b t j)) (n : Fin 64) (b h : Fin 4) (i : Fin 64) (e : Fin 128) :
    (atK m 64 c (Proc.devRef .tc main_v38_7) : FVec Ideal S64x4x4x64x128 .f32) (ix5 n b h i e) = gA (rx (launchContents m c)) (rw (launchContents m c)) (rw2 (launchContents m c)) (rgb (launchContents m c)) b n h i e := by
  have h7 : atK m 64 c (Proc.devRef .tc main_v38_7) = (STEP^[64] (entryContents preI m c)) (Proc.devRef .tc main_v38_7) :=
    atK_agree m c 64 main_v38_7 (by decide +kernel)
  rw [h7]
  exact (At.iter _ _ _ _ (at_entry m c hz) 64 le_rfl).out n b h i e n.isLt

/-- The reference's result. -/
def result (i : S16384x512.Idx) : Elt Ideal .bf16 :=
  gO (rx (launchContents m c)) (rw (launchContents m c)) (rw2 (launchContents m c)) (rgb (launchContents m c)) (rng (launchContents m c)) ⟨(i 0).val / 4096, by have : (i 0).val < 16384 := (i 0).isLt; omega⟩ ⟨(i 0).val % 4096 / 64, by omega⟩
    ⟨(i 1).val / 128, by have : (i 1).val < 512 := (i 1).isLt; omega⟩ ⟨(i 0).val % 64, by omega⟩ ⟨(i 1).val % 128, by omega⟩

/-- The reference ends with the layer's result. -/
theorem final_eq (hz : ∀ b t j, Real' (gz (rx (launchContents m c)) (rw (launchContents m c)) (rw2 (launchContents m c)) (rgb (launchContents m c)) b t j)) :
    (finalContents condOps preI bodyI postI 64 m c (Proc.devRef .tc main_v58) : FVec Ideal S16384x512 .bf16) = result m c := by
  funext i
  obtain ⟨r, q, rfl⟩ : ∃ (r : Fin 16384) (q : Fin 512), i = ix2 r q := ⟨i 0, i 1, eq_ix2 i⟩
  simp only [finalContents, afterL_cons, afterL_nil]
  rw [post_at]
  have h8 : atTrip condOps bodyI (entryContents preI m) 64 c (Proc.devRef .tc main_v8) = _ := loop_keeps m c main_v8 (by decide +kernel) 64
  have h14 : atTrip condOps bodyI (entryContents preI m) 64 c (Proc.devRef .tc main_v14) = _ := loop_keeps m c main_v14 (by decide +kernel) 64
  rw [h8, h14, e8, e14]
  simp only [loop_out m c hz]
  unfold result gO headRow gg
  have e1 : (⟨r.val % 4096 % 64, by omega⟩ : Fin 64) = ⟨r.val % 64, by omega⟩ := Fin.ext (by dsimp only; omega)
  have e2 : (⟨r.val % 4096, by omega⟩ : Fin 4096) = tok ⟨r.val % 4096 / 64, by omega⟩ ⟨r.val % 64, by omega⟩ :=
    Fin.ext (by unfold tok; dsimp only; omega)
  have e3 : (⟨1040 + q.val, by omega⟩ : Fin 1552) = ⟨1040 + 128 * (q.val / 128) + q.val % 128, by omega⟩ :=
    Fin.ext (by dsimp only; omega)
  rw [e1, e2, e3]
  rfl

end Gla
end Cert.ReferenceIdeal.Value
-- ==== Proof.GlaPre.lean ====
/-
  The gated linear attention's precondition: what its four comparisons say of the arguments.
-/
module

public import proofs.«01_k».proof.Pre_finite
public import proofs.«01_k».proof.Proof.GlaLayer

@[expose] public section
set_option maxRecDepth 16384
noncomputable section

open Idealize.ShloMosaic

namespace Cert.Pre_finite

/-- The side conditions of the precondition's operations. -/
theorem facts : Facts where
  slices_S2x1024x8504_S1x1024x16_0_0_2848 := by decide
  shapeCasts_S1x1024x16_S1024x16 := by decide
  slices_S2x16x256_S1x16x256_0_0_0 := by decide
  shapeCasts_S1x16x256_S16x256 := by decide
  slices_S2x256_S1x256_0_0 := by decide
  shapeCasts_S1x256_S256 := by decide
  bcast_S_S4x4096x1024 := by decide
  bcast_S_S1024x16 := by decide
  bcast_S_S16x256 := by decide
  bcast_S_S256 := by decide

open Cert.GlaMath

/-- A value that compares equal to zero after subtraction from itself is real. -/
theorem real_of_cmp {x : EReal} (h : FloatOps.cmpf (F := Ideal) (φ := .f32) .oeq (FloatOps.subf (F := Ideal) (φ := .f32) x x) (Ideal.ofBits .f32 0x00000000#32) = 1#1) : Real' x := by
  apply Real'.of_sub_self
  have h0 : Ideal.ofBits .f32 0x00000000#32 = 0 := by simp [Ideal.ofBits, Ideal.ieee]
  by_contra hn
  rw [h0] at h
  have : Ideal.cmp .oeq (x - x) 0 = 1#1 := h
  simp [Ideal.cmp, hn] at this

variable [Facts] (x : FVec Ideal S4x4096x1024 .f32) (w : FVec Ideal S2x1024x8504 .f32) (w2 : FVec Ideal S2x16x256 .f32)
  (gb : FVec Ideal S2x256 .f32) (ng : FVec Ideal S2x128 .f32)

/-- The first comparison: the activations are real. -/
theorem x_real (h : (fn (F := Ideal) x w w2 gb ng).1 = fun _ => 1#1) (b : Fin 4) (t : Fin 4096) (k : Fin 1024) : Real' (x (ix3 b t k)) :=
  real_of_cmp (congrFun h (ix3 b t k))

/-- The second comparison: the decays' first weight is real. -/
theorem w_real (h : (fn (F := Ideal) x w w2 gb ng).2.1 = fun _ => 1#1) (k : Fin 1024) (q : Fin 16) : Real' (w (ix3 0 k (lowCol q))) := by
  have e := congrFun h (ix2 k q)
  refine real_of_cmp (Eq.trans ?_ e)
  unfold fn
  rw [show lowCol q = ⟨2848 + q.val, by omega⟩ from Fin.ext (by simp only [lowCol]; omega)]
  pointwise

/-- The third comparison: the decays' second weight is real. -/
theorem w2_real (h : (fn (F := Ideal) x w w2 gb ng).2.2.1 = fun _ => 1#1) (k : Fin 16) (q : Fin 256) : Real' (w2 (ix3 0 k q)) := by
  have e := congrFun h (ix2 k q)
  refine real_of_cmp (Eq.trans ?_ e)
  unfold fn
  pointwise

/-- The fourth comparison: the decays' offsets are real. -/
theorem gb_real (h : (fn (F := Ideal) x w w2 gb ng).2.2.2 = fun _ => 1#1) (q : Fin 256) : Real' (gb (ix2 0 q)) := by
  have e := congrFun h (ix1 q)
  refine real_of_cmp (Eq.trans ?_ e)
  unfold fn
  pointwise

end Cert.Pre_finite

end
-- ==== Proof.GlaValue.lean ====
/-
  The gated linear attention's call: the result array after the run is the reference's array.
-/
module

public import proofs.«01_k».proof.Proof.GlaGrid
public import proofs.«01_k».proof.Proof.GlaRefOut
public import proofs.«01_k».proof.Proof.GlaPre
public import Idealize.ShloMosaic.Lib.Claim
public import proofs.«01_k».proof.Defs

@[expose] public section
set_option maxRecDepth 16384
noncomputable section

open Idealize.ShloMosaic Idealize.ShloMosaic.TcCoe Idealize.ShloMosaic.StableHlo Idealize.SL.Sem Cert.GlaMath

namespace Cert.KernelIdeal.Value.Gla

open Cert.KernelIdeal Cert.KernelIdeal.Gen

/-- The decays before their sigmoid are real, if what they are computed from is. -/
theorem gz_real {x : Fin 4 → Fin 4096 → Fin 1024 → EReal} {w : Fin 1024 → Fin 8504 → EReal} {w2 : Fin 16 → Fin 256 → EReal} {gb : Fin 256 → EReal}
    (hx : ∀ b t k, Real' (x b t k)) (hw : ∀ k q, Real' (w k (lowCol q))) (hw2 : ∀ k j, Real' (w2 k j)) (hgb : ∀ j, Real' (gb j))
    (b : Fin 4) (t : Fin 4096) (j : Fin 256) : Real' (gz x w w2 gb b t j) :=
  (Real'.sum _ fun q => (Real'.sum _ fun k => (hx b t k).mul (hw k q)).mul (hw2 q j)).add (hgb j)

/-- The kernel and the reference end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre ha
  refine ⟨fun c => (dats m 0 c).arrAt 5 cfg0.N, run_blocks m g, ?_⟩
  refine (θ_run _ _ _).mono (fun r h c => ⟨(h c _ rfl).trans ?_,
      (h c _ rfl).trans (Cert.ReferenceIdeal.Value.final_keeps m' c _ (by decide +kernel)),
      (h c _ rfl).trans (Cert.ReferenceIdeal.Value.final_keeps m' c _ (by decide +kernel)),
      (h c _ rfl).trans (Cert.ReferenceIdeal.Value.final_keeps m' c _ (by decide +kernel)),
      (h c _ rfl).trans (Cert.ReferenceIdeal.Value.final_keeps m' c _ (by decide +kernel)),
      (h c _ rfl).trans (Cert.ReferenceIdeal.Value.final_keeps m' c _ (by decide +kernel))⟩)
    (Cert.ReferenceIdeal.Value.run_fold (F := Ideal) m' g')
  obtain ⟨a0, a1, a2, a3, a4⟩ := ha c
  obtain ⟨p0, p1, p2, p3⟩ := hpre c
  have ex : Cert.ReferenceIdeal.Value.Gla.rx (launchContents m' c) = ax m c := by
    funext b t k; exact congrFun a0 (ix3 b t k)
  have ew : Cert.ReferenceIdeal.Value.Gla.rw (launchContents m' c) = aw m c := by
    funext k j; exact congrFun a1 (ix3 (0 : Fin 2) k j)
  have ew2 : Cert.ReferenceIdeal.Value.Gla.rw2 (launchContents m' c) = aw2 m c := by
    funext k j; exact congrFun a2 (ix3 (0 : Fin 2) k j)
  have egb : Cert.ReferenceIdeal.Value.Gla.rgb (launchContents m' c) = agb m c := by
    funext j; exact congrFun a3 (ix2 (0 : Fin 2) j)
  have eng : Cert.ReferenceIdeal.Value.Gla.rng (launchContents m' c) = ang m c := by
    funext j; exact congrFun a4 (ix2 (0 : Fin 2) j)
  letI := Cert.Pre_finite.facts
  have hx : ∀ b t k, Real' (ax m c b t k) := Cert.Pre_finite.x_real _ _ _ _ _ p0
  have hw : ∀ k q, Real' (aw m c k (lowCol q)) := Cert.Pre_finite.w_real _ _ _ _ _ p1
  have hw2 : ∀ k j, Real' (aw2 m c k j) := Cert.Pre_finite.w2_real _ _ _ _ _ p2
  have hgb : ∀ j, Real' (agb m c j) := Cert.Pre_finite.gb_real _ _ _ _ _ p3
  refine (Cert.ReferenceIdeal.Value.Gla.final_eq m' c ?_).trans (Eq.trans ?_ (final m c hx hw hw2 hgb).symm)
  · rw [ex, ew, ew2, egb]; exact gz_real hx hw hw2 hgb
  · unfold Cert.ReferenceIdeal.Value.Gla.result
    rw [ex, ew, ew2, egb, eng]
    rfl

end Cert.KernelIdeal.Value.Gla

end
-- ==== Proof.FfnTile.lean ====
/-
  One row block of the feed-forward call: what the kernel stores, read entry by entry, is the feed-forward sublayer of
  the row (`Cert.Dense.ffnLn`).
-/
module

public import proofs.«01_k».proof.Proof.Dense
public import proofs.«01_k».proof.Proof.Gen.FfnIdeal.Frame

@[expose] public section

set_option maxRecDepth 16384

noncomputable section

open Idealize.ShloMosaic Idealize.ShloMosaic.TcCoe Idealize.SL.Sem

namespace Cert.FfnIdeal.Value

open Cert.FfnIdeal Cert.FfnIdeal.Gen Cert.Dense

/-- A hidden pre-activation chunk: the row block times 256 columns of a weight. -/
def up (x : FVec Ideal S512x1024 .bf16) (w : FVec Ideal S1x1x1024x256 .bf16) : FVec Ideal S512x256 .f32 :=
  matmul dot_S512x1024_S1024x256_S512x256_1_0_0_1_n_n none x (shapeCast S1024x256 w shapeCasts_S1x1x1024x256_S1024x256)
    (constant S512x256 .f32 0x00000000#32)

/-- The gated activation of a chunk. -/
def act (h g : FVec Ideal S512x256 .f32) : FVec Ideal S512x256 .bf16 :=
  truncf .bf16 (mulf (mulf h (addf (mulf (broadcast S512x256 (Scalar.ofBits .f32 0x3F000000#32))
    (tanh (mulf (broadcast S512x256 (Scalar.ofBits .f32 0x3F000000#32)) h)))
    (broadcast S512x256 (Scalar.ofBits .f32 0x3F000000#32)))) g) bitsLt_bf16_f32

/-- One chunk of 256 hidden units brought back to the row. -/
def chunk (x : FVec Ideal S512x1024 .bf16) (w1 w3 : FVec Ideal S1x1x1024x256 .bf16) (w2 : FVec Ideal S1x1x256x1024 .bf16) :
    FVec Ideal S512x1024 .f32 :=
  matmul dot_S512x256_S256x1024_S512x1024_1_0_0_1_n_n none (act (up x w1) (up x w3))
    (shapeCast S256x1024 w2 shapeCasts_S1x1x256x1024_S256x1024) (constant S512x1024 .f32 0x00000000#32)

/-- Layer normalisation of a row block. -/
def ln (u : FVec Ideal S512x1024 .f32) (g b : FVec Ideal S1x1024 .f32) : FVec Ideal S512x1024 .f32 :=
  have d : FVec Ideal S512x1024 .f32 := subf u (broadcastTo S512x1024 (divf (shapeCast S512x1 (multiReduction .add [1] S512 u 0x00000000#32 reduces_S512x1024_S512 (.inl rfl) rfl) shapeCasts_S512_S512x1) (broadcast S512x1 (Scalar.ofBits .f32 0x44800000#32))) broadcasts_S512x1_S512x1024)
  addf (mulf (mulf d (broadcastTo S512x1024 (rsqrt (addf (divf (shapeCast S512x1 (multiReduction .add [1] S512 (mulf d d) 0x00000000#32 reduces_S512x1024_S512 (.inl rfl) rfl) shapeCasts_S512_S512x1) (broadcast S512x1 (Scalar.ofBits .f32 0x44800000#32))) (broadcast S512x1 (Scalar.ofBits .f32 0x3727C5AC#32)))) broadcasts_S512x1_S512x1024)) (broadcastTo S512x1024 g broadcasts_S1x1024_S512x1024)) (broadcastTo S512x1024 b broadcasts_S1x1024_S512x1024)

/-- The whole row block: eleven chunks added up, the scaled residual, the normalisation. -/
def tile (x : FVec Ideal S512x1024 .f32) (g b : FVec Ideal S1x1x1x1024 .f32)
    (w1 w3 : Fin 11 → FVec Ideal S1x1x1024x256 .bf16) (w2 : Fin 11 → FVec Ideal S1x1x256x1024 .bf16) : FVec Ideal S512x1024 .f32 :=
  have v : FVec Ideal S512x1024 .f32 := shapeCast S512x1024 x shapeCasts_S512x1024_S512x1024
  have p : FVec Ideal S512x1024 .bf16 := truncf .bf16 v bitsLt_bf16_f32
  have q : Fin 11 → FVec Ideal S512x1024 .f32 := fun c => chunk p (w1 c) (w3 c) (w2 c)
  ln (addf (mulf (broadcast S512x1024 (Scalar.ofBits .f32 0x3FB504F3#32)) v)
      (mulf (broadcast S512x1024 (Scalar.ofBits .f32 0x3F000000#32))
        (addf (addf (addf (addf (addf (addf (addf (addf (addf (addf (q 0) (q 1)) (q 2)) (q 3)) (q 4)) (q 5)) (q 6)) (q 7)) (q 8)) (q 9)) (q 10))))
    (shapeCast S1x1024 g shapeCasts_S1x1x1x1024_S1x1024) (shapeCast S1x1024 b shapeCasts_S1x1x1x1024_S1x1024)

/-- A chunk at an entry: the partial sum over its 256 hidden units. -/
theorem chunk_at (x : FVec Ideal S512x1024 .bf16) (w1 w3 : FVec Ideal S1x1x1024x256 .bf16) (w2 : FVec Ideal S1x1x256x1024 .bf16)
    (r : Fin 512) (j : Fin 1024) :
    chunk x w1 w3 w2 (ix2 r j) = ∑ f : Fin 256, hid (∑ k, x (ix2 r k) * w1 (ix4 0 0 k f)) (∑ k, x (ix2 r k) * w3 (ix4 0 0 k f)) * w2 (ix4 0 0 f j) := by
  pointwise [chunk, act, up, hid]
  simp only [zero_add, tanh_gate]

/-- Normalisation of a row block at an entry. -/
theorem ln_at (u : FVec Ideal S512x1024 .f32) (g b : FVec Ideal S1x1024 .f32) (r : Fin 512) (j : Fin 1024) :
    ln u g b (ix2 r j) = lnRow (fun k => u (ix2 r k)) (g (ix2 0 j)) (b (ix2 0 j)) j := by
  pointwise [ln, lnRow]

/-- The row block at an entry is the feed-forward sublayer of the row, the chunks being slices of the whole weights. -/
theorem tile_at (x : FVec Ideal S512x1024 .f32) (g b : FVec Ideal S1x1x1x1024 .f32)
    (w1 w3 : Fin 11 → FVec Ideal S1x1x1024x256 .bf16) (w2 : Fin 11 → FVec Ideal S1x1x256x1024 .bf16)
    (W1 W3 : Fin 1024 → Fin 2816 → EReal) (W2 : Fin 2816 → Fin 1024 → EReal)
    (h1 : ∀ c k f, w1 c (ix4 0 0 k f) = W1 k ⟨c * 256 + f, by omega⟩)
    (h3 : ∀ c k f, w3 c (ix4 0 0 k f) = W3 k ⟨c * 256 + f, by omega⟩)
    (h2 : ∀ c f j, w2 c (ix4 0 0 f j) = W2 ⟨c * 256 + f, by omega⟩ j)
    (r : Fin 512) (j : Fin 1024) :
    tile x g b w1 w3 w2 (ix2 r j) = ffnLn (fun k => x (ix2 r k)) W1 W3 W2 (fun k => g (ix4 0 0 0 k)) (fun k => b (ix4 0 0 0 k)) j := by
  have hs : ∀ j, ffnRow (fun k => x (ix2 r k)) W1 W3 W2 j
      = ∑ c : Fin 11, chunk (truncf .bf16 (shapeCast S512x1024 x shapeCasts_S512x1024_S512x1024) bitsLt_bf16_f32) (w1 c) (w3 c) (w2 c) (ix2 r j) := by
    intro j
    unfold ffnRow
    rw [Fin.sum_univ_tiles 11 256 rfl]
    refine Finset.sum_congr rfl fun c _ => ?_
    rw [chunk_at]
    refine Finset.sum_congr rfl fun f _ => ?_
    simp only [h1, h2, h3]
    pointwise
  unfold tile ffnLn
  rw [ln_at]
  have hu : ∀ (u u' : Fin 1024 → EReal) (a a' b b' : EReal), u = u' → a = a' → b = b' → lnRow u a b j = lnRow u' a' b' j := by
    rintro u _ a _ b _ rfl rfl rfl; rfl
  refine hu _ _ _ _ _ _ (funext fun k => ?_) (by pointwise) (by pointwise)
  rw [hs k]
  generalize hq : (fun c : Fin 11 => chunk (truncf .bf16 (shapeCast S512x1024 x shapeCasts_S512x1024_S512x1024) bitsLt_bf16_f32) (w1 c) (w3 c) (w2 c)) = q
  have hq' : ∀ c, chunk (truncf .bf16 (shapeCast S512x1024 x shapeCasts_S512x1024_S512x1024) bitsLt_bf16_f32) (w1 c) (w3 c) (w2 c) = q c := fun c => congrFun hq c
  simp only [hq', Fin.sum_univ_castSucc, Fin.sum_univ_zero, zero_add]
  pointwise
  rfl

end Cert.FfnIdeal.Value

end
-- ==== Proof.FfnValue.lean ====
/-
  The feed-forward call: the result array after the run is the reference's array.
-/
module

public import proofs.«01_k».proof.Proof.FfnTile
public import proofs.«01_k».proof.Proof.Gen.FfnIdeal.Value
public import proofs.«01_k».proof.Proof.Gen.FfnRefIdeal.Run
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.FfnRefIdeal.Value

open Cert.FfnRefIdeal Cert.Dense

/-- The reference at row `r`, column `j`: the feed-forward sublayer of row `r`. -/
theorem ref_at (m : (ℓ : Loc nD τ sig) → Buf (Elt Ideal) ℓ) (c : Dev nD) (r : Fin 16384) (j : Fin 1024) :
    res_out0 m c (ix2 r j)
      = ffnLn (fun k => m ((c.tc : Thread nD τ).loc main_arg0) (ix3 ⟨r / 4096, by omega⟩ ⟨r % 4096, by omega⟩ k))
          (fun k f => m ((c.tc : Thread nD τ).loc main_arg3) (ix4 0 0 k f))
          (fun k f => m ((c.tc : Thread nD τ).loc main_arg4) (ix4 0 0 k f))
          (fun f k => m ((c.tc : Thread nD τ).loc main_arg5) (ix4 0 0 f k))
          (fun k => m ((c.tc : Thread nD τ).loc main_arg1) (ix3 0 0 k)) (fun k => m ((c.tc : Thread nD τ).loc main_arg2) (ix3 0 0 k)) j := by
  pointwise [res_out0, res_main_v44, ffnLn, lnRow, ffnRow, hid]

/-- The same at any index. -/
theorem ref_row (m : (ℓ : Loc nD τ sig) → Buf (Elt Ideal) ℓ) (c : Dev nD) (i : S16384x1024.Idx) :
    res_out0 m c i
      = ffnLn (fun k => m ((c.tc : Thread nD τ).loc main_arg0) (ix3 ⟨i 0 / 4096, by have : (i 0 : ℕ) < 16384 := (i 0).isLt; omega⟩ ⟨i 0 % 4096, by omega⟩ k))
          (fun k f => m ((c.tc : Thread nD τ).loc main_arg3) (ix4 0 0 k f))
          (fun k f => m ((c.tc : Thread nD τ).loc main_arg4) (ix4 0 0 k f))
          (fun f k => m ((c.tc : Thread nD τ).loc main_arg5) (ix4 0 0 f k))
          (fun k => m ((c.tc : Thread nD τ).loc main_arg1) (ix3 0 0 k)) (fun k => m ((c.tc : Thread nD τ).loc main_arg2) (ix3 0 0 k)) (i 1) :=
  (congrArg _ (eq_ix2 i)).trans (ref_at m c (i 0) (i 1))

end Cert.FfnRefIdeal.Value

namespace Cert.FfnIdeal.Value

open Cert.FfnIdeal Cert.FfnIdeal.Gen Cert.Dense

variable (m : (ℓ : Loc nD τ sig) → Buf (Elt Ideal) ℓ)

/-- Where each window stands at grid point `t`: row block `t` of the activations and of the result, the layer's own block of
    every weight. -/
theorem idx : ∀ t : Fin cfg0.N, win0_0.index t = ![t.val, 0] ∧ win0_1.index t = ![0, 0, 0, 0] ∧ win0_2.index t = ![0, 0, 0, 0]
    ∧ win0_3.index t = ![0, 0, 0, 0] ∧ win0_4.index t = ![0, 0, 0, 0] ∧ win0_5.index t = ![0, 0, 0, 0] ∧ win0_6.index t = ![t.val, 0] :=
  (by decide +kernel : ∀ t : Fin grid0.N, _)

/-- The eleven column slices of an up-projection weight. -/
def colsOf (X : FVec Ideal S1x1x1024x2816 .bf16) : Fin 11 → FVec Ideal S1x1x1024x256 .bf16 :=
  ![View.ld (Val := Elt Ideal) (e' := .bf16) X r0_2, View.ld (Val := Elt Ideal) (e' := .bf16) X r0_4, View.ld (Val := Elt Ideal) (e' := .bf16) X r0_6, View.ld (Val := Elt Ideal) (e' := .bf16) X r0_8, View.ld (Val := Elt Ideal) (e' := .bf16) X r0_10, View.ld (Val := Elt Ideal) (e' := .bf16) X r0_12, View.ld (Val := Elt Ideal) (e' := .bf16) X r0_14, View.ld (Val := Elt Ideal) (e' := .bf16) X r0_16, View.ld (Val := Elt Ideal) (e' := .bf16) X r0_18, View.ld (Val := Elt Ideal) (e' := .bf16) X r0_20, View.ld (Val := Elt Ideal) (e' := .bf16) X r0_22]

/-- The eleven row slices of the down-projection weight. -/
def rowsOf (X : FVec Ideal S1x1x2816x1024 .bf16) : Fin 11 → FVec Ideal S1x1x256x1024 .bf16 :=
  ![View.ld (Val := Elt Ideal) (e' := .bf16) X r0_3, View.ld (Val := Elt Ideal) (e' := .bf16) X r0_5, View.ld (Val := Elt Ideal) (e' := .bf16) X r0_7, View.ld (Val := Elt Ideal) (e' := .bf16) X r0_9, View.ld (Val := Elt Ideal) (e' := .bf16) X r0_11, View.ld (Val := Elt Ideal) (e' := .bf16) X r0_13, View.ld (Val := Elt Ideal) (e' := .bf16) X r0_15, View.ld (Val := Elt Ideal) (e' := .bf16) X r0_17, View.ld (Val := Elt Ideal) (e' := .bf16) X r0_19, View.ld (Val := Elt Ideal) (e' := .bf16) X r0_21, View.ld (Val := Elt Ideal) (e' := .bf16) X r0_23]

set_option maxHeartbeats 1600000 in
/-- Slice `c` holds columns `256 c` to `256 c + 255`. -/
theorem cols (X : FVec Ideal S1x1x1024x2816 .bf16) : ∀ (c : Fin 11) (k : Fin 1024) (f : Fin 256),
    colsOf X c (ix4 0 0 k f) = X (ix4 0 0 k ⟨c * 256 + f, by omega⟩) := by
  refine all11 ?_ ?_ ?_ ?_ ?_ ?_ ?_ ?_ ?_ ?_ ?_ <;> (intro k f; unfold colsOf; simp only [Matrix.cons_val]; pointwise; blk_ext)

set_option maxHeartbeats 1600000 in
/-- Slice `c` holds rows `256 c` to `256 c + 255`. -/
theorem rows (X : FVec Ideal S1x1x2816x1024 .bf16) : ∀ (c : Fin 11) (f : Fin 256) (k : Fin 1024),
    rowsOf X c (ix4 0 0 f k) = X (ix4 0 0 ⟨c * 256 + f, by omega⟩ k) := by
  refine all11 ?_ ?_ ?_ ?_ ?_ ?_ ?_ ?_ ?_ ?_ ?_ <;> (intro k f; unfold rowsOf; simp only [Matrix.cons_val]; pointwise; blk_ext)

/-- What the body leaves in the result block, entry by entry. -/
theorem out_at (x0 : FVec Ideal S1024x1024 .f32) (x1 x2 : FVec Ideal S1x1x1024x2816 .bf16) (x3 : FVec Ideal S1x1x2816x1024 .bf16)
    (x4 x5 : FVec Ideal S1x1x1x1024 .f32) (y : S1024x1024.Idx) :
    out0_6 (F := Ideal) x0 x1 x2 x3 x4 x5 y
      = ffnLn (fun k => x0 (ix2 (y 0) k)) (fun k f => x1 (ix4 0 0 k f)) (fun k f => x2 (ix4 0 0 k f)) (fun f k => x3 (ix4 0 0 f k))
          (fun k => x4 (ix4 0 0 0 k)) (fun k => x5 (ix4 0 0 0 k)) (y 1) := by
  unfold_out out0_6
  canon_tiles x h
  · refine Eq.trans (b := tile (View.ld (Val := Elt Ideal) (e' := .f32) x0 r0_24) (View.ld (Val := Elt Ideal) (e' := .f32) x4 r0_1) (View.ld (Val := Elt Ideal) (e' := .f32) x5 r0_1) (colsOf x1) (colsOf x2) (rowsOf x3) x) (congrFun ?_ x) ?_
    · unfold tile colsOf rowsOf chunk
      simp only [Matrix.cons_val]
      unfold k0_pay1 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43
      rfl
    refine (congrArg _ (eq_ix2 x)).trans ((tile_at _ _ _ _ _ _ (fun k f => x1 (ix4 0 0 k f)) (fun k f => x2 (ix4 0 0 k f))
      (fun f k => x3 (ix4 0 0 f k)) (cols x1) (cols x2) (rows x3) _ _).trans ?_)
    refine ffnLn_congr (fun k => ?_) (fun _ _ => rfl) (fun _ _ => rfl) (fun _ _ => rfl) (fun k => ?_) (fun k => ?_) ?_
    · pointwise; blk_ext
    · pointwise
    · pointwise
    · exact Fin.ext h1.symm
  · refine Eq.trans (b := tile (View.ld (Val := Elt Ideal) (e' := .f32) x0 r0_0) (View.ld (Val := Elt Ideal) (e' := .f32) x4 r0_1) (View.ld (Val := Elt Ideal) (e' := .f32) x5 r0_1) (colsOf x1) (colsOf x2) (rowsOf x3) x) (congrFun ?_ x) ?_
    · unfold tile colsOf rowsOf chunk
      simp only [Matrix.cons_val]
      unfold k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22
      rfl
    refine (congrArg _ (eq_ix2 x)).trans ((tile_at _ _ _ _ _ _ (fun k f => x1 (ix4 0 0 k f)) (fun k f => x2 (ix4 0 0 k f))
      (fun f k => x3 (ix4 0 0 f k)) (cols x1) (cols x2) (rows x3) _ _).trans ?_)
    refine ffnLn_congr (fun k => ?_) (fun _ _ => rfl) (fun _ _ => rfl) (fun _ _ => rfl) (fun k => ?_) (fun k => ?_) ?_
    · pointwise; blk_ext
    · pointwise
    · pointwise
    · exact Fin.ext h1.symm

/-- What grid point `t` leaves is the reference's result there. -/
theorem point (c : Dev nD) (t : Fin cfg0.N) (y : S1024x1024.Idx) (i : S16384x1024.Idx) (h0 : (i 0 : ℕ) = t.val * 1024 + y 0) (h1 : (i 1 : ℕ) = y 1) :
    out0_6 (F := Ideal) (iblk m c 0 t) (iblk m c 1 t) (iblk m c 2 t) (iblk m c 3 t) (iblk m c 4 t) (iblk m c 5 t) y
      = ffnLn (fun k => m ((c.tc : Thread nD τ).loc main_arg0) (ix3 ⟨i 0 / 4096, by have : (i 0 : ℕ) < 16384 := (i 0).isLt; omega⟩ ⟨i 0 % 4096, by omega⟩ k))
          (fun k f => m ((c.tc : Thread nD τ).loc main_arg3) (ix4 0 0 k f))
          (fun k f => m ((c.tc : Thread nD τ).loc main_arg4) (ix4 0 0 k f))
          (fun f k => m ((c.tc : Thread nD τ).loc main_arg5) (ix4 0 0 f k))
          (fun k => m ((c.tc : Thread nD τ).loc main_arg1) (ix3 0 0 k)) (fun k => m ((c.tc : Thread nD τ).loc main_arg2) (ix3 0 0 k)) (i 1) := by
  rw [out_at]
  refine ffnLn_congr (fun k => ?_) (fun k f => ?_) (fun k f => ?_) (fun f k => ?_) (fun k => ?_) (fun k => ?_) (Fin.ext h1.symm)
  all_goals blk_point [iblk, V, idx t]

/-- The result array after the run, row by row, in the argument arrays. -/
theorem final (c : Dev nD) (m' : (ℓ : Loc Cert.FfnRefIdeal.nD Cert.FfnRefIdeal.τ Cert.FfnRefIdeal.sig) → Buf (Elt Ideal) ℓ)
    (c' : Dev Cert.FfnRefIdeal.nD)
    (a0 : m' ((c'.tc : Thread Cert.FfnRefIdeal.nD Cert.FfnRefIdeal.τ).loc Cert.FfnRefIdeal.main_arg0) = m ((c.tc : Thread nD τ).loc main_arg0))
    (a1 : m' ((c'.tc : Thread Cert.FfnRefIdeal.nD Cert.FfnRefIdeal.τ).loc Cert.FfnRefIdeal.main_arg1) = m ((c.tc : Thread nD τ).loc main_arg1))
    (a2 : m' ((c'.tc : Thread Cert.FfnRefIdeal.nD Cert.FfnRefIdeal.τ).loc Cert.FfnRefIdeal.main_arg2) = m ((c.tc : Thread nD τ).loc main_arg2))
    (a3 : m' ((c'.tc : Thread Cert.FfnRefIdeal.nD Cert.FfnRefIdeal.τ).loc Cert.FfnRefIdeal.main_arg3) = m ((c.tc : Thread nD τ).loc main_arg3))
    (a4 : m' ((c'.tc : Thread Cert.FfnRefIdeal.nD Cert.FfnRefIdeal.τ).loc Cert.FfnRefIdeal.main_arg4) = m ((c.tc : Thread nD τ).loc main_arg4))
    (a5 : m' ((c'.tc : Thread Cert.FfnRefIdeal.nD Cert.FfnRefIdeal.τ).loc Cert.FfnRefIdeal.main_arg5) = m ((c.tc : Thread nD τ).loc main_arg5)) :
    (dats m 0 c).arrAt 6 (cfgs 0).N = Cert.FfnRefIdeal.Value.res_out0 m' c' := by
  refine (dats m 0 c).arrAt_eq_of_covers 6 _ (by decide +kernel) fun t _ y => ?_
  blk_simp
  rw [after0_6]
  have h0 : ((((cfg0.win 6).blk t).view.emb y) 0 : ℕ) = t.val * 1024 + y 0 := by blk_simp [idx t]
  have h1 : ((((cfg0.win 6).blk t).view.emb y) 1 : ℕ) = y 1 := by blk_simp [idx t]
  refine (point m c t y _ h0 h1).trans ?_
  refine Eq.trans ?_ (Cert.FfnRefIdeal.Value.ref_row m' c' _).symm
  rw [a0, a1, a2, a3, a4, a5]

/-- The feed-forward call and its reference end with equal results. -/
theorem algebraic : Cert.algebraic_FfnIdeal_FfnRefIdeal (hFfnIdeal := Cert.FfnIdeal.Gen.facts) (hFfnRefIdeal := Cert.FfnRefIdeal.Gen.facts) := by
  intro m g m' g' _ ha
  refine ⟨fun c => (dats m 0 c).arrAt 6 cfg0.N, run_blocks m g, ?_⟩
  refine (θ_run _ _ _).mono (fun r h c => ⟨(h c).1.trans ?_, (h c).2⟩) (Cert.FfnRefIdeal.Value.run m' g')
  obtain ⟨a0, a1, a2, a3, a4, a5⟩ := ha c
  exact (final m c m' c a0 a1 a2 a3 a4 a5).symm

end Cert.FfnIdeal.Value

end
-- ==== Proof.MergeTile.lean ====
/-
  One row block of the merge call: what the kernel stores, read entry by entry, is the merge sublayer of the row
  (`Cert.Dense.mergeLn`).
-/
module

public import proofs.«01_k».proof.Proof.FfnTile
public import proofs.«01_k».proof.Proof.Gen.MergeIdeal.Frame

@[expose] public section

set_option maxRecDepth 16384

noncomputable section

open Idealize.ShloMosaic Idealize.ShloMosaic.TcCoe Idealize.SL.Sem

namespace Cert.MergeIdeal.Value

open Cert.MergeIdeal Cert.MergeIdeal.Gen Cert.Dense

/-- A gate block: the logistic function, through the hyperbolic tangent, of the row block times a square weight. -/
def gate (x : FVec Ideal S512x1024 .bf16) (w : FVec Ideal S1x1024x1024 .bf16) : FVec Ideal S512x1024 .f32 :=
  addf (mulf (broadcast S512x1024 (Scalar.ofBits .f32 0x3F000000#32))
    (tanh (mulf (broadcast S512x1024 (Scalar.ofBits .f32 0x3F000000#32))
      (matmul dot_S512x1024_S1024x1024_S512x1024_1_0_0_1_n_n none x (shapeCast S1024x1024 w shapeCasts_S1x1024x1024_S1024x1024)
        (constant S512x1024 .f32 0x00000000#32)))))
    (broadcast S512x1024 (Scalar.ofBits .f32 0x3F000000#32))

/-- A branch output projected to the model width. -/
def branch (o : FVec Ideal S512x512 .bf16) (w : FVec Ideal S1x1x512x1024 .bf16) : FVec Ideal S512x1024 .f32 :=
  matmul dot_S512x512_S512x1024_S512x1024_1_0_0_1_n_n none o (shapeCast S512x1024 w shapeCasts_S1x1x512x1024_S512x1024)
    (constant S512x1024 .f32 0x00000000#32)

/-- The whole row block. -/
def tile (x : FVec Ideal S512x1024 .f32) (g b : FVec Ideal S1x1x1x1024 .f32) (o : Fin 3 → FVec Ideal S512x512 .bf16)
    (wg : Fin 3 → FVec Ideal S1x1024x1024 .bf16) (wb : Fin 3 → FVec Ideal S1x1x512x1024 .bf16)
    (wo : FVec Ideal S1x1024x1024 .bf16) : FVec Ideal S512x1024 .f32 :=
  have v : FVec Ideal S512x1024 .f32 := shapeCast S512x1024 x shapeCasts_S512x1024_S512x1024
  have p : FVec Ideal S512x1024 .bf16 := truncf .bf16 v bitsLt_bf16_f32
  have mix : FVec Ideal S512x1024 .bf16 := truncf .bf16 (addf (addf (mulf (gate p (wg 0)) (branch (o 0) (wb 0)))
    (mulf (gate p (wg 1)) (branch (o 1) (wb 1)))) (mulf (gate p (wg 2)) (branch (o 2) (wb 2)))) bitsLt_bf16_f32
  Cert.FfnIdeal.Value.ln (addf (mulf (broadcast S512x1024 (Scalar.ofBits .f32 0x3FB504F3#32)) v)
      (matmul dot_S512x1024_S1024x1024_S512x1024_1_0_0_1_n_n none mix (shapeCast S1024x1024 wo shapeCasts_S1x1024x1024_S1024x1024)
        (constant S512x1024 .f32 0x00000000#32)))
    (shapeCast S1x1024 g shapeCasts_S1x1x1x1024_S1x1024) (shapeCast S1x1024 b shapeCasts_S1x1x1x1024_S1x1024)

/-- The row block at an entry is the merge sublayer of the row. -/
theorem tile_at (x : FVec Ideal S512x1024 .f32) (g b : FVec Ideal S1x1x1x1024 .f32) (o : Fin 3 → FVec Ideal S512x512 .bf16)
    (wg : Fin 3 → FVec Ideal S1x1024x1024 .bf16) (wb : Fin 3 → FVec Ideal S1x1x512x1024 .bf16)
    (wo : FVec Ideal S1x1024x1024 .bf16) (r : Fin 512) (j : Fin 1024) :
    tile x g b o wg wb wo (ix2 r j)
      = mergeLn (fun k => x (ix2 r k)) (fun n k => o n (ix2 r k)) (fun n k d => wg n (ix3 0 k d)) (fun n k d => wb n (ix4 0 0 k d))
          (fun k d => wo (ix3 0 k d)) (fun k => g (ix4 0 0 0 k)) (fun k => b (ix4 0 0 0 k)) j := by
  unfold tile mergeLn
  refine (Cert.FfnIdeal.Value.ln_at _ _ _ r j).trans (lnRow_congr (fun k => ?_) (by pointwise) (by pointwise))
  unfold mixRow
  simp only [Fin.sum_univ_three]
  pointwise [gate, branch]
  simp only [zero_add, tanh_gate]

end Cert.MergeIdeal.Value

end
-- ==== Proof.MergeRef.lean ====
/-
  The merge call's reference, read row by row.
-/
module

public import proofs.«01_k».proof.Proof.Dense
public import proofs.«01_k».proof.Proof.Gen.MergeRefIdeal.Run

@[expose] public section

set_option maxRecDepth 16384

noncomputable section

open Idealize.ShloMosaic Idealize.ShloMosaic.TcCoe Idealize.SL.Sem
open Idealize.ShloMosaic.Pipeline (Dat)

namespace Cert.Dense

/-- The three branch outputs, one after another. -/
def outs {s : Shape} (a b c : FVec Ideal s .bf16) : Fin 3 → FVec Ideal s .bf16 := ![a, b, c]

end Cert.Dense

namespace Cert.MergeRefIdeal.Value

open Cert.MergeRefIdeal Cert.MergeRefIdeal.Gen Cert.Dense

/-- The reference's layer normalisation of all rows, its centred rows named once. -/
def refD (u : FVec Ideal S4x4096x1024 .f32) : FVec Ideal S4x4096x1024 .f32 :=
  subf u (broadcastInDim S4x4096x1024 ![0, 1, 2] bcast_S4x4096x1_S4x4096x1024_0_1_2 (Host.divf (broadcastInDim S4x4096x1 ![0, 1] bcast_S4x4096_S4x4096x1_0_1 (Host.reduceAdd u (constant S_ .f32 0x00000000#32) reducesTo_S4x4096x1024_S4x4096_d2 h_S_)) (broadcastInDim S4x4096x1 ![] bcast_S_S4x4096x1 (constant S_ .f32 0x44800000#32))))

/-- The reference's layer normalisation of all rows. -/
def refLn (u : FVec Ideal S4x4096x1024 .f32) (g b : FVec Ideal S1024 .f32) : FVec Ideal S4x4096x1024 .f32 :=
  addf (mulf (mulf (refD u) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (refD u) (refD u)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 g))) (broadcastInDim S4x4096x1024 ![0, 1, 2] bcast_S1x1x1024_S4x4096x1024_0_1_2 (broadcastInDim S1x1x1024 ![2] bcast_S1024_S1x1x1024_2 b))

/-- The reference's gates, before they are split by branch. -/
def refGate (x0 : FVec Ideal S4x4096x1024 .f32) (x4 : FVec Ideal S2x1024x8504 .f32) : FVec Ideal S4x4096x3072 .f32 :=
  Host.divf (broadcastInDim S4x4096x3072 ![] bcast_S_S4x4096x3072 (constant S_ .f32 0x3F800000#32)) (addf (broadcastInDim S4x4096x3072 ![] bcast_S_S4x4096x3072 (constant S_ .f32 0x3F800000#32)) (Host.exp (Host.negf (Host.dotGeneral dot_S4x4096x1024_S1024x3072_S4x4096x3072_2_0_01_1_n_n none x0 (extractStridedSlice S1024x3072 ![0, 5432] (shapeCast _ (extractStridedSlice S1x1024x8504 ![0, 0, 0] x4 slices_S2x1024x8504_S1x1024x8504_0_0_0) shapeCasts_S1x1024x8504_S1024x8504) slices_S1024x8504_S1024x3072_0_5432)))))

/-- The reference's stacked branch outputs. -/
def refCat (x1 x2 x3 : FVec Ideal S16384x512 .bf16) : FVec Ideal S4x4096x3x512 .f32 :=
  concatenate S4x4096x3x512 2 [⟨S4x4096x1x512, ((broadcastInDim S4x4096x1x512 ![0, 1, 3] bcast_S4x4096x512_S4x4096x1x512_0_1_3 (shapeCast _ (extf .f32 x1 bitsLt_bf16_f32) shapeCasts_S16384x512_S4x4096x512)) : (⟨S4x4096x1x512, .f32⟩ : BufTy).Contents (Elt Ideal))⟩, ⟨S4x4096x1x512, ((broadcastInDim S4x4096x1x512 ![0, 1, 3] bcast_S4x4096x512_S4x4096x1x512_0_1_3 (shapeCast _ (extf .f32 x2 bitsLt_bf16_f32) shapeCasts_S16384x512_S4x4096x512)) : (⟨S4x4096x1x512, .f32⟩ : BufTy).Contents (Elt Ideal))⟩, ⟨S4x4096x1x512, ((broadcastInDim S4x4096x1x512 ![0, 1, 3] bcast_S4x4096x512_S4x4096x1x512_0_1_3 (shapeCast _ (extf .f32 x3 bitsLt_bf16_f32) shapeCasts_S16384x512_S4x4096x512)) : (⟨S4x4096x1x512, .f32⟩ : BufTy).Contents (Elt Ideal))⟩] concatenates_S4x4096x1x512_S4x4096x1x512_S4x4096x1x512_S4x4096x3x512_d2

/-- The reference's projected branches. -/
def refProj (x5 : FVec Ideal S2x3x512x1024 .f32) (cat : FVec Ideal S4x4096x3x512 .f32) : FVec Ideal S4x4096x3x1024 .f32 :=
  transpose S4x4096x3x1024 [2, 3, 0, 1] (Host.dotGeneral dot_S3x512x1024_S4x4096x3x512_S3x1024x4x4096_1_3_2_01_0_2 none (shapeCast _ (extractStridedSlice S1x3x512x1024 ![0, 0, 0, 0] x5 slices_S2x3x512x1024_S1x3x512x1024_0_0_0_0) shapeCasts_S1x3x512x1024_S3x512x1024) (cat)) transposes_S3x1024x4x4096_S4x4096x3x1024_2_3_0_1

/-- The reference's gated mixture. -/
def refMix (gate : FVec Ideal S4x4096x3072 .f32) (proj : FVec Ideal S4x4096x3x1024 .f32) : FVec Ideal S4x4096x1024 .f32 :=
  Host.reduceAdd (mulf (shapeCast _ gate shapeCasts_S4x4096x3072_S4x4096x3x1024) proj) (constant S_ .f32 0x00000000#32) reducesTo_S4x4096x3x1024_S4x4096x1024_d2 h_S_

/-- The reference's sum of scaled residual and projected mixture. -/
def refPre (x0 : FVec Ideal S4x4096x1024 .f32) (mix : FVec Ideal S4x4096x1024 .f32) (x6 : FVec Ideal S2x1024x1024 .f32) : FVec Ideal S4x4096x1024 .f32 :=
  addf (mulf (broadcastInDim S4x4096x1024 ![] bcast_S_S4x4096x1024 (constant S_ .f32 0x3FB504F3#32)) x0) (Host.dotGeneral dot_S4x4096x1024_S1024x1024_S4x4096x1024_2_0_01_1_n_n none (mix) (shapeCast _ (extractStridedSlice S1x1024x1024 ![0, 0, 0] x6 slices_S2x1024x1024_S1x1024x1024_0_0_0) shapeCasts_S1x1024x1024_S1024x1024))

theorem refLn_at (u : FVec Ideal S4x4096x1024 .f32) (g b : FVec Ideal S1024 .f32) (n : Fin 4) (t : Fin 4096) (j : Fin 1024) :
    refLn u g b (ix3 n t j) = lnRow (fun k => u (ix3 n t k)) (g (ix1 j)) (b (ix1 j)) j := by
  pointwise [refLn, refD, lnRow]

theorem refGate_at (x0 : FVec Ideal S4x4096x1024 .f32) (x4 : FVec Ideal S2x1024x8504 .f32) (n : Fin 4) (t : Fin 4096) (j : Fin 3072) :
    refGate x0 x4 (ix3 n t j) = sg (∑ k, x0 (ix3 n t k) * x4 (ix3 0 k ⟨5432 + j, by omega⟩)) := by
  pointwise [refGate]

theorem refCat_at (x1 x2 x3 : FVec Ideal S16384x512 .bf16) (n : Fin 4) (t : Fin 4096) : ∀ (s : Fin 3) (k : Fin 512),
    refCat x1 x2 x3 (ix4 n t s k) = outs x1 x2 x3 s (ix2 ⟨n * 4096 + t, by omega⟩ k) := by
  refine all3 ?_ ?_ ?_ <;> (intro k; unfold outs; simp only [Matrix.cons_val]; pointwise [refCat])

theorem refProj_at (x5 : FVec Ideal S2x3x512x1024 .f32) (cat : FVec Ideal S4x4096x3x512 .f32) (n : Fin 4) (t : Fin 4096) (s : Fin 3) (j : Fin 1024) :
    refProj x5 cat (ix4 n t s j) = ∑ k : Fin 512, cat (ix4 n t s k) * x5 (ix4 0 s k j) := by
  pointwise [refProj]
  exact Finset.sum_congr rfl fun k _ => mul_comm _ _

theorem refMix_at (gate : FVec Ideal S4x4096x3072 .f32) (proj : FVec Ideal S4x4096x3x1024 .f32) (n : Fin 4) (t : Fin 4096) (j : Fin 1024) :
    refMix gate proj (ix3 n t j) = ∑ s : Fin 3, gate (ix3 n t ⟨s * 1024 + j, by omega⟩) * proj (ix4 n t s j) := by
  pointwise [refMix]

theorem refPre_at (x0 mix : FVec Ideal S4x4096x1024 .f32) (x6 : FVec Ideal S2x1024x1024 .f32) (n : Fin 4) (t : Fin 4096) (j : Fin 1024) :
    refPre x0 mix x6 (ix3 n t j) = Ideal.ofBits .f32 0x3FB504F3#32 * x0 (ix3 n t j) + ∑ d, mix (ix3 n t d) * x6 (ix3 0 d j) := by
  pointwise [refPre]

/-- The whole reference from its parts. -/
def refAll (x0 : FVec Ideal S4x4096x1024 .f32) (x1 x2 x3 : FVec Ideal S16384x512 .bf16) (x4 : FVec Ideal S2x1024x8504 .f32)
    (x5 : FVec Ideal S2x3x512x1024 .f32) (x6 : FVec Ideal S2x1024x1024 .f32) (x7 x8 : FVec Ideal S2x4x1024 .f32) : FVec Ideal S16384x1024 .f32 :=
  shapeCast _ (refLn (refPre x0 (refMix (refGate x0 x4) (refProj x5 (refCat x1 x2 x3))) x6)
    (shapeCast _ (extractStridedSlice S1x1x1024 ![0, 1, 0] x7 slices_S2x4x1024_S1x1x1024_0_1_0) shapeCasts_S1x1x1024_S1024)
    (shapeCast _ (extractStridedSlice S1x1x1024 ![0, 1, 0] x8 slices_S2x4x1024_S1x1x1024_0_1_0) shapeCasts_S1x1x1024_S1024)) shapeCasts_S4x4096x1024_S16384x1024

/-- The reference at row `r`, column `j`: the merge sublayer of row `r`. -/
theorem ref_at (m : (ℓ : Loc nD τ sig) → Buf (Elt Ideal) ℓ) (c : Dev nD) (r : Fin 16384) (j : Fin 1024) :
    res_out0 m c (ix2 r j)
      = mergeLn (fun k => m ((c.tc : Thread nD τ).loc main_arg0) (ix3 ⟨r / 4096, by omega⟩ ⟨r % 4096, by omega⟩ k))
          (fun n k => outs (m ((c.tc : Thread nD τ).loc main_arg1)) (m ((c.tc : Thread nD τ).loc main_arg2)) (m ((c.tc : Thread nD τ).loc main_arg3)) n (ix2 r k))
          (fun n k d => m ((c.tc : Thread nD τ).loc main_arg4) (ix3 0 k ⟨5432 + (n * 1024 + d), by omega⟩))
          (fun n k d => m ((c.tc : Thread nD τ).loc main_arg5) (ix4 0 n k d))
          (fun k d => m ((c.tc : Thread nD τ).loc main_arg6) (ix3 0 k d))
          (fun k => m ((c.tc : Thread nD τ).loc main_arg7) (ix3 0 1 k)) (fun k => m ((c.tc : Thread nD τ).loc main_arg8) (ix3 0 1 k)) j := by
  refine Eq.trans (b := refAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix2 r j)) rfl ?_
  unfold refAll
  pointwise
  rw [refLn_at]
  unfold mergeLn
  refine lnRow_congr (fun k => ?_) (by pointwise) (by pointwise)
  rw [refPre_at]
  refine congrArg₂ (· + ·) rfl (Finset.sum_congr rfl fun d _ => ?_)
  rw [refMix_at]
  refine congrArg₂ (· * ·) (Finset.sum_congr rfl fun s _ => ?_) rfl
  rw [refGate_at, refProj_at]
  refine congrArg₂ (· * ·) rfl (Finset.sum_congr rfl fun k _ => ?_)
  rw [refCat_at]
  refine congrArg₂ (· * ·) (congrArg _ (congrArg₂ _ (Fin.ext ?_) rfl)) rfl
  show (r : ℕ) / 4096 * 4096 + r % 4096 = r
  omega

/-- The same at any index. -/
theorem ref_row (m : (ℓ : Loc nD τ sig) → Buf (Elt Ideal) ℓ) (c : Dev nD) (i : S16384x1024.Idx) :
    res_out0 m c i
      = mergeLn (fun k => m ((c.tc : Thread nD τ).loc main_arg0) (ix3 ⟨i 0 / 4096, by have : (i 0 : ℕ) < 16384 := (i 0).isLt; omega⟩ ⟨i 0 % 4096, by omega⟩ k))
          (fun n k => outs (m ((c.tc : Thread nD τ).loc main_arg1)) (m ((c.tc : Thread nD τ).loc main_arg2)) (m ((c.tc : Thread nD τ).loc main_arg3)) n (ix2 (i 0) k))
          (fun n k d => m ((c.tc : Thread nD τ).loc main_arg4) (ix3 0 k ⟨5432 + (n * 1024 + d), by omega⟩))
          (fun n k d => m ((c.tc : Thread nD τ).loc main_arg5) (ix4 0 n k d))
          (fun k d => m ((c.tc : Thread nD τ).loc main_arg6) (ix3 0 k d))
          (fun k => m ((c.tc : Thread nD τ).loc main_arg7) (ix3 0 1 k)) (fun k => m ((c.tc : Thread nD τ).loc main_arg8) (ix3 0 1 k)) (i 1) :=
  (congrArg _ (eq_ix2 i)).trans (ref_at m c (i 0) (i 1))

end Cert.MergeRefIdeal.Value

end
-- ==== Proof.MergeValue.lean ====
/-
  The merge call: the result array after the run is the reference's array.
-/
module

public import proofs.«01_k».proof.Proof.MergeTile
public import proofs.«01_k».proof.Proof.Gen.MergeIdeal.Value
public import proofs.«01_k».proof.Proof.MergeRef
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen Cert.Dense

variable (m : (ℓ : Loc nD τ sig) → Buf (Elt Ideal) ℓ)

/-- Where each window stands at grid point `t`: row block `t` of the activations, the branch outputs and the result, the
    layer's own block of every weight. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![0, 0, 0, 0] ∧ win0_6.index t = ![0, 0, 0]
    ∧ win0_7.index t = ![0, 1, 0, 0] ∧ win0_8.index t = ![0, 1, 0, 0] ∧ win0_9.index t = ![t.val, 0] :=
  (by decide +kernel : ∀ t : Fin grid0.N, _)

/-- The three column slices of the gate weight. -/
def gateOf (X : FVec Ideal S1x1024x3072 .bf16) : Fin 3 → FVec Ideal S1x1024x1024 .bf16 :=
  ![View.ld (Val := Elt Ideal) (e' := .bf16) X r0_2, View.ld (Val := Elt Ideal) (e' := .bf16) X r0_5, View.ld (Val := Elt Ideal) (e' := .bf16) X r0_7]

/-- The three branch projections. -/
def branchOf (X : FVec Ideal S1x3x512x1024 .bf16) : Fin 3 → FVec Ideal S1x1x512x1024 .bf16 :=
  ![View.ld (Val := Elt Ideal) (e' := .bf16) X r0_4, View.ld (Val := Elt Ideal) (e' := .bf16) X r0_6, View.ld (Val := Elt Ideal) (e' := .bf16) X r0_8]

theorem gateOf_at (X : FVec Ideal S1x1024x3072 .bf16) : ∀ (n : Fin 3) (k d : Fin 1024),
    gateOf X n (ix3 0 k d) = X (ix3 0 k ⟨n * 1024 + d, by omega⟩) := by
  refine all3 ?_ ?_ ?_ <;> (intro k f; unfold gateOf; simp only [Matrix.cons_val]; pointwise; blk_ext)

theorem branchOf_at (X : FVec Ideal S1x3x512x1024 .bf16) : ∀ (n : Fin 3) (k : Fin 512) (d : Fin 1024),
    branchOf X n (ix4 0 0 k d) = X (ix4 0 n k d) := by
  refine all3 ?_ ?_ ?_ <;> (intro k f; unfold branchOf; simp only [Matrix.cons_val]; pointwise; blk_ext)

/-- What the body leaves in the result block, entry by entry. -/
theorem out_at (x0 : FVec Ideal S1024x1024 .f32) (x1 x2 x3 : FVec Ideal S1024x512 .bf16) (x4 : FVec Ideal S1x1024x3072 .bf16)
    (x5 : FVec Ideal S1x3x512x1024 .bf16) (x6 : FVec Ideal S1x1024x1024 .bf16) (x7 x8 : FVec Ideal S1x1x1x1024 .f32) (y : S1024x1024.Idx) :
    out0_9 (F := Ideal) x0 x1 x2 x3 x4 x5 x6 x7 x8 y
      = mergeLn (fun k => x0 (ix2 (y 0) k)) (fun n k => outs x1 x2 x3 n (ix2 (y 0) k)) (fun n k d => x4 (ix3 0 k ⟨n * 1024 + d, by omega⟩))
          (fun n k d => x5 (ix4 0 n k d)) (fun k d => x6 (ix3 0 k d)) (fun k => x7 (ix4 0 0 0 k)) (fun k => x8 (ix4 0 0 0 k)) (y 1) := by
  unfold_out out0_9
  canon_tiles x h
  · refine Eq.trans (b := tile (View.ld (Val := Elt Ideal) (e' := .f32) x0 r0_1) (View.ld (Val := Elt Ideal) (e' := .f32) x7 r0_11) (View.ld (Val := Elt Ideal) (e' := .f32) x8 r0_11)
      (outs (View.ld (Val := Elt Ideal) (e' := .bf16) x1 r0_9) (View.ld (Val := Elt Ideal) (e' := .bf16) x2 r0_9) (View.ld (Val := Elt Ideal) (e' := .bf16) x3 r0_9)) (gateOf x4) (branchOf x5) (View.ld (Val := Elt Ideal) (e' := .bf16) x6 r0_10) x) (congrFun ?_ x) ?_
    · unfold tile gateOf branchOf outs gate branch
      simp only [Matrix.cons_val]
      unfold k0_pay2 k0_pay4 k0_pay9 k0_pay10 k0_pay11 k0_pay12 k0_pay13
      rfl
    refine (congrArg _ (eq_ix2 x)).trans ((tile_at _ _ _ _ _ _ _ _ _).trans ?_)
    refine mergeLn_congr (fun k => ?_) (all3 ?_ ?_ ?_) (fun n k d => gateOf_at x4 n k d) (fun n k d => branchOf_at x5 n k d) (fun k d => ?_)
      (fun k => ?_) (fun k => ?_) (Fin.ext h1.symm)
    · pointwise; blk_ext
    · intro k; unfold outs; simp only [Matrix.cons_val]; pointwise; blk_ext
    · intro k; unfold outs; simp only [Matrix.cons_val]; pointwise; blk_ext
    · intro k; unfold outs; simp only [Matrix.cons_val]; pointwise; blk_ext
    · pointwise
    · pointwise
    · pointwise
  · refine Eq.trans (b := tile (View.ld (Val := Elt Ideal) (e' := .f32) x0 r0_0) (View.ld (Val := Elt Ideal) (e' := .f32) x7 r0_11) (View.ld (Val := Elt Ideal) (e' := .f32) x8 r0_11)
      (outs (View.ld (Val := Elt Ideal) (e' := .bf16) x1 r0_3) (View.ld (Val := Elt Ideal) (e' := .bf16) x2 r0_3) (View.ld (Val := Elt Ideal) (e' := .bf16) x3 r0_3)) (gateOf x4) (branchOf x5) (View.ld (Val := Elt Ideal) (e' := .bf16) x6 r0_10) x) (congrFun ?_ x) ?_
    · unfold tile gateOf branchOf outs gate branch
      simp only [Matrix.cons_val]
      unfold k0_pay1 k0_pay14 k0_pay15 k0_pay16 k0_pay17 k0_pay3 k0_pay5 k0_pay6 k0_pay7 k0_pay8
      rfl
    refine (congrArg _ (eq_ix2 x)).trans ((tile_at _ _ _ _ _ _ _ _ _).trans ?_)
    refine mergeLn_congr (fun k => ?_) (all3 ?_ ?_ ?_) (fun n k d => gateOf_at x4 n k d) (fun n k d => branchOf_at x5 n k d) (fun k d => ?_)
      (fun k => ?_) (fun k => ?_) (Fin.ext h1.symm)
    · pointwise; blk_ext
    · intro k; unfold outs; simp only [Matrix.cons_val]; pointwise; blk_ext
    · intro k; unfold outs; simp only [Matrix.cons_val]; pointwise; blk_ext
    · intro k; unfold outs; simp only [Matrix.cons_val]; pointwise; blk_ext
    · pointwise
    · pointwise
    · pointwise

/-- A branch output reaches the grid as it is. -/
theorem V_arg1 (c : Dev nD) (r : Fin 16384) (k : Fin 512) : V m c main_arg1 (ix2 r k) = (m ((c.tc : Thread nD τ).loc main_arg1) : FVec Ideal S16384x512 .bf16) (ix2 r k) := by
  unfold V
  simp only [hostOps0, hostOps0_1, hostOps0_2, hostOps0_3, hostOps0_4, hostOps0_5, hostOps0_6, List.flatten_cons, List.flatten_nil, List.append_nil, List.cons_append, List.nil_append]
  after_results_simp

/-- A branch output reaches the grid as it is. -/
theorem V_arg2 (c : Dev nD) (r : Fin 16384) (k : Fin 512) : V m c main_arg2 (ix2 r k) = (m ((c.tc : Thread nD τ).loc main_arg2) : FVec Ideal S16384x512 .bf16) (ix2 r k) := by
  unfold V
  simp only [hostOps0, hostOps0_1, hostOps0_2, hostOps0_3, hostOps0_4, hostOps0_5, hostOps0_6, List.flatten_cons, List.flatten_nil, List.append_nil, List.cons_append, List.nil_append]
  after_results_simp

/-- A branch output reaches the grid as it is. -/
theorem V_arg3 (c : Dev nD) (r : Fin 16384) (k : Fin 512) : V m c main_arg3 (ix2 r k) = (m ((c.tc : Thread nD τ).loc main_arg3) : FVec Ideal S16384x512 .bf16) (ix2 r k) := by
  unfold V
  simp only [hostOps0, hostOps0_1, hostOps0_2, hostOps0_3, hostOps0_4, hostOps0_5, hostOps0_6, List.flatten_cons, List.flatten_nil, List.append_nil, List.cons_append, List.nil_append]
  after_results_simp

/-- The rows of the layer input, in one list. -/
theorem V_v0 (c : Dev nD) (r : Fin 16384) (k : Fin 1024) : V m c main_v0 (ix2 r k) = (m ((c.tc : Thread nD τ).loc main_arg0) : FVec Ideal S4x4096x1024 .f32) (ix3 ⟨r / 4096, by omega⟩ ⟨r % 4096, by omega⟩ k) := by
  unfold V
  simp only [hostOps0, hostOps0_1, hostOps0_2, hostOps0_3, hostOps0_4, hostOps0_5, hostOps0_6, List.flatten_cons, List.flatten_nil, List.append_nil, List.cons_append, List.nil_append]
  after_results_simp
  pointwise

/-- The gate columns of the input weights. -/
theorem V_v19 (c : Dev nD) (l : Fin 2) (k : Fin 1024) (q : Fin 3072) : V m c main_v19 (ix3 l k q) = (m ((c.tc : Thread nD τ).loc main_arg4) : FVec Ideal S2x1024x8504 .f32) (ix3 l k ⟨5432 + q, by omega⟩) := by
  unfold V
  simp only [hostOps0, hostOps0_1, hostOps0_2, hostOps0_3, hostOps0_4, hostOps0_5, hostOps0_6, List.flatten_cons, List.flatten_nil, List.append_nil, List.cons_append, List.nil_append]
  after_results_simp
  pointwise

/-- The branch weights. -/
theorem V_v20 (c : Dev nD) (l : Fin 2) (n : Fin 3) (k : Fin 512) (d : Fin 1024) : V m c main_v20 (ix4 l n k d) = (m ((c.tc : Thread nD τ).loc main_arg5) : FVec Ideal S2x3x512x1024 .f32) (ix4 l n k d) := by
  unfold V
  simp only [hostOps0, hostOps0_1, hostOps0_2, hostOps0_3, hostOps0_4, hostOps0_5, hostOps0_6, List.flatten_cons, List.flatten_nil, List.append_nil, List.cons_append, List.nil_append]
  after_results_simp
  pointwise

/-- The output weights. -/
theorem V_v21 (c : Dev nD) (l : Fin 2) (k d : Fin 1024) : V m c main_v21 (ix3 l k d) = (m ((c.tc : Thread nD τ).loc main_arg6) : FVec Ideal S2x1024x1024 .f32) (ix3 l k d) := by
  unfold V
  simp only [hostOps0, hostOps0_1, hostOps0_2, hostOps0_3, hostOps0_4, hostOps0_5, hostOps0_6, List.flatten_cons, List.flatten_nil, List.append_nil, List.cons_append, List.nil_append]
  after_results_simp
  pointwise

/-- A normalisation row, one axis more. -/
theorem V_v22 (c : Dev nD) (l : Fin 2) (s : Fin 4) (o : Fin 1) (k : Fin 1024) : V m c main_v22 (ix4 l s o k) = (m ((c.tc : Thread nD τ).loc main_arg7) : FVec Ideal S2x4x1024 .f32) (ix3 l s k) := by
  unfold V
  simp only [hostOps0, hostOps0_1, hostOps0_2, hostOps0_3, hostOps0_4, hostOps0_5, hostOps0_6, List.flatten_cons, List.flatten_nil, List.append_nil, List.cons_append, List.nil_append]
  after_results_simp
  pointwise

/-- A normalisation row, one axis more. -/
theorem V_v23 (c : Dev nD) (l : Fin 2) (s : Fin 4) (o : Fin 1) (k : Fin 1024) : V m c main_v23 (ix4 l s o k) = (m ((c.tc : Thread nD τ).loc main_arg8) : FVec Ideal S2x4x1024 .f32) (ix3 l s k) := by
  unfold V
  simp only [hostOps0, hostOps0_1, hostOps0_2, hostOps0_3, hostOps0_4, hostOps0_5, hostOps0_6, List.flatten_cons, List.flatten_nil, List.append_nil, List.cons_append, List.nil_append]
  after_results_simp
  pointwise

set_option maxHeartbeats 1600000 in
/-- What grid point `t` leaves is the reference's result there. -/
theorem point (c : Dev nD) (t : Fin cfg0.N) (y : S1024x1024.Idx) (i : S16384x1024.Idx) (h0 : (i 0 : ℕ) = t.val * 1024 + y 0) (h1 : (i 1 : ℕ) = y 1) :
    out0_9 (F := Ideal) (iblk m c 0 t) (iblk m c 1 t) (iblk m c 2 t) (iblk m c 3 t) (iblk m c 4 t) (iblk m c 5 t) (iblk m c 6 t) (iblk m c 7 t) (iblk m c 8 t) y
      = mergeLn (fun k => m ((c.tc : Thread nD τ).loc main_arg0) (ix3 ⟨i 0 / 4096, by have : (i 0 : ℕ) < 16384 := (i 0).isLt; omega⟩ ⟨i 0 % 4096, by omega⟩ k))
          (fun n k => outs (m ((c.tc : Thread nD τ).loc main_arg1)) (m ((c.tc : Thread nD τ).loc main_arg2)) (m ((c.tc : Thread nD τ).loc main_arg3)) n (ix2 (i 0) k))
          (fun n k d => m ((c.tc : Thread nD τ).loc main_arg4) (ix3 0 k ⟨5432 + (n * 1024 + d), by omega⟩))
          (fun n k d => m ((c.tc : Thread nD τ).loc main_arg5) (ix4 0 n k d))
          (fun k d => m ((c.tc : Thread nD τ).loc main_arg6) (ix3 0 k d))
          (fun k => m ((c.tc : Thread nD τ).loc main_arg7) (ix3 0 1 k)) (fun k => m ((c.tc : Thread nD τ).loc main_arg8) (ix3 0 1 k)) (i 1) := by
  rw [out_at]
  refine mergeLn_congr (fun k => ?_) (all3 (fun k => ?_) (fun k => ?_) (fun k => ?_)) (fun n k d => ?_) (fun n k d => ?_) (fun k d => ?_)
    (fun k => ?_) (fun k => ?_) (Fin.ext h1.symm)
  all_goals try (unfold outs; simp only [Matrix.cons_val])
  all_goals blk_simp [iblk, idx t]
  · exact (congrArg (V m c main_v0) (a₂ := ix2 (i 0) k) (by blk_ext [idx t])).trans (V_v0 m c _ _)
  · exact (congrArg (V m c main_arg1) (a₂ := ix2 (i 0) k) (by blk_ext [idx t])).trans (V_arg1 m c _ _)
  · exact (congrArg (V m c main_arg2) (a₂ := ix2 (i 0) k) (by blk_ext [idx t])).trans (V_arg2 m c _ _)
  · exact (congrArg (V m c main_arg3) (a₂ := ix2 (i 0) k) (by blk_ext [idx t])).trans (V_arg3 m c _ _)
  · exact (congrArg (V m c main_v19) (a₂ := ix3 0 k ⟨n * 1024 + d, by omega⟩) (by blk_ext [idx t])).trans (V_v19 m c _ _ _)
  · exact (congrArg (V m c main_v20) (a₂ := ix4 0 n k d) (by blk_ext [idx t])).trans (V_v20 m c _ _ _ _)
  · exact (congrArg (V m c main_v21) (a₂ := ix3 0 k d) (by blk_ext [idx t])).trans (V_v21 m c _ _ _)
  · exact (congrArg (V m c main_v22) (a₂ := ix4 0 1 0 k) (by blk_ext [idx t])).trans (V_v22 m c _ _ _ _)
  · exact (congrArg (V m c main_v23) (a₂ := ix4 0 1 0 k) (by blk_ext [idx t])).trans (V_v23 m c _ _ _ _)

/-- The result array after the run, in the argument arrays. -/
theorem final (c : Dev nD) (m' : (ℓ : Loc Cert.MergeRefIdeal.nD Cert.MergeRefIdeal.τ Cert.MergeRefIdeal.sig) → Buf (Elt Ideal) ℓ)
    (c' : Dev Cert.MergeRefIdeal.nD)
    (a0 : m' ((c'.tc : Thread Cert.MergeRefIdeal.nD Cert.MergeRefIdeal.τ).loc Cert.MergeRefIdeal.main_arg0) = m ((c.tc : Thread nD τ).loc main_arg0))
    (a1 : m' ((c'.tc : Thread Cert.MergeRefIdeal.nD Cert.MergeRefIdeal.τ).loc Cert.MergeRefIdeal.main_arg1) = m ((c.tc : Thread nD τ).loc main_arg1))
    (a2 : m' ((c'.tc : Thread Cert.MergeRefIdeal.nD Cert.MergeRefIdeal.τ).loc Cert.MergeRefIdeal.main_arg2) = m ((c.tc : Thread nD τ).loc main_arg2))
    (a3 : m' ((c'.tc : Thread Cert.MergeRefIdeal.nD Cert.MergeRefIdeal.τ).loc Cert.MergeRefIdeal.main_arg3) = m ((c.tc : Thread nD τ).loc main_arg3))
    (a4 : m' ((c'.tc : Thread Cert.MergeRefIdeal.nD Cert.MergeRefIdeal.τ).loc Cert.MergeRefIdeal.main_arg4) = m ((c.tc : Thread nD τ).loc main_arg4))
    (a5 : m' ((c'.tc : Thread Cert.MergeRefIdeal.nD Cert.MergeRefIdeal.τ).loc Cert.MergeRefIdeal.main_arg5) = m ((c.tc : Thread nD τ).loc main_arg5))
    (a6 : m' ((c'.tc : Thread Cert.MergeRefIdeal.nD Cert.MergeRefIdeal.τ).loc Cert.MergeRefIdeal.main_arg6) = m ((c.tc : Thread nD τ).loc main_arg6))
    (a7 : m' ((c'.tc : Thread Cert.MergeRefIdeal.nD Cert.MergeRefIdeal.τ).loc Cert.MergeRefIdeal.main_arg7) = m ((c.tc : Thread nD τ).loc main_arg7))
    (a8 : m' ((c'.tc : Thread Cert.MergeRefIdeal.nD Cert.MergeRefIdeal.τ).loc Cert.MergeRefIdeal.main_arg8) = m ((c.tc : Thread nD τ).loc main_arg8)) :
    (dats m 0 c).arrAt 9 (cfgs 0).N = Cert.MergeRefIdeal.Value.res_out0 m' c' := by
  refine (dats m 0 c).arrAt_eq_of_covers 9 _ (by decide +kernel) fun t _ y => ?_
  blk_simp
  rw [after0_9]
  have h0 : ((((cfg0.win 9).blk t).view.emb y) 0 : ℕ) = t.val * 1024 + y 0 := by blk_simp [idx t]
  have h1 : ((((cfg0.win 9).blk t).view.emb y) 1 : ℕ) = y 1 := by blk_simp [idx t]
  refine (point m c t y _ h0 h1).trans ?_
  refine Eq.trans ?_ (Cert.MergeRefIdeal.Value.ref_row m' c' _).symm
  rw [a0, a1, a2, a3, a4, a5, a6, a7, a8]

/-- The merge call and its reference end with equal results. -/
theorem algebraic : Cert.algebraic_MergeIdeal_MergeRefIdeal (hMergeIdeal := Cert.MergeIdeal.Gen.facts) (hMergeRefIdeal := Cert.MergeRefIdeal.Gen.facts) := by
  intro m g m' g' _ ha
  refine ⟨fun c => (dats m 0 c).arrAt 9 cfg0.N, run_blocks m g, ?_⟩
  refine (θ_run _ _ _).mono (fun r h c => ⟨(h c).1.trans ?_, (h c).2⟩) (Cert.MergeRefIdeal.Value.run m' g')
  obtain ⟨a0, a1, a2, a3, a4, a5, a6, a7, a8⟩ := ha c
  exact (final m c m' c a0 a1 a2 a3 a4 a5 a6 a7 a8).symm

end Cert.MergeIdeal.Value

end
-- ==== Proof.PleTile.lean ====
/-
  One row block of the second feed-forward call: what the kernel stores, read entry by entry, is the feed-forward
  sublayer of the row followed by its embedding sublayer (`Cert.Dense.pleLn`).
-/
module

public import proofs.«01_k».proof.Proof.MergeTile
public import proofs.«01_k».proof.Proof.Gen.PleIdeal.Frame

@[expose] public section

set_option maxRecDepth 16384

noncomputable section

open Idealize.ShloMosaic Idealize.ShloMosaic.TcCoe Idealize.SL.Sem

namespace Cert.PleIdeal.Value

open Cert.PleIdeal Cert.PleIdeal.Gen Cert.Dense

/-- An embedding block projected to the model width. -/
def emb (p : FVec Ideal S1x512x256 .f32) (w : FVec Ideal S1x256x1024 .bf16) : FVec Ideal S512x1024 .f32 :=
  matmul dot_S512x256_S256x1024_S512x1024_1_0_0_1_n_n none (truncf .bf16 (shapeCast S512x256 p shapeCasts_S1x512x256_S512x256) bitsLt_bf16_f32)
    (shapeCast S256x1024 w shapeCasts_S1x256x1024_S256x1024) (constant S512x1024 .f32 0x00000000#32)

/-- The embedding sublayer of a row block `y`. -/
def tile (y : FVec Ideal S512x1024 .f32) (p : FVec Ideal S1x512x256 .f32) (wg : FVec Ideal S1x1024x1024 .bf16)
    (wp : FVec Ideal S1x256x1024 .bf16) (g b : FVec Ideal S1x1x1x1024 .f32) : FVec Ideal S512x1024 .f32 :=
  Cert.FfnIdeal.Value.ln (addf (mulf (broadcast S512x1024 (Scalar.ofBits .f32 0x3FB504F3#32)) y)
      (mulf (Cert.MergeIdeal.Value.gate (truncf .bf16 y bitsLt_bf16_f32) wg) (emb p wp)))
    (shapeCast S1x1024 g shapeCasts_S1x1x1x1024_S1x1024) (shapeCast S1x1024 b shapeCasts_S1x1x1x1024_S1x1024)

/-- The row block at an entry is the embedding sublayer of the row. -/
theorem tile_at (y : FVec Ideal S512x1024 .f32) (p : FVec Ideal S1x512x256 .f32) (wg : FVec Ideal S1x1024x1024 .bf16)
    (wp : FVec Ideal S1x256x1024 .bf16) (g b : FVec Ideal S1x1x1x1024 .f32) (r : Fin 512) (j : Fin 1024) :
    tile y p wg wp g b (ix2 r j)
      = pleLn (fun k => y (ix2 r k)) (fun k => p (ix3 0 r k)) (fun k d => wg (ix3 0 k d)) (fun k d => wp (ix3 0 k d))
          (fun k => g (ix4 0 0 0 k)) (fun k => b (ix4 0 0 0 k)) j := by
  unfold tile pleLn
  refine (Cert.FfnIdeal.Value.ln_at _ _ _ r j).trans (lnRow_congr (fun k => ?_) (by pointwise) (by pointwise))
  pointwise [Cert.MergeIdeal.Value.gate, emb]
  simp only [zero_add, tanh_gate]

end Cert.PleIdeal.Value

end
-- ==== Proof.PleRef.lean ====
/-
  The second feed-forward call's reference, with the per-layer embedding,, read row by row.
-/
module

public import proofs.«01_k».proof.Proof.MergeRef
public import proofs.«01_k».proof.Proof.Gen.PleRefIdeal.Run

@[expose] public section

set_option maxRecDepth 16384

noncomputable section

open Idealize.ShloMosaic Idealize.ShloMosaic.TcCoe Idealize.SL.Sem
open Idealize.ShloMosaic.Pipeline (Dat)

namespace Cert.PleRefIdeal.Value

open Cert.PleRefIdeal Cert.PleRefIdeal.Gen Cert.Dense
open Cert.MergeRefIdeal.Value (refLn refLn_at)

/-- The reference's hidden pre-activations. -/
def refUp (x0 : FVec Ideal S4x4096x1024 .f32) (x4 : FVec Ideal S2x2x1024x2816 .f32) : FVec Ideal S4x4096x2816 .f32 :=
  Host.dotGeneral dot_S4x4096x1024_S1024x2816_S4x4096x2816_2_0_01_1_n_n none x0 (shapeCast _ (extractStridedSlice S1x1x1024x2816 ![1, 1, 0, 0] x4 slices_S2x2x1024x2816_S1x1x1024x2816_1_1_0_0) shapeCasts_S1x1x1024x2816_S1024x2816)

/-- The reference's sum of scaled residual and feed-forward output, `h` the pre-activations. -/
def refPre (x0 : FVec Ideal S4x4096x1024 .f32) (h : FVec Ideal S4x4096x2816 .f32) (x5 : FVec Ideal S2x2x1024x2816 .f32)
    (x6 : FVec Ideal S2x2x2816x1024 .f32) : FVec Ideal S4x4096x1024 .f32 :=
  addf (mulf (broadcastInDim S4x4096x1024 ![] bcast_S_S4x4096x1024 (constant S_ .f32 0x3FB504F3#32)) x0) (mulf (broadcastInDim S4x4096x1024 ![] bcast_S_S4x4096x1024 (constant S_ .f32 0x3F000000#32)) (Host.dotGeneral dot_S4x4096x2816_S2816x1024_S4x4096x1024_2_0_01_1_n_n none (mulf (mulf h (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf h))))) (Host.dotGeneral dot_S4x4096x1024_S1024x2816_S4x4096x2816_2_0_01_1_n_n none x0 (shapeCast _ (extractStridedSlice S1x1x1024x2816 ![1, 1, 0, 0] x5 slices_S2x2x1024x2816_S1x1x1024x2816_1_1_0_0) shapeCasts_S1x1x1024x2816_S1024x2816))) (shapeCast _ (extractStridedSlice S1x1x2816x1024 ![1, 1, 0, 0] x6 slices_S2x2x2816x1024_S1x1x2816x1024_1_1_0_0) shapeCasts_S1x1x2816x1024_S2816x1024)))

/-- The reference's sum of scaled residual and gated embedding. -/
def refPle (y : FVec Ideal S4x4096x1024 .f32) (x1 : FVec Ideal S2x4x4096x256 .f32) (x7 : FVec Ideal S2x1024x1024 .f32)
    (x8 : FVec Ideal S2x256x1024 .f32) : FVec Ideal S4x4096x1024 .f32 :=
  addf (mulf (broadcastInDim S4x4096x1024 ![] bcast_S_S4x4096x1024 (constant S_ .f32 0x3FB504F3#32)) y) (mulf (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (Host.dotGeneral dot_S4x4096x1024_S1024x1024_S4x4096x1024_2_0_01_1_n_n none y (shapeCast _ (extractStridedSlice S1x1024x1024 ![1, 0, 0] x7 slices_S2x1024x1024_S1x1024x1024_1_0_0) shapeCasts_S1x1024x1024_S1024x1024)))))) (Host.dotGeneral dot_S4x4096x256_S256x1024_S4x4096x1024_2_0_01_1_n_n none (shapeCast _ (extractStridedSlice S1x4x4096x256 ![1, 0, 0, 0] x1 slices_S2x4x4096x256_S1x4x4096x256_1_0_0_0) shapeCasts_S1x4x4096x256_S4x4096x256) (shapeCast _ (extractStridedSlice S1x256x1024 ![1, 0, 0] x8 slices_S2x256x1024_S1x256x1024_1_0_0) shapeCasts_S1x256x1024_S256x1024)))

theorem refPre_at (x0 : FVec Ideal S4x4096x1024 .f32) (x4 x5 : FVec Ideal S2x2x1024x2816 .f32)
    (x6 : FVec Ideal S2x2x2816x1024 .f32) (n : Fin 4) (t : Fin 4096) (j : Fin 1024) :
    refPre x0 (refUp x0 x4) x5 x6 (ix3 n t j) = Ideal.ofBits .f32 0x3FB504F3#32 * x0 (ix3 n t j)
      + half * ffnRow (fun k => x0 (ix3 n t k)) (fun k f => x4 (ix4 1 1 k f)) (fun k f => x5 (ix4 1 1 k f)) (fun f k => x6 (ix4 1 1 f k)) j := by
  pointwise [refPre, refUp, ffnRow, hid]

theorem refPle_at (y : FVec Ideal S4x4096x1024 .f32) (x1 : FVec Ideal S2x4x4096x256 .f32) (x7 : FVec Ideal S2x1024x1024 .f32)
    (x8 : FVec Ideal S2x256x1024 .f32) (n : Fin 4) (t : Fin 4096) (j : Fin 1024) :
    refPle y x1 x7 x8 (ix3 n t j) = Ideal.ofBits .f32 0x3FB504F3#32 * y (ix3 n t j)
      + sg (∑ k, y (ix3 n t k) * x7 (ix3 1 k j)) * ∑ k, x1 (ix4 1 n t k) * x8 (ix3 1 k j) := by
  pointwise [refPle]

/-- The whole reference from its parts. -/
def refAll (x0 : FVec Ideal S4x4096x1024 .f32) (x1 : FVec Ideal S2x4x4096x256 .f32) (x2 x3 : FVec Ideal S2x4x1024 .f32)
    (x4 x5 : FVec Ideal S2x2x1024x2816 .f32) (x6 : FVec Ideal S2x2x2816x1024 .f32) (x7 : FVec Ideal S2x1024x1024 .f32)
    (x8 : FVec Ideal S2x256x1024 .f32) : FVec Ideal S16384x1024 .f32 :=
  shapeCast _ (refLn (refPle (refLn (refPre x0 (refUp x0 x4) x5 x6) (shapeCast _ (extractStridedSlice S1x1x1024 ![1, 2, 0] x2 slices_S2x4x1024_S1x1x1024_1_2_0) shapeCasts_S1x1x1024_S1024) (shapeCast _ (extractStridedSlice S1x1x1024 ![1, 2, 0] x3 slices_S2x4x1024_S1x1x1024_1_2_0) shapeCasts_S1x1x1024_S1024)) x1 x7 x8)
    (shapeCast _ (extractStridedSlice S1x1x1024 ![1, 3, 0] x2 slices_S2x4x1024_S1x1x1024_1_3_0) shapeCasts_S1x1x1024_S1024) (shapeCast _ (extractStridedSlice S1x1x1024 ![1, 3, 0] x3 slices_S2x4x1024_S1x1x1024_1_3_0) shapeCasts_S1x1x1024_S1024)) shapeCasts_S4x4096x1024_S16384x1024

/-- The reference's result. -/
abbrev res_out0 (m : (ℓ : Loc nD τ sig) → Buf (Elt Ideal) ℓ) (c : Dev nD) : FVec Ideal S16384x1024 .f32 :=
  refAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- The reference at row `r`, column `j`: the embedding sublayer of the feed-forward sublayer of row `r`. -/
theorem ref_at (m : (ℓ : Loc nD τ sig) → Buf (Elt Ideal) ℓ) (c : Dev nD) (r : Fin 16384) (j : Fin 1024) :
    res_out0 m c (ix2 r j)
      = pleLn (ffnLn (fun k => m ((c.tc : Thread nD τ).loc main_arg0) (ix3 ⟨r / 4096, by omega⟩ ⟨r % 4096, by omega⟩ k))
            (fun k f => m ((c.tc : Thread nD τ).loc main_arg4) (ix4 1 1 k f)) (fun k f => m ((c.tc : Thread nD τ).loc main_arg5) (ix4 1 1 k f)) (fun f k => m ((c.tc : Thread nD τ).loc main_arg6) (ix4 1 1 f k))
            (fun k => m ((c.tc : Thread nD τ).loc main_arg2) (ix3 1 2 k)) (fun k => m ((c.tc : Thread nD τ).loc main_arg3) (ix3 1 2 k)))
          (fun k => m ((c.tc : Thread nD τ).loc main_arg1) (ix4 1 ⟨r / 4096, by omega⟩ ⟨r % 4096, by omega⟩ k))
          (fun k d => m ((c.tc : Thread nD τ).loc main_arg7) (ix3 1 k d)) (fun k d => m ((c.tc : Thread nD τ).loc main_arg8) (ix3 1 k d))
          (fun k => m ((c.tc : Thread nD τ).loc main_arg2) (ix3 1 3 k)) (fun k => m ((c.tc : Thread nD τ).loc main_arg3) (ix3 1 3 k)) j := by
  unfold res_out0 refAll
  pointwise
  refine (refLn_at _ _ _ _ _ _).trans ?_
  unfold pleLn
  refine lnRow_congr (fun d => ?_) (by pointwise) (by pointwise)
  refine (refPle_at _ _ _ _ _ _ _).trans ?_
  have hy : ∀ k, refLn (refPre (m ((c.tc : Thread nD τ).loc main_arg0)) (refUp (m ((c.tc : Thread nD τ).loc main_arg0)) (m ((c.tc : Thread nD τ).loc main_arg4))) (m ((c.tc : Thread nD τ).loc main_arg5)) (m ((c.tc : Thread nD τ).loc main_arg6))) (shapeCast _ (extractStridedSlice S1x1x1024 ![1, 2, 0] (m ((c.tc : Thread nD τ).loc main_arg2)) slices_S2x4x1024_S1x1x1024_1_2_0) shapeCasts_S1x1x1024_S1024) (shapeCast _ (extractStridedSlice S1x1x1024 ![1, 2, 0] (m ((c.tc : Thread nD τ).loc main_arg3)) slices_S2x4x1024_S1x1x1024_1_2_0) shapeCasts_S1x1x1024_S1024) (ix3 ⟨r / 4096, by omega⟩ ⟨r % 4096, by omega⟩ k)
      = ffnLn (fun k => m ((c.tc : Thread nD τ).loc main_arg0) (ix3 ⟨r / 4096, by omega⟩ ⟨r % 4096, by omega⟩ k))
            (fun k f => m ((c.tc : Thread nD τ).loc main_arg4) (ix4 1 1 k f)) (fun k f => m ((c.tc : Thread nD τ).loc main_arg5) (ix4 1 1 k f)) (fun f k => m ((c.tc : Thread nD τ).loc main_arg6) (ix4 1 1 f k))
            (fun k => m ((c.tc : Thread nD τ).loc main_arg2) (ix3 1 2 k)) (fun k => m ((c.tc : Thread nD τ).loc main_arg3) (ix3 1 2 k)) k := by
    intro k
    refine (refLn_at _ _ _ _ _ _).trans ?_
    unfold ffnLn
    exact lnRow_congr (fun d => refPre_at _ _ _ _ _ _ _) (by pointwise) (by pointwise)
  exact congrArg₂ (· + ·) (congrArg₂ (· * ·) rfl (hy d)) (congrArg₂ (· * ·) (congrArg sg (Finset.sum_congr rfl fun k _ => congrArg₂ (· * ·) (hy k) rfl)) rfl)

/-- The same at any index. -/
theorem ref_row (m : (ℓ : Loc nD τ sig) → Buf (Elt Ideal) ℓ) (c : Dev nD) (i : S16384x1024.Idx) :
    res_out0 m c i
      = pleLn (ffnLn (fun k => m ((c.tc : Thread nD τ).loc main_arg0) (ix3 ⟨i 0 / 4096, by have : (i 0 : ℕ) < 16384 := (i 0).isLt; omega⟩ ⟨i 0 % 4096, by omega⟩ k))
            (fun k f => m ((c.tc : Thread nD τ).loc main_arg4) (ix4 1 1 k f)) (fun k f => m ((c.tc : Thread nD τ).loc main_arg5) (ix4 1 1 k f)) (fun f k => m ((c.tc : Thread nD τ).loc main_arg6) (ix4 1 1 f k))
            (fun k => m ((c.tc : Thread nD τ).loc main_arg2) (ix3 1 2 k)) (fun k => m ((c.tc : Thread nD τ).loc main_arg3) (ix3 1 2 k)))
          (fun k => m ((c.tc : Thread nD τ).loc main_arg1) (ix4 1 ⟨i 0 / 4096, by have : (i 0 : ℕ) < 16384 := (i 0).isLt; omega⟩ ⟨i 0 % 4096, by omega⟩ k))
          (fun k d => m ((c.tc : Thread nD τ).loc main_arg7) (ix3 1 k d)) (fun k d => m ((c.tc : Thread nD τ).loc main_arg8) (ix3 1 k d))
          (fun k => m ((c.tc : Thread nD τ).loc main_arg2) (ix3 1 3 k)) (fun k => m ((c.tc : Thread nD τ).loc main_arg3) (ix3 1 3 k)) (i 1) :=
  (congrArg _ (eq_ix2 i)).trans (ref_at m c (i 0) (i 1))

end Cert.PleRefIdeal.Value

end
-- ==== Proof.PleValue.lean ====
/-
  The second feed-forward call, with the per-layer embedding: the result array after the run is the reference's array.
-/
module

public import proofs.«01_k».proof.Proof.PleTile
public import proofs.«01_k».proof.Proof.Gen.PleIdeal.Value
public import proofs.«01_k».proof.Proof.PleRef
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.PleIdeal.Value

open Cert.PleIdeal Cert.PleIdeal.Gen Cert.Dense

variable (m : (ℓ : Loc nD τ sig) → Buf (Elt Ideal) ℓ)

/-- Where each window stands at grid point `t`: row block `t` of the activations, of the layer's embeddings and of the
    result, the layer's own block of every weight. -/
theorem idx : ∀ t : Fin cfg0.N, win0_0.index t = ![t.val, 0] ∧ win0_1.index t = ![1, t.val, 0] ∧ win0_2.index t = ![1, 1, 0, 0] ∧ win0_3.index t = ![1, 1, 0, 0]
    ∧ win0_4.index t = ![1, 1, 0, 0] ∧ win0_5.index t = ![1, 2, 0, 0] ∧ win0_6.index t = ![1, 2, 0, 0] ∧ win0_7.index t = ![1, 0, 0]
    ∧ win0_8.index t = ![1, 0, 0] ∧ win0_9.index t = ![1, 3, 0, 0] ∧ win0_10.index t = ![1, 3, 0, 0] ∧ win0_11.index t = ![t.val, 0] :=
  (by decide +kernel : ∀ t : Fin grid0.N, _)

/-- The eleven column slices of an up-projection weight. -/
def colsOf (X : FVec Ideal S1x1x1024x2816 .bf16) : Fin 11 → FVec Ideal S1x1x1024x256 .bf16 :=
  ![View.ld (Val := Elt Ideal) (e' := .bf16) X r0_5, View.ld (Val := Elt Ideal) (e' := .bf16) X r0_7, View.ld (Val := Elt Ideal) (e' := .bf16) X r0_9, View.ld (Val := Elt Ideal) (e' := .bf16) X r0_11, View.ld (Val := Elt Ideal) (e' := .bf16) X r0_13, View.ld (Val := Elt Ideal) (e' := .bf16) X r0_15, View.ld (Val := Elt Ideal) (e' := .bf16) X r0_17, View.ld (Val := Elt Ideal) (e' := .bf16) X r0_19, View.ld (Val := Elt Ideal) (e' := .bf16) X r0_21, View.ld (Val := Elt Ideal) (e' := .bf16) X r0_23, View.ld (Val := Elt Ideal) (e' := .bf16) X r0_25]

/-- The eleven row slices of the down-projection weight. -/
def rowsOf (X : FVec Ideal S1x1x2816x1024 .bf16) : Fin 11 → FVec Ideal S1x1x256x1024 .bf16 :=
  ![View.ld (Val := Elt Ideal) (e' := .bf16) X r0_6, View.ld (Val := Elt Ideal) (e' := .bf16) X r0_8, View.ld (Val := Elt Ideal) (e' := .bf16) X r0_10, View.ld (Val := Elt Ideal) (e' := .bf16) X r0_12, View.ld (Val := Elt Ideal) (e' := .bf16) X r0_14, View.ld (Val := Elt Ideal) (e' := .bf16) X r0_16, View.ld (Val := Elt Ideal) (e' := .bf16) X r0_18, View.ld (Val := Elt Ideal) (e' := .bf16) X r0_20, View.ld (Val := Elt Ideal) (e' := .bf16) X r0_22, View.ld (Val := Elt Ideal) (e' := .bf16) X r0_24, View.ld (Val := Elt Ideal) (e' := .bf16) X r0_26]

set_option maxHeartbeats 1600000 in
/-- Slice `c` holds columns `256 c` to `256 c + 255`. -/
theorem cols (X : FVec Ideal S1x1x1024x2816 .bf16) : ∀ (c : Fin 11) (k : Fin 1024) (f : Fin 256),
    colsOf X c (ix4 0 0 k f) = X (ix4 0 0 k ⟨c * 256 + f, by omega⟩) := by
  refine all11 ?_ ?_ ?_ ?_ ?_ ?_ ?_ ?_ ?_ ?_ ?_ <;> (intro k f; unfold colsOf; simp only [Matrix.cons_val]; pointwise; blk_ext)

set_option maxHeartbeats 1600000 in
/-- Slice `c` holds rows `256 c` to `256 c + 255`. -/
theorem rows (X : FVec Ideal S1x1x2816x1024 .bf16) : ∀ (c : Fin 11) (f : Fin 256) (k : Fin 1024),
    rowsOf X c (ix4 0 0 f k) = X (ix4 0 0 ⟨c * 256 + f, by omega⟩ k) := by
  refine all11 ?_ ?_ ?_ ?_ ?_ ?_ ?_ ?_ ?_ ?_ ?_ <;> (intro k f; unfold rowsOf; simp only [Matrix.cons_val]; pointwise; blk_ext)

/-- The first half of the rows after the feed-forward sublayer. -/
theorem first (x0 : FVec Ideal S1024x1024 .f32) (x1 : FVec Ideal S1x1024x256 .f32) (x2 x3 : FVec Ideal S1x1x1024x2816 .bf16)
    (x4 : FVec Ideal S1x1x2816x1024 .bf16) (x5 x6 : FVec Ideal S1x1x1x1024 .f32) (x7 : FVec Ideal S1x1024x1024 .bf16)
    (x8 : FVec Ideal S1x256x1024 .bf16) (x9 x10 : FVec Ideal S1x1x1x1024 .f32) :
    k0_pay62 (F := Ideal) x0 x1 x2 x3 x4 x5 x6 x7 x8 x9 x10 = Cert.FfnIdeal.Value.tile (View.ld (Val := Elt Ideal) (e' := .f32) x0 r0_3) (View.ld (Val := Elt Ideal) (e' := .f32) x5 r0_4) (View.ld (Val := Elt Ideal) (e' := .f32) x6 r0_4) (colsOf x2) (colsOf x3) (rowsOf x4) := by
  unfold Cert.FfnIdeal.Value.tile colsOf rowsOf Cert.FfnIdeal.Value.chunk
  simp only [Matrix.cons_val]
  unfold k0_pay62 k0_pay59 k0_pay60 k0_pay61 k0_pay57 k0_pay58 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26
  rfl

/-- The second half of the rows after the feed-forward sublayer. -/
theorem second (x0 : FVec Ideal S1024x1024 .f32) (x1 : FVec Ideal S1x1024x256 .f32) (x2 x3 : FVec Ideal S1x1x1024x2816 .bf16)
    (x4 : FVec Ideal S1x1x2816x1024 .bf16) (x5 x6 : FVec Ideal S1x1x1x1024 .f32) (x7 : FVec Ideal S1x1024x1024 .bf16)
    (x8 : FVec Ideal S1x256x1024 .bf16) (x9 x10 : FVec Ideal S1x1x1x1024 .f32) :
    k0_pay64 (F := Ideal) x0 x1 x2 x3 x4 x5 x6 x7 x8 x9 x10 = Cert.FfnIdeal.Value.tile (View.ld (Val := Elt Ideal) (e' := .f32) x0 r0_27) (View.ld (Val := Elt Ideal) (e' := .f32) x5 r0_4) (View.ld (Val := Elt Ideal) (e' := .f32) x6 r0_4) (colsOf x2) (colsOf x3) (rowsOf x4) := by
  unfold Cert.FfnIdeal.Value.tile colsOf rowsOf Cert.FfnIdeal.Value.chunk
  simp only [Matrix.cons_val]
  unfold k0_pay64 k0_pay63 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47
  rfl

set_option maxHeartbeats 3200000 in
/-- What the body leaves in the result block, entry by entry. -/
theorem out_at (x0 : FVec Ideal S1024x1024 .f32) (x1 : FVec Ideal S1x1024x256 .f32) (x2 x3 : FVec Ideal S1x1x1024x2816 .bf16)
    (x4 : FVec Ideal S1x1x2816x1024 .bf16) (x5 x6 : FVec Ideal S1x1x1x1024 .f32) (x7 : FVec Ideal S1x1024x1024 .bf16)
    (x8 : FVec Ideal S1x256x1024 .bf16) (x9 x10 : FVec Ideal S1x1x1x1024 .f32) (y : S1024x1024.Idx) :
    out0_11 (F := Ideal) x0 x1 x2 x3 x4 x5 x6 x7 x8 x9 x10 y
      = pleLn (ffnLn (fun k => x0 (ix2 (y 0) k)) (fun k f => x2 (ix4 0 0 k f)) (fun k f => x3 (ix4 0 0 k f)) (fun f k => x4 (ix4 0 0 f k)) (fun k => x5 (ix4 0 0 0 k)) (fun k => x6 (ix4 0 0 0 k))) (fun k => x1 (ix3 0 (y 0) k)) (fun k d => x7 (ix3 0 k d)) (fun k d => x8 (ix3 0 k d))
          (fun k => x9 (ix4 0 0 0 k)) (fun k => x10 (ix4 0 0 0 k)) (y 1) := by
  unfold_out out0_11
  canon_tiles x h
  · refine Eq.trans (b := tile (Cert.FfnIdeal.Value.tile (View.ld (Val := Elt Ideal) (e' := .f32) x0 r0_27) (View.ld (Val := Elt Ideal) (e' := .f32) x5 r0_4) (View.ld (Val := Elt Ideal) (e' := .f32) x6 r0_4) (colsOf x2) (colsOf x3) (rowsOf x4)) (View.ld (Val := Elt Ideal) (e' := .f32) x1 r0_2) (View.ld (Val := Elt Ideal) (e' := .bf16) x7 r0_28) (View.ld (Val := Elt Ideal) (e' := .bf16) x8 r0_1) (View.ld (Val := Elt Ideal) (e' := .f32) x9 r0_4) (View.ld (Val := Elt Ideal) (e' := .f32) x10 r0_4) x) (congrFun ?_ x) ?_
    · have e := second x0 x1 x2 x3 x4 x5 x6 x7 x8 x9 x10
      unfold k0_pay64 k0_pay63 at e
      rw [e]
      clear e
      generalize Cert.FfnIdeal.Value.tile (View.ld (Val := Elt Ideal) (e' := .f32) x0 r0_27) (View.ld (Val := Elt Ideal) (e' := .f32) x5 r0_4) (View.ld (Val := Elt Ideal) (e' := .f32) x6 r0_4) (colsOf x2) (colsOf x3) (rowsOf x4) = z
      unfold tile emb
      unfold k0_pay1 k0_pay3 k0_pay49 k0_pay54 k0_pay55 k0_pay56
      rfl
    refine (congrArg _ (eq_ix2 x)).trans ((tile_at _ _ _ _ _ _ _ _).trans ?_)
    refine pleLn_congr (fun k => ?_) (fun k => ?_) (fun k d => ?_) (fun k d => ?_) (fun k => ?_) (fun k => ?_) (Fin.ext h1.symm)
    · refine (Cert.FfnIdeal.Value.tile_at _ _ _ _ _ _ (fun k f => x2 (ix4 0 0 k f)) (fun k f => x3 (ix4 0 0 k f))
        (fun f k => x4 (ix4 0 0 f k)) (cols x2) (cols x3) (rows x4) _ _).trans ?_
      refine ffnLn_congr (fun k => ?_) (fun _ _ => rfl) (fun _ _ => rfl) (fun _ _ => rfl) (fun k => ?_) (fun k => ?_) rfl
      · pointwise; blk_ext
      · pointwise
      · pointwise
    · pointwise; blk_ext
    · pointwise
    · pointwise
    · pointwise
    · pointwise
  · refine Eq.trans (b := tile (Cert.FfnIdeal.Value.tile (View.ld (Val := Elt Ideal) (e' := .f32) x0 r0_3) (View.ld (Val := Elt Ideal) (e' := .f32) x5 r0_4) (View.ld (Val := Elt Ideal) (e' := .f32) x6 r0_4) (colsOf x2) (colsOf x3) (rowsOf x4)) (View.ld (Val := Elt Ideal) (e' := .f32) x1 r0_0) (View.ld (Val := Elt Ideal) (e' := .bf16) x7 r0_28) (View.ld (Val := Elt Ideal) (e' := .bf16) x8 r0_1) (View.ld (Val := Elt Ideal) (e' := .f32) x9 r0_4) (View.ld (Val := Elt Ideal) (e' := .f32) x10 r0_4) x) (congrFun ?_ x) ?_
    · have e := first x0 x1 x2 x3 x4 x5 x6 x7 x8 x9 x10
      unfold k0_pay62 k0_pay59 k0_pay60 k0_pay61 k0_pay57 k0_pay58 at e
      rw [e]
      clear e
      generalize Cert.FfnIdeal.Value.tile (View.ld (Val := Elt Ideal) (e' := .f32) x0 r0_3) (View.ld (Val := Elt Ideal) (e' := .f32) x5 r0_4) (View.ld (Val := Elt Ideal) (e' := .f32) x6 r0_4) (colsOf x2) (colsOf x3) (rowsOf x4) = z
      unfold tile emb
      unfold k0_pay2 k0_pay48 k0_pay50 k0_pay51 k0_pay52 k0_pay53
      rfl
    refine (congrArg _ (eq_ix2 x)).trans ((tile_at _ _ _ _ _ _ _ _).trans ?_)
    refine pleLn_congr (fun k => ?_) (fun k => ?_) (fun k d => ?_) (fun k d => ?_) (fun k => ?_) (fun k => ?_) (Fin.ext h1.symm)
    · refine (Cert.FfnIdeal.Value.tile_at _ _ _ _ _ _ (fun k f => x2 (ix4 0 0 k f)) (fun k f => x3 (ix4 0 0 k f))
        (fun f k => x4 (ix4 0 0 f k)) (cols x2) (cols x3) (rows x4) _ _).trans ?_
      refine ffnLn_congr (fun k => ?_) (fun _ _ => rfl) (fun _ _ => rfl) (fun _ _ => rfl) (fun k => ?_) (fun k => ?_) rfl
      · pointwise; blk_ext
      · pointwise
      · pointwise
    · pointwise; blk_ext
    · pointwise
    · pointwise
    · pointwise
    · pointwise

/-- The rows of the activations, in one list. -/
theorem V_v0 (c : Dev nD) (r : Fin 16384) (k : Fin 1024) : V m c main_v0 (ix2 r k) = (m ((c.tc : Thread nD τ).loc main_arg0) : FVec Ideal S4x4096x1024 .f32) (ix3 ⟨r / 4096, by omega⟩ ⟨r % 4096, by omega⟩ k) := by
  unfold V
  simp only [hostOps0, List.flatten_cons, List.flatten_nil, List.append_nil, List.cons_append, List.nil_append]
  after_results_simp
  pointwise

/-- The rows of the embeddings, in one list. -/
theorem V_v1 (c : Dev nD) (l : Fin 2) (r : Fin 16384) (k : Fin 256) : V m c main_v1 (ix3 l r k) = (m ((c.tc : Thread nD τ).loc main_arg1) : FVec Ideal S2x4x4096x256 .f32) (ix4 l ⟨r / 4096, by omega⟩ ⟨r % 4096, by omega⟩ k) := by
  unfold V
  simp only [hostOps0, List.flatten_cons, List.flatten_nil, List.append_nil, List.cons_append, List.nil_append]
  after_results_simp
  pointwise

/-- An up-projection weight. -/
theorem V_v2 (c : Dev nD) (l s : Fin 2) (k : Fin 1024) (f : Fin 2816) : V m c main_v2 (ix4 l s k f) = (m ((c.tc : Thread nD τ).loc main_arg4) : FVec Ideal S2x2x1024x2816 .f32) (ix4 l s k f) := by
  unfold V
  simp only [hostOps0, List.flatten_cons, List.flatten_nil, List.append_nil, List.cons_append, List.nil_append]
  after_results_simp
  pointwise

/-- An up-projection weight. -/
theorem V_v3 (c : Dev nD) (l s : Fin 2) (k : Fin 1024) (f : Fin 2816) : V m c main_v3 (ix4 l s k f) = (m ((c.tc : Thread nD τ).loc main_arg5) : FVec Ideal S2x2x1024x2816 .f32) (ix4 l s k f) := by
  unfold V
  simp only [hostOps0, List.flatten_cons, List.flatten_nil, List.append_nil, List.cons_append, List.nil_append]
  after_results_simp
  pointwise

/-- The down-projection weight. -/
theorem V_v4 (c : Dev nD) (l s : Fin 2) (f : Fin 2816) (k : Fin 1024) : V m c main_v4 (ix4 l s f k) = (m ((c.tc : Thread nD τ).loc main_arg6) : FVec Ideal S2x2x2816x1024 .f32) (ix4 l s f k) := by
  unfold V
  simp only [hostOps0, List.flatten_cons, List.flatten_nil, List.append_nil, List.cons_append, List.nil_append]
  after_results_simp
  pointwise

/-- The gate weights. -/
theorem V_v5 (c : Dev nD) (l : Fin 2) (k d : Fin 1024) : V m c main_v5 (ix3 l k d) = (m ((c.tc : Thread nD τ).loc main_arg7) : FVec Ideal S2x1024x1024 .f32) (ix3 l k d) := by
  unfold V
  simp only [hostOps0, List.flatten_cons, List.flatten_nil, List.append_nil, List.cons_append, List.nil_append]
  after_results_simp
  pointwise

/-- The embedding projection. -/
theorem V_v6 (c : Dev nD) (l : Fin 2) (k : Fin 256) (d : Fin 1024) : V m c main_v6 (ix3 l k d) = (m ((c.tc : Thread nD τ).loc main_arg8) : FVec Ideal S2x256x1024 .f32) (ix3 l k d) := by
  unfold V
  simp only [hostOps0, List.flatten_cons, List.flatten_nil, List.append_nil, List.cons_append, List.nil_append]
  after_results_simp
  pointwise

/-- A normalisation row, one axis more. -/
theorem V_v7 (c : Dev nD) (l : Fin 2) (s : Fin 4) (o : Fin 1) (k : Fin 1024) : V m c main_v7 (ix4 l s o k) = (m ((c.tc : Thread nD τ).loc main_arg2) : FVec Ideal S2x4x1024 .f32) (ix3 l s k) := by
  unfold V
  simp only [hostOps0, List.flatten_cons, List.flatten_nil, List.append_nil, List.cons_append, List.nil_append]
  after_results_simp
  pointwise

/-- A normalisation row, one axis more. -/
theorem V_v8 (c : Dev nD) (l : Fin 2) (s : Fin 4) (o : Fin 1) (k : Fin 1024) : V m c main_v8 (ix4 l s o k) = (m ((c.tc : Thread nD τ).loc main_arg3) : FVec Ideal S2x4x1024 .f32) (ix3 l s k) := by
  unfold V
  simp only [hostOps0, List.flatten_cons, List.flatten_nil, List.append_nil, List.cons_append, List.nil_append]
  after_results_simp
  pointwise

set_option maxHeartbeats 3200000 in
/-- What grid point `t` leaves is the reference's result there. -/
theorem point (c : Dev nD) (t : Fin cfg0.N) (y : S1024x1024.Idx) (i : S16384x1024.Idx) (h0 : (i 0 : ℕ) = t.val * 1024 + y 0) (h1 : (i 1 : ℕ) = y 1) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = pleLn (ffnLn (fun k => m ((c.tc : Thread nD τ).loc main_arg0) (ix3 ⟨i 0 / 4096, by have : (i 0 : ℕ) < 16384 := (i 0).isLt; omega⟩ ⟨i 0 % 4096, by omega⟩ k))
            (fun k f => m ((c.tc : Thread nD τ).loc main_arg4) (ix4 1 1 k f)) (fun k f => m ((c.tc : Thread nD τ).loc main_arg5) (ix4 1 1 k f)) (fun f k => m ((c.tc : Thread nD τ).loc main_arg6) (ix4 1 1 f k))
            (fun k => m ((c.tc : Thread nD τ).loc main_arg2) (ix3 1 2 k)) (fun k => m ((c.tc : Thread nD τ).loc main_arg3) (ix3 1 2 k)))
          (fun k => m ((c.tc : Thread nD τ).loc main_arg1) (ix4 1 ⟨i 0 / 4096, by have : (i 0 : ℕ) < 16384 := (i 0).isLt; omega⟩ ⟨i 0 % 4096, by omega⟩ k))
          (fun k d => m ((c.tc : Thread nD τ).loc main_arg7) (ix3 1 k d)) (fun k d => m ((c.tc : Thread nD τ).loc main_arg8) (ix3 1 k d))
          (fun k => m ((c.tc : Thread nD τ).loc main_arg2) (ix3 1 3 k)) (fun k => m ((c.tc : Thread nD τ).loc main_arg3) (ix3 1 3 k)) (i 1) := by
  rw [out_at]
  refine pleLn_congr (fun k => ffnLn_congr (fun k => ?_) (fun k f => ?_) (fun k f => ?_) (fun f k => ?_) (fun k => ?_) (fun k => ?_) rfl)
    (fun k => ?_) (fun k d => ?_) (fun k d => ?_) (fun k => ?_) (fun k => ?_) (Fin.ext h1.symm)
  all_goals blk_simp [iblk, idx t]
  · exact (congrArg (V m c main_v0) (a₂ := ix2 (i 0) k) (by blk_ext [idx t])).trans (V_v0 m c _ _)
  · exact (congrArg (V m c main_v2) (a₂ := ix4 1 1 k f) (by blk_ext [idx t])).trans (V_v2 m c _ _ _ _)
  · exact (congrArg (V m c main_v3) (a₂ := ix4 1 1 k f) (by blk_ext [idx t])).trans (V_v3 m c _ _ _ _)
  · exact (congrArg (V m c main_v4) (a₂ := ix4 1 1 f k) (by blk_ext [idx t])).trans (V_v4 m c _ _ _ _)
  · exact (congrArg (V m c main_v7) (a₂ := ix4 1 2 0 k) (by blk_ext [idx t])).trans (V_v7 m c _ _ _ _)
  · exact (congrArg (V m c main_v8) (a₂ := ix4 1 2 0 k) (by blk_ext [idx t])).trans (V_v8 m c _ _ _ _)
  · exact (congrArg (V m c main_v1) (a₂ := ix3 1 (i 0) k) (by blk_ext [idx t])).trans (V_v1 m c _ _ _)
  · exact (congrArg (V m c main_v5) (a₂ := ix3 1 k d) (by blk_ext [idx t])).trans (V_v5 m c _ _ _)
  · exact (congrArg (V m c main_v6) (a₂ := ix3 1 k d) (by blk_ext [idx t])).trans (V_v6 m c _ _ _)
  · exact (congrArg (V m c main_v7) (a₂ := ix4 1 3 0 k) (by blk_ext [idx t])).trans (V_v7 m c _ _ _ _)
  · exact (congrArg (V m c main_v8) (a₂ := ix4 1 3 0 k) (by blk_ext [idx t])).trans (V_v8 m c _ _ _ _)

/-- The result array after the run, in the argument arrays. -/
theorem final (c : Dev nD) (m' : (ℓ : Loc Cert.PleRefIdeal.nD Cert.PleRefIdeal.τ Cert.PleRefIdeal.sig) → Buf (Elt Ideal) ℓ)
    (c' : Dev Cert.PleRefIdeal.nD)
    (a0 : m' ((c'.tc : Thread Cert.PleRefIdeal.nD Cert.PleRefIdeal.τ).loc Cert.PleRefIdeal.main_arg0) = m ((c.tc : Thread nD τ).loc main_arg0))
    (a1 : m' ((c'.tc : Thread Cert.PleRefIdeal.nD Cert.PleRefIdeal.τ).loc Cert.PleRefIdeal.main_arg1) = m ((c.tc : Thread nD τ).loc main_arg1))
    (a2 : m' ((c'.tc : Thread Cert.PleRefIdeal.nD Cert.PleRefIdeal.τ).loc Cert.PleRefIdeal.main_arg2) = m ((c.tc : Thread nD τ).loc main_arg2))
    (a3 : m' ((c'.tc : Thread Cert.PleRefIdeal.nD Cert.PleRefIdeal.τ).loc Cert.PleRefIdeal.main_arg3) = m ((c.tc : Thread nD τ).loc main_arg3))
    (a4 : m' ((c'.tc : Thread Cert.PleRefIdeal.nD Cert.PleRefIdeal.τ).loc Cert.PleRefIdeal.main_arg4) = m ((c.tc : Thread nD τ).loc main_arg4))
    (a5 : m' ((c'.tc : Thread Cert.PleRefIdeal.nD Cert.PleRefIdeal.τ).loc Cert.PleRefIdeal.main_arg5) = m ((c.tc : Thread nD τ).loc main_arg5))
    (a6 : m' ((c'.tc : Thread Cert.PleRefIdeal.nD Cert.PleRefIdeal.τ).loc Cert.PleRefIdeal.main_arg6) = m ((c.tc : Thread nD τ).loc main_arg6))
    (a7 : m' ((c'.tc : Thread Cert.PleRefIdeal.nD Cert.PleRefIdeal.τ).loc Cert.PleRefIdeal.main_arg7) = m ((c.tc : Thread nD τ).loc main_arg7))
    (a8 : m' ((c'.tc : Thread Cert.PleRefIdeal.nD Cert.PleRefIdeal.τ).loc Cert.PleRefIdeal.main_arg8) = m ((c.tc : Thread nD τ).loc main_arg8)) :
    (dats m 0 c).arrAt 11 (cfgs 0).N = Cert.PleRefIdeal.Value.res_out0 m' c' := by
  refine (dats m 0 c).arrAt_eq_of_covers 11 _ (by decide +kernel) fun t _ y => ?_
  blk_simp
  rw [after0_11]
  have h0 : ((((cfg0.win 11).blk t).view.emb y) 0 : ℕ) = t.val * 1024 + y 0 := by blk_simp [idx t]
  have h1 : ((((cfg0.win 11).blk t).view.emb y) 1 : ℕ) = y 1 := by blk_simp [idx t]
  refine (point m c t y _ h0 h1).trans ?_
  refine Eq.trans ?_ (Cert.PleRefIdeal.Value.ref_row m' c' _).symm
  rw [a0, a1, a2, a3, a4, a5, a6, a7, a8]

/-- The second feed-forward call and its reference end with equal results. -/
theorem algebraic : Cert.algebraic_PleIdeal_PleRefIdeal (hPleIdeal := Cert.PleIdeal.Gen.facts) (hPleRefIdeal := Cert.PleRefIdeal.Gen.facts) := by
  intro m g m' g' _ ha
  refine ⟨fun c => (dats m 0 c).arrAt 11 cfg0.N, run_blocks m g, ?_⟩
  refine (θ_run _ _ _).mono (fun r h c => ⟨(h c).1.trans ?_, (h c).2⟩) (Cert.PleRefIdeal.Value.run m' g')
  obtain ⟨a0, a1, a2, a3, a4, a5, a6, a7, a8⟩ := ha c
  exact (final m c m' c a0 a1 a2 a3 a4 a5 a6 a7 a8).symm

end Cert.PleIdeal.Value

end
-- ==== Proof.lean ====
/-
  The claims of this certificate, assembled: the frames from the generated runs, the equalities with the references
  from `Proof/GlaValue.lean`, `Proof/FfnValue.lean`, `Proof/MergeValue.lean` and `Proof/PleValue.lean`.
-/
module

public import proofs.«01_k».proof.Defs
public import proofs.«01_k».proof.Proof.Gen.Kernel.Frame
public import proofs.«01_k».proof.Proof.Gen.KernelIdeal.Value
public import proofs.«01_k».proof.Proof.Gen.Ffn.Frame
public import proofs.«01_k».proof.Proof.Gen.Merge.Frame
public import proofs.«01_k».proof.Proof.Gen.Ple.Frame
public import proofs.«01_k».proof.Proof.GlaRefFrame
public import Idealize.ShloMosaic.Adequacy
public import Idealize.ShloMosaic.Init
public import proofs.«01_k».proof.Proof.GlaValue
public import proofs.«01_k».proof.Proof.FfnValue
public import proofs.«01_k».proof.Proof.MergeValue
public import proofs.«01_k».proof.Proof.PleValue

@[expose] public section

noncomputable section

namespace Cert.Proof

open Idealize.ShloMosaic Idealize.SL.Sem

/-- `ReferenceIdeal` terminates, leaves its arguments unchanged and declares no semaphore. -/
theorem frame_ReferenceIdeal : Cert.quiescent_ReferenceIdeal (hReferenceIdeal := Cert.ReferenceIdeal.Gen.facts) := fun m ρ _ =>
  (θ_run Cert.ReferenceIdeal.defs _ _).mono
    (fun r h => ⟨fun c => ⟨(h c _ rfl).trans (Cert.ReferenceIdeal.Value.final_keeps m c _ (by decide +kernel)),
      (h c _ rfl).trans (Cert.ReferenceIdeal.Value.final_keeps m c _ (by decide +kernel)),
      (h c _ rfl).trans (Cert.ReferenceIdeal.Value.final_keeps m c _ (by decide +kernel)),
      (h c _ rfl).trans (Cert.ReferenceIdeal.Value.final_keeps m c _ (by decide +kernel)),
      (h c _ rfl).trans (Cert.ReferenceIdeal.Value.final_keeps m c _ (by decide +kernel))⟩,
      Idealize.ShloMosaic.sem_eq_zero_of_no_sems (by decide) r.2⟩)
    (Cert.ReferenceIdeal.Value.run_fold (F := Ideal) m ρ)

/-- `FfnRefIdeal` terminates, leaves its arguments unchanged and declares no semaphore. -/
theorem frame_FfnRefIdeal : Cert.quiescent_FfnRefIdeal (hFfnRefIdeal := Cert.FfnRefIdeal.Gen.facts) := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

/-- `MergeRefIdeal` terminates, leaves its arguments unchanged and declares no semaphore. -/
theorem frame_MergeRefIdeal : Cert.quiescent_MergeRefIdeal (hMergeRefIdeal := Cert.MergeRefIdeal.Gen.facts) := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)

/-- `PleRefIdeal` terminates, leaves its arguments unchanged and declares no semaphore. -/
theorem frame_PleRefIdeal : Cert.quiescent_PleRefIdeal (hPleRefIdeal := Cert.PleRefIdeal.Gen.facts) := fun m ρ _ =>
  (θ_run Cert.PleRefIdeal.defs _ _).mono (fun r h => ⟨fun c => (h c).2, Idealize.ShloMosaic.sem_eq_zero_of_no_sems (by decide) r.2⟩)
    (Cert.PleRefIdeal.Value.run (F := Ideal) m ρ)

/-- Every claim of the certificate. -/
theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.Ple.Gen.facts, Cert.PleIdeal.Gen.facts, Cert.PleRefIdeal.Gen.facts, Cert.Pre_finite.facts,
  fun m ρ _ => Cert.Kernel.Gen.frame m ρ,
  fun m ρ _ => Cert.KernelIdeal.Gen.frame m ρ,
  fun m ρ _ => Cert.KernelIdeal.Gen.frame m ρ,
  frame_ReferenceIdeal,
  fun m ρ _ => frame_ReferenceIdeal m ρ trivial,
  fun m ρ _ => Cert.Ffn.Gen.frame m ρ,
  fun m ρ _ => Cert.FfnIdeal.Gen.frame m ρ,
  frame_FfnRefIdeal,
  fun m ρ _ => Cert.Merge.Gen.frame m ρ,
  fun m ρ _ => Cert.MergeIdeal.Gen.frame m ρ,
  frame_MergeRefIdeal,
  fun m ρ _ => Cert.Ple.Gen.frame m ρ,
  fun m ρ _ => Cert.PleIdeal.Gen.frame m ρ,
  frame_PleRefIdeal,
  trivial,
  Cert.KernelIdeal.Value.Gla.algebraic,
  trivial,
  Cert.FfnIdeal.Value.algebraic,
  trivial,
  Cert.MergeIdeal.Value.algebraic,
  trivial,
  Cert.PleIdeal.Value.algebraic⟩

end Cert.Proof

end
